-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routed [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite [hPre_finite : Cert.Pre_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7)) (m ((c.tc : Thread Cert.Kernel3Ideal.nD Cert.Kernel3Ideal.τ).loc Cert.Kernel3Ideal.main_arg8)) (m ((c.tc : Thread Cert.Kernel3Ideal.nD Cert.Kernel3Ideal.τ).loc Cert.Kernel3Ideal.main_arg9)) (m ((c.tc : Thread Cert.Kernel3Ideal.nD Cert.Kernel3Ideal.τ).loc Cert.Kernel3Ideal.main_arg10)) (m ((c.tc : Thread Cert.Kernel3Ideal.nD Cert.Kernel3Ideal.τ).loc Cert.Kernel3Ideal.main_arg11)) (m ((c.tc : Thread Cert.Kernel3Ideal.nD Cert.Kernel3Ideal.τ).loc Cert.Kernel3Ideal.main_arg12)) (m ((c.tc : Thread Cert.Kernel3Ideal.nD Cert.Kernel3Ideal.τ).loc Cert.Kernel3Ideal.main_arg13)) (m ((c.tc : Thread Cert.Kernel3Ideal.nD Cert.Kernel3Ideal.τ).loc Cert.Kernel3Ideal.main_arg14)) (m ((c.tc : Thread Cert.Kernel3Ideal.nD Cert.Kernel3Ideal.τ).loc Cert.Kernel3Ideal.main_arg15)) (m ((c.tc : Thread Cert.Kernel3Ideal.nD Cert.Kernel3Ideal.τ).loc Cert.Kernel3Ideal.main_arg16)) (m ((c.tc : Thread Cert.Kernel3Ideal.nD Cert.Kernel3Ideal.τ).loc Cert.Kernel3Ideal.main_arg17)) (m ((c.tc : Thread Cert.Kernel3Ideal.nD Cert.Kernel3Ideal.τ).loc Cert.Kernel3Ideal.main_arg18)) (m ((c.tc : Thread Cert.Kernel3Ideal.nD Cert.Kernel3Ideal.τ).loc Cert.Kernel3Ideal.main_arg19))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite [hPre_finite : Cert.Pre_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7)) (m ((c.tc : Thread Cert.Reference3Ideal.nD Cert.Reference3Ideal.τ).loc Cert.Reference3Ideal.main_arg8)) (m ((c.tc : Thread Cert.Reference3Ideal.nD Cert.Reference3Ideal.τ).loc Cert.Reference3Ideal.main_arg9)) (m ((c.tc : Thread Cert.Reference3Ideal.nD Cert.Reference3Ideal.τ).loc Cert.Reference3Ideal.main_arg10)) (m ((c.tc : Thread Cert.Reference3Ideal.nD Cert.Reference3Ideal.τ).loc Cert.Reference3Ideal.main_arg11)) (m ((c.tc : Thread Cert.Reference3Ideal.nD Cert.Reference3Ideal.τ).loc Cert.Reference3Ideal.main_arg12)) (m ((c.tc : Thread Cert.Reference3Ideal.nD Cert.Reference3Ideal.τ).loc Cert.Reference3Ideal.main_arg13)) (m ((c.tc : Thread Cert.Reference3Ideal.nD Cert.Reference3Ideal.τ).loc Cert.Reference3Ideal.main_arg14)) (m ((c.tc : Thread Cert.Reference3Ideal.nD Cert.Reference3Ideal.τ).loc Cert.Reference3Ideal.main_arg15)) (m ((c.tc : Thread Cert.Reference3Ideal.nD Cert.Reference3Ideal.τ).loc Cert.Reference3Ideal.main_arg16)) (m ((c.tc : Thread Cert.Reference3Ideal.nD Cert.Reference3Ideal.τ).loc Cert.Reference3Ideal.main_arg17)) (m ((c.tc : Thread Cert.Reference3Ideal.nD Cert.Reference3Ideal.τ).loc Cert.Reference3Ideal.main_arg18)) (m ((c.tc : Thread Cert.Reference3Ideal.nD Cert.Reference3Ideal.τ).loc Cert.Reference3Ideal.main_arg19))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_routed [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routed m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15)
      ∧ r.2.mem ((c.tc : Thread Cert.Kernel3.nD Cert.Kernel3.τ).loc Cert.Kernel3.main_arg16) = m ((c.tc : Thread Cert.Kernel3.nD Cert.Kernel3.τ).loc Cert.Kernel3.main_arg16)
      ∧ r.2.mem ((c.tc : Thread Cert.Kernel3.nD Cert.Kernel3.τ).loc Cert.Kernel3.main_arg17) = m ((c.tc : Thread Cert.Kernel3.nD Cert.Kernel3.τ).loc Cert.Kernel3.main_arg17)
      ∧ r.2.mem ((c.tc : Thread Cert.Kernel3.nD Cert.Kernel3.τ).loc Cert.Kernel3.main_arg18) = m ((c.tc : Thread Cert.Kernel3.nD Cert.Kernel3.τ).loc Cert.Kernel3.main_arg18)
      ∧ r.2.mem ((c.tc : Thread Cert.Kernel3.nD Cert.Kernel3.τ).loc Cert.Kernel3.main_arg19) = m ((c.tc : Thread Cert.Kernel3.nD Cert.Kernel3.τ).loc Cert.Kernel3.main_arg19))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ r.2.sem = fun _ => 0)

def quiescent_Kernel3Ideal_pre_finite [hKernel3Ideal : Cert.Kernel3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
      ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
      ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
      ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
      ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19))
      ∧ r.2.sem = fun _ => 0)

def quiescent_Reference3Ideal_pre_finite [hReference3Ideal : Cert.Reference3Ideal.Facts] [hPre_finite : Cert.Pre_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15)
      ∧ r.2.mem ((c.tc : Thread Cert.Reference3Ideal.nD Cert.Reference3Ideal.τ).loc Cert.Reference3Ideal.main_arg16) = m ((c.tc : Thread Cert.Reference3Ideal.nD Cert.Reference3Ideal.τ).loc Cert.Reference3Ideal.main_arg16)
      ∧ r.2.mem ((c.tc : Thread Cert.Reference3Ideal.nD Cert.Reference3Ideal.τ).loc Cert.Reference3Ideal.main_arg17) = m ((c.tc : Thread Cert.Reference3Ideal.nD Cert.Reference3Ideal.τ).loc Cert.Reference3Ideal.main_arg17)
      ∧ r.2.mem ((c.tc : Thread Cert.Reference3Ideal.nD Cert.Reference3Ideal.τ).loc Cert.Reference3Ideal.main_arg18) = m ((c.tc : Thread Cert.Reference3Ideal.nD Cert.Reference3Ideal.τ).loc Cert.Reference3Ideal.main_arg18)
      ∧ r.2.mem ((c.tc : Thread Cert.Reference3Ideal.nD Cert.Reference3Ideal.τ).loc Cert.Reference3Ideal.main_arg19) = m ((c.tc : Thread Cert.Reference3Ideal.nD Cert.Reference3Ideal.τ).loc Cert.Reference3Ideal.main_arg19))
      ∧ r.2.sem = fun _ => 0)

def preserves_Kernel_KernelIdeal : Prop :=
  True

def algebraic_KernelIdeal_ReferenceIdeal_pre_routed [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routed m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)) (v2 : (c : Dev Cert.Kernel2Ideal.nD) → Buf (Elt Ideal) ((c.tc : Thread Cert.Kernel2Ideal.nD Cert.Kernel2Ideal.τ).loc Cert.Kernel2Ideal.main_v10_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_v10_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v34) = v0 c
          ∧ r.2.mem ((c.tc : Thread Cert.Reference2Ideal.nD Cert.Reference2Ideal.τ).loc Cert.Reference2Ideal.main_v36) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite [hKernel3Ideal : Cert.Kernel3Ideal.Facts] [hReference3Ideal : Cert.Reference3Ideal.Facts] [hPre_finite : Cert.Pre_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)
      ∧ m' ((c.tc : Thread Cert.Reference3Ideal.nD Cert.Reference3Ideal.τ).loc Cert.Reference3Ideal.main_arg16) = m ((c.tc : Thread Cert.Kernel3Ideal.nD Cert.Kernel3Ideal.τ).loc Cert.Kernel3Ideal.main_arg16)
      ∧ m' ((c.tc : Thread Cert.Reference3Ideal.nD Cert.Reference3Ideal.τ).loc Cert.Reference3Ideal.main_arg17) = m ((c.tc : Thread Cert.Kernel3Ideal.nD Cert.Kernel3Ideal.τ).loc Cert.Kernel3Ideal.main_arg17)
      ∧ m' ((c.tc : Thread Cert.Reference3Ideal.nD Cert.Reference3Ideal.τ).loc Cert.Reference3Ideal.main_arg18) = m ((c.tc : Thread Cert.Kernel3Ideal.nD Cert.Kernel3Ideal.τ).loc Cert.Kernel3Ideal.main_arg18)
      ∧ m' ((c.tc : Thread Cert.Reference3Ideal.nD Cert.Reference3Ideal.τ).loc Cert.Reference3Ideal.main_arg19) = m ((c.tc : Thread Cert.Kernel3Ideal.nD Cert.Kernel3Ideal.τ).loc Cert.Kernel3Ideal.main_arg19)) →
    ∃ (v0 : (c : Dev Cert.Kernel3Ideal.nD) → Buf (Elt Ideal) ((c.tc : Thread Cert.Kernel3Ideal.nD Cert.Kernel3Ideal.τ).loc Cert.Kernel3Ideal.main_v26_0)) (v1 : (c : Dev Cert.Kernel3Ideal.nD) → Buf (Elt Ideal) ((c.tc : Thread Cert.Kernel3Ideal.nD Cert.Kernel3Ideal.τ).loc Cert.Kernel3Ideal.main_v26_1)) (v2 : (c : Dev Cert.Kernel3Ideal.nD) → Buf (Elt Ideal) ((c.tc : Thread Cert.Kernel3Ideal.nD Cert.Kernel3Ideal.τ).loc Cert.Kernel3Ideal.main_v26_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v26_0) = v0 c
          ∧ r.2.mem ((c.tc : Thread Cert.Kernel3Ideal.nD Cert.Kernel3Ideal.τ).loc Cert.Kernel3Ideal.main_v26_1) = v1 c
          ∧ r.2.mem ((c.tc : Thread Cert.Kernel3Ideal.nD Cert.Kernel3Ideal.τ).loc Cert.Kernel3Ideal.main_v26_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15)
          ∧ r.2.mem ((c.tc : Thread Cert.Kernel3Ideal.nD Cert.Kernel3Ideal.τ).loc Cert.Kernel3Ideal.main_arg16) = m ((c.tc : Thread Cert.Kernel3Ideal.nD Cert.Kernel3Ideal.τ).loc Cert.Kernel3Ideal.main_arg16)
          ∧ r.2.mem ((c.tc : Thread Cert.Kernel3Ideal.nD Cert.Kernel3Ideal.τ).loc Cert.Kernel3Ideal.main_arg17) = m ((c.tc : Thread Cert.Kernel3Ideal.nD Cert.Kernel3Ideal.τ).loc Cert.Kernel3Ideal.main_arg17)
          ∧ r.2.mem ((c.tc : Thread Cert.Kernel3Ideal.nD Cert.Kernel3Ideal.τ).loc Cert.Kernel3Ideal.main_arg18) = m ((c.tc : Thread Cert.Kernel3Ideal.nD Cert.Kernel3Ideal.τ).loc Cert.Kernel3Ideal.main_arg18)
          ∧ r.2.mem ((c.tc : Thread Cert.Kernel3Ideal.nD Cert.Kernel3Ideal.τ).loc Cert.Kernel3Ideal.main_arg19) = m ((c.tc : Thread Cert.Kernel3Ideal.nD Cert.Kernel3Ideal.τ).loc Cert.Kernel3Ideal.main_arg19))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v69) = v0 c
          ∧ r.2.mem ((c.tc : Thread Cert.Reference3Ideal.nD Cert.Reference3Ideal.τ).loc Cert.Reference3Ideal.main_v104) = v1 c
          ∧ r.2.mem ((c.tc : Thread Cert.Reference3Ideal.nD Cert.Reference3Ideal.τ).loc Cert.Reference3Ideal.main_v105) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15)
          ∧ r.2.mem ((c.tc : Thread Cert.Reference3Ideal.nD Cert.Reference3Ideal.τ).loc Cert.Reference3Ideal.main_arg16) = m' ((c.tc : Thread Cert.Reference3Ideal.nD Cert.Reference3Ideal.τ).loc Cert.Reference3Ideal.main_arg16)
          ∧ r.2.mem ((c.tc : Thread Cert.Reference3Ideal.nD Cert.Reference3Ideal.τ).loc Cert.Reference3Ideal.main_arg17) = m' ((c.tc : Thread Cert.Reference3Ideal.nD Cert.Reference3Ideal.τ).loc Cert.Reference3Ideal.main_arg17)
          ∧ r.2.mem ((c.tc : Thread Cert.Reference3Ideal.nD Cert.Reference3Ideal.τ).loc Cert.Reference3Ideal.main_arg18) = m' ((c.tc : Thread Cert.Reference3Ideal.nD Cert.Reference3Ideal.τ).loc Cert.Reference3Ideal.main_arg18)
          ∧ r.2.mem ((c.tc : Thread Cert.Reference3Ideal.nD Cert.Reference3Ideal.τ).loc Cert.Reference3Ideal.main_arg19) = m' ((c.tc : Thread Cert.Reference3Ideal.nD Cert.Reference3Ideal.τ).loc Cert.Reference3Ideal.main_arg19))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_routed : Cert.Pre_routed.Facts) (hPre_finite : Cert.Pre_finite.Facts),
    quiescent_Kernel (hKernel := hKernel)
    ∧ quiescent_KernelIdeal (hKernelIdeal := hKernelIdeal)
    ∧ quiescent_KernelIdeal_pre_routed (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite (hKernel3Ideal := hKernel3Ideal) (hPre_finite := hPre_finite)
    ∧ quiescent_Reference3Ideal (hReference3Ideal := hReference3Ideal)
    ∧ quiescent_Reference3Ideal_pre_finite (hReference3Ideal := hReference3Ideal) (hPre_finite := hPre_finite)
    ∧ preserves_Kernel_KernelIdeal
    ∧ algebraic_KernelIdeal_ReferenceIdeal_pre_routed (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite (hKernel3Ideal := hKernel3Ideal) (hReference3Ideal := hReference3Ideal) (hPre_finite := hPre_finite)
-- ==== Pre_finite.lean ====
abbrev S16384x512 : Shape := ⟨2, ![16384, 512]⟩
abbrev S1x16384x1024 : Shape := ⟨3, ![1, 16384, 1024]⟩
abbrev S256x512 : Shape := ⟨2, ![256, 512]⟩
abbrev S64x512 : Shape := ⟨2, ![64, 512]⟩
abbrev S1x512 : Shape := ⟨2, ![1, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S_ : Shape := ⟨0, ![]⟩

class Facts : Prop where
  bcast_S_S1x1024 : S_.BroadcastsInDim S1x1024 (![] : Fin 0 → Fin S1x1024.rank)
  reducesTo_S1x1024_S_d0_1 : S1x1024.ReducesTo [0, 1] S_
  h_S_ : 0 < S_.numel
  bcast_S_S1x1024x4 : S_.BroadcastsInDim S1x1024x4 (![] : Fin 0 → Fin S1x1024x4.rank)
  reducesTo_S1x1024x4_S_d0_1_2 : S1x1024x4.ReducesTo [0, 1, 2] S_
  bcast_S_S1x1024x16 : S_.BroadcastsInDim S1x1024x16 (![] : Fin 0 → Fin S1x1024x16.rank)
  reducesTo_S1x1024x16_S_d0_1_2 : S1x1024x16.ReducesTo [0, 1, 2] S_

variable [Facts]

def fn_part2 {F : FTy → Type} [FloatOps F] (main_v26 : IVec S_ 1) (main_v32 : IVec S_ 1) : IVec S_ 1 :=
  let main_v33 : IVec S_ 1 := andi main_v26 main_v32
  main_v33

def fn_part1 {F : FTy → Type} [FloatOps F] (main_arg15 : FVec F S1x1024 .f32) (main_arg16 : FVec F S1x1024x4 .f32) (main_arg18 : FVec F S1x1024x16 .f32) (main_v12 : IVec S_ 1) (main_v14 : IVec S1x1024 1) (main_v15 : FVec F S1x1024 .f32) : IVec S_ 1 :=
  let main_v16 : IVec S1x1024 1 := cmpf .olt main_arg15 main_v15
  let main_v17 : IVec S1x1024 1 := andi main_v14 main_v16
  let main_c_6 : IVec S_ 1 := constantI S_ 1 1#1
  let main_v18 : IVec S_ 1 := (fun x v => Host.reduce IntOp.andi x v reducesTo_S1x1024_S_d0_1 h_S_) main_v17 main_c_6
  let main_v19 : IVec S_ 1 := andi main_v12 main_v18
  let main_cst_7 : FVec F S_ .f32 := constant S_ .f32 0xFF800000#32
  let main_v20 : FVec F S1x1024x4 .f32 := broadcastInDim S1x1024x4 ![] bcast_S_S1x1024x4 main_cst_7
  let main_v21 : IVec S1x1024x4 1 := cmpf .ogt main_arg16 main_v20
  let main_cst_8 : FVec F S_ .f32 := constant S_ .f32 0x7F800000#32
  let main_v22 : FVec F S1x1024x4 .f32 := broadcastInDim S1x1024x4 ![] bcast_S_S1x1024x4 main_cst_8
  let main_v23 : IVec S1x1024x4 1 := cmpf .olt main_arg16 main_v22
  let main_v24 : IVec S1x1024x4 1 := andi main_v21 main_v23
  let main_c_9 : IVec S_ 1 := constantI S_ 1 1#1
  let main_v25 : IVec S_ 1 := (fun x v => Host.reduce IntOp.andi x v reducesTo_S1x1024x4_S_d0_1_2 h_S_) main_v24 main_c_9
  let main_v26 : IVec S_ 1 := andi main_v19 main_v25
  let main_cst_10 : FVec F S_ .f32 := constant S_ .f32 0xFF800000#32
  let main_v27 : FVec F S1x1024x16 .f32 := broadcastInDim S1x1024x16 ![] bcast_S_S1x1024x16 main_cst_10
  let main_v28 : IVec S1x1024x16 1 := cmpf .ogt main_arg18 main_v27
  let main_cst_11 : FVec F S_ .f32 := constant S_ .f32 0x7F800000#32
  let main_v29 : FVec F S1x1024x16 .f32 := broadcastInDim S1x1024x16 ![] bcast_S_S1x1024x16 main_cst_11
  let main_v30 : IVec S1x1024x16 1 := cmpf .olt main_arg18 main_v29
  let main_v31 : IVec S1x1024x16 1 := andi main_v28 main_v30
  let main_c_12 : IVec S_ 1 := constantI S_ 1 1#1
  let main_v32 : IVec S_ 1 := (fun x v => Host.reduce IntOp.andi x v reducesTo_S1x1024x16_S_d0_1_2 h_S_) main_v31 main_c_12
  fn_part2 (F := F) main_v26 main_v32

def fn {F : FTy → Type} [FloatOps F] (main_arg0 : FVec F S16384x512 .bf16) (main_arg1 : FVec F S16384x512 .bf16) (main_arg2 : FVec F S16384x512 .bf16) (main_arg3 : FVec F S16384x512 .bf16) (main_arg4 : FVec F S16384x512 .bf16) (main_arg5 : FVec F S1x16384x1024 .f32) (main_arg6 : FVec F S256x512 .f32) (main_arg7 : FVec F S64x512 .f32) (main_arg8 : FVec F S1x512 .f32) (main_arg9 : FVec F S1x512 .f32) (main_arg10 : FVec F S1x1024x1024 .f32) (main_arg11 : FVec F S1x1024 .f32) (main_arg12 : FVec F S1x1024 .f32) (main_arg13 : FVec F S1x1024 .f32) (main_arg14 : FVec F S1x1024 .f32) (main_arg15 : FVec F S1x1024 .f32) (main_arg16 : FVec F S1x1024x4 .f32) (main_arg17 : FVec F S1x4 .f32) (main_arg18 : FVec F S1x1024x16 .f32) (main_arg19 : FVec F S1x16 .f32) : IVec S_ 1 :=
  let main_cst : FVec F S_ .f32 := constant S_ .f32 0xFF800000#32
  let main_v0 : FVec F S1x1024 .f32 := broadcastInDim S1x1024 ![] bcast_S_S1x1024 main_cst
  let main_v1 : IVec S1x1024 1 := cmpf .ogt main_arg13 main_v0
  let main_cst_0 : FVec F S_ .f32 := constant S_ .f32 0x7F800000#32
  let main_v2 : FVec F S1x1024 .f32 := broadcastInDim S1x1024 ![] bcast_S_S1x1024 main_cst_0
  let main_v3 : IVec S1x1024 1 := cmpf .olt main_arg13 main_v2
  let main_v4 : IVec S1x1024 1 := andi main_v1 main_v3
  let main_c : IVec S_ 1 := constantI S_ 1 1#1
  let main_v5 : IVec S_ 1 := (fun x v => Host.reduce IntOp.andi x v reducesTo_S1x1024_S_d0_1 h_S_) main_v4 main_c
  let main_cst_1 : FVec F S_ .f32 := constant S_ .f32 0xFF800000#32
  let main_v6 : FVec F S1x1024 .f32 := broadcastInDim S1x1024 ![] bcast_S_S1x1024 main_cst_1
  let main_v7 : IVec S1x1024 1 := cmpf .ogt main_arg14 main_v6
  let main_cst_2 : FVec F S_ .f32 := constant S_ .f32 0x7F800000#32
  let main_v8 : FVec F S1x1024 .f32 := broadcastInDim S1x1024 ![] bcast_S_S1x1024 main_cst_2
  let main_v9 : IVec S1x1024 1 := cmpf .olt main_arg14 main_v8
  let main_v10 : IVec S1x1024 1 := andi main_v7 main_v9
  let main_c_3 : IVec S_ 1 := constantI S_ 1 1#1
  let main_v11 : IVec S_ 1 := (fun x v => Host.reduce IntOp.andi x v reducesTo_S1x1024_S_d0_1 h_S_) main_v10 main_c_3
  let main_v12 : IVec S_ 1 := andi main_v5 main_v11
  let main_cst_4 : FVec F S_ .f32 := constant S_ .f32 0xFF800000#32
  let main_v13 : FVec F S1x1024 .f32 := broadcastInDim S1x1024 ![] bcast_S_S1x1024 main_cst_4
  let main_v14 : IVec S1x1024 1 := cmpf .ogt main_arg15 main_v13
  let main_cst_5 : FVec F S_ .f32 := constant S_ .f32 0x7F800000#32
  let main_v15 : FVec F S1x1024 .f32 := broadcastInDim S1x1024 ![] bcast_S_S1x1024 main_cst_5
  fn_part1 (F := F) main_arg15 main_arg16 main_arg18 main_v12 main_v14 main_v15
-- ==== Pre_routed.lean ====
abbrev S256 : Shape := ⟨1, ![256]⟩
abbrev S16384x1024 : Shape := ⟨2, ![16384, 1024]⟩
abbrev S16x16384 : Shape := ⟨2, ![16, 16384]⟩
abbrev S16x1024x512 : Shape := ⟨3, ![16, 1024, 512]⟩
abbrev S16x512x1024 : Shape := ⟨3, ![16, 512, 1024]⟩
abbrev S1x1024 : Shape := ⟨2, ![1, 1024]⟩
abbrev S16x16x1024 : Shape := ⟨3, ![16, 16, 1024]⟩
abbrev S16x16 : Shape := ⟨2, ![16, 16]⟩
abbrev S1x1x1x1024 : Shape := ⟨4, ![1, 1, 1, 1024]⟩
abbrev S1x1x1024x1024 : Shape := ⟨4, ![1, 1, 1024, 1024]⟩
abbrev S_ : Shape := ⟨0, ![]⟩
abbrev S16x16x1024x1 : Shape := ⟨4, ![16, 16, 1024, 1]⟩
abbrev S16x16x1024x1024 : Shape := ⟨4, ![16, 16, 1024, 1024]⟩
abbrev S16x16x1 : Shape := ⟨3, ![16, 16, 1]⟩
abbrev S16x16x1x1024 : Shape := ⟨4, ![16, 16, 1, 1024]⟩

class Facts : Prop where
  shapeCasts_S16x16384_S16x16x1024 : S16x16384.ShapeCasts S16x16x1024
  shapeCasts_S256_S16x16 : S256.ShapeCasts S16x16
  transposes_S16x16_S16x16_1_0 : S16x16.Transposes [1, 0] S16x16
  bcast_S_S256 : S_.BroadcastsInDim S256 (![] : Fin 0 → Fin S256.rank)
  reducesTo_S256_S_d0 : S256.ReducesTo [0] S_
  h_S_ : 0 < S_.numel
  bcast_S_S16x16384 : S_.BroadcastsInDim S16x16384 (![] : Fin 0 → Fin S16x16384.rank)
  reducesTo_S16x16384_S_d0_1 : S16x16384.ReducesTo [0, 1] S_
  bcast_S_S16x16x1024 : S_.BroadcastsInDim S16x16x1024 (![] : Fin 0 → Fin S16x16x1024.rank)
  bcast_S16x16x1024_S16x16x1024x1_0_1_2 : S16x16x1024.BroadcastsInDim S16x16x1024x1 (![0, 1, 2] : Fin 3 → Fin S16x16x1024x1.rank)
  bcast_S16x16x1024x1_S16x16x1024x1024_0_1_2_3 : S16x16x1024x1.BroadcastsInDim S16x16x1024x1024 (![0, 1, 2, 3] : Fin 4 → Fin S16x16x1024x1024.rank)
  bcast_S1x1x1x1024_S16x16x1024x1024_0_1_2_3 : S1x1x1x1024.BroadcastsInDim S16x16x1024x1024 (![0, 1, 2, 3] : Fin 4 → Fin S16x16x1024x1024.rank)
  reducesTo_S16x16x1024x1024_S16x16x1024_d3 : S16x16x1024x1024.ReducesTo [3] S16x16x1024
  reducesTo_S16x16x1024_S_d0_1_2 : S16x16x1024.ReducesTo [0, 1, 2] S_
  bcast_S16x16_S16x16x1_0_1 : S16x16.BroadcastsInDim S16x16x1 (![0, 1] : Fin 2 → Fin S16x16x1.rank)
  bcast_S16x16x1_S16x16x1024_0_1_2 : S16x16x1.BroadcastsInDim S16x16x1024 (![0, 1, 2] : Fin 3 → Fin S16x16x1024.rank)
  bcast_S_S16x16x1024x1 : S_.BroadcastsInDim S16x16x1024x1 (![] : Fin 0 → Fin S16x16x1024x1.rank)
  bcast_S1x1x1024x1024_S16x16x1024x1024_0_1_2_3 : S1x1x1024x1024.BroadcastsInDim S16x16x1024x1024 (![0, 1, 2, 3] : Fin 4 → Fin S16x16x1024x1024.rank)
  bcast_S16x16x1024_S16x16x1x1024_0_1_3 : S16x16x1024.BroadcastsInDim S16x16x1x1024 (![0, 1, 3] : Fin 3 → Fin S16x16x1x1024.rank)
  bcast_S16x16x1x1024_S16x16x1024x1024_0_1_2_3 : S16x16x1x1024.BroadcastsInDim S16x16x1024x1024 (![0, 1, 2, 3] : Fin 4 → Fin S16x16x1024x1024.rank)
  reducesTo_S16x16x1024x1024_S_d0_1_2_3 : S16x16x1024x1024.ReducesTo [0, 1, 2, 3] S_

variable [Facts]

def fn_part2 {F : FTy → Type} [FloatOps F] (main_v0 : FVec F S16x16x1024 .f32) (main_v6 : IVec S1x1x1024x1024 32) (main_v7 : IVec S1x1x1024x1024 32) (main_v30 : IVec S_ 1) (main_v36 : IVec S16x16x1024 1) (main_c_8 : IVec S_ 1) : IVec S_ 1 :=
  let main_v37 : IVec S_ 1 := (fun x v => Host.reduce IntOp.andi x v reducesTo_S16x16x1024_S_d0_1_2 h_S_) main_v36 main_c_8
  let main_v38 : IVec S_ 1 := andi main_v30 main_v37
  let main_v39 : FVec F S16x16x1024x1 .f32 := broadcastInDim S16x16x1024x1 ![0, 1, 2] bcast_S16x16x1024_S16x16x1024x1_0_1_2 main_v0
  let main_cst_9 : FVec F S_ .f32 := constant S_ .f32 0x00000000#32
  let main_v40 : FVec F S16x16x1024x1 .f32 := broadcastInDim S16x16x1024x1 ![] bcast_S_S16x16x1024x1 main_cst_9
  let main_v41 : IVec S16x16x1024x1 1 := cmpf .olt main_v39 main_v40
  let main_v42 : IVec S1x1x1024x1024 1 := cmpi .eq main_v6 main_v7
  let main_v43 : IVec S16x16x1024x1024 1 := broadcastInDim S16x16x1024x1024 ![0, 1, 2, 3] bcast_S16x16x1024x1_S16x16x1024x1024_0_1_2_3 main_v41
  let main_v44 : IVec S16x16x1024x1024 1 := broadcastInDim S16x16x1024x1024 ![0, 1, 2, 3] bcast_S1x1x1024x1024_S16x16x1024x1024_0_1_2_3 main_v42
  let main_v45 : IVec S16x16x1024x1024 1 := ori main_v43 main_v44
  let main_v46 : FVec F S16x16x1024x1 .f32 := broadcastInDim S16x16x1024x1 ![0, 1, 2] bcast_S16x16x1024_S16x16x1024x1_0_1_2 main_v0
  let main_v47 : FVec F S16x16x1x1024 .f32 := broadcastInDim S16x16x1x1024 ![0, 1, 3] bcast_S16x16x1024_S16x16x1x1024_0_1_3 main_v0
  let main_v48 : FVec F S16x16x1024x1024 .f32 := broadcastInDim S16x16x1024x1024 ![0, 1, 2, 3] bcast_S16x16x1024x1_S16x16x1024x1024_0_1_2_3 main_v46
  let main_v49 : FVec F S16x16x1024x1024 .f32 := broadcastInDim S16x16x1024x1024 ![0, 1, 2, 3] bcast_S16x16x1x1024_S16x16x1024x1024_0_1_2_3 main_v47
  let main_v50 : IVec S16x16x1024x1024 1 := cmpf .une main_v48 main_v49
  let main_v51 : IVec S16x16x1024x1024 1 := ori main_v45 main_v50
  let main_c_10 : IVec S_ 1 := constantI S_ 1 1#1
  let main_v52 : IVec S_ 1 := (fun x v => Host.reduce IntOp.andi x v reducesTo_S16x16x1024x1024_S_d0_1_2_3 h_S_) main_v51 main_c_10
  let main_v53 : IVec S_ 1 := andi main_v38 main_v52
  main_v53

def fn_part1 {F : FTy → Type} [FloatOps F] (main_v0 : FVec F S16x16x1024 .f32) (main_v3 : FVec F S16x16 .f32) (main_v5 : FVec F S1x1x1x1024 .f32) (main_v6 : IVec S1x1x1024x1024 32) (main_v7 : IVec S1x1x1024x1024 32) (main_v13 : IVec S_ 1) (main_v18 : IVec S16x16384 1) : IVec S_ 1 :=
  let main_c_3 : IVec S_ 1 := constantI S_ 1 1#1
  let main_v19 : IVec S_ 1 := (fun x v => Host.reduce IntOp.andi x v reducesTo_S16x16384_S_d0_1 h_S_) main_v18 main_c_3
  let main_v20 : IVec S_ 1 := andi main_v13 main_v19
  let main_cst_4 : FVec F S_ .f32 := constant S_ .f32 0x00000000#32
  let main_v21 : FVec F S16x16x1024 .f32 := broadcastInDim S16x16x1024 ![] bcast_S_S16x16x1024 main_cst_4
  let main_v22 : IVec S16x16x1024 1 := cmpf .olt main_v0 main_v21
  let main_v23 : FVec F S16x16x1024x1 .f32 := broadcastInDim S16x16x1024x1 ![0, 1, 2] bcast_S16x16x1024_S16x16x1024x1_0_1_2 main_v0
  let main_v24 : FVec F S16x16x1024x1024 .f32 := broadcastInDim S16x16x1024x1024 ![0, 1, 2, 3] bcast_S16x16x1024x1_S16x16x1024x1024_0_1_2_3 main_v23
  let main_v25 : FVec F S16x16x1024x1024 .f32 := broadcastInDim S16x16x1024x1024 ![0, 1, 2, 3] bcast_S1x1x1x1024_S16x16x1024x1024_0_1_2_3 main_v5
  let main_v26 : IVec S16x16x1024x1024 1 := cmpf .oeq main_v24 main_v25
  let main_c_5 : IVec S_ 1 := constantI S_ 1 0#1
  let main_v27 : IVec S16x16x1024 1 := (fun x v => Host.reduce IntOp.ori x v reducesTo_S16x16x1024x1024_S16x16x1024_d3 h_S_) main_v26 main_c_5
  let main_v28 : IVec S16x16x1024 1 := ori main_v22 main_v27
  let main_c_6 : IVec S_ 1 := constantI S_ 1 1#1
  let main_v29 : IVec S_ 1 := (fun x v => Host.reduce IntOp.andi x v reducesTo_S16x16x1024_S_d0_1_2 h_S_) main_v28 main_c_6
  let main_v30 : IVec S_ 1 := andi main_v20 main_v29
  let main_cst_7 : FVec F S_ .f32 := constant S_ .f32 0x00000000#32
  let main_v31 : FVec F S16x16x1024 .f32 := broadcastInDim S16x16x1024 ![] bcast_S_S16x16x1024 main_cst_7
  let main_v32 : IVec S16x16x1024 1 := cmpf .olt main_v0 main_v31
  let main_v33 : FVec F S16x16x1 .f32 := broadcastInDim S16x16x1 ![0, 1] bcast_S16x16_S16x16x1_0_1 main_v3
  let main_v34 : FVec F S16x16x1024 .f32 := broadcastInDim S16x16x1024 ![0, 1, 2] bcast_S16x16x1_S16x16x1024_0_1_2 main_v33
  let main_v35 : IVec S16x16x1024 1 := cmpf .olt main_v0 main_v34
  let main_v36 : IVec S16x16x1024 1 := ori main_v32 main_v35
  let main_c_8 : IVec S_ 1 := constantI S_ 1 1#1
  fn_part2 (F := F) main_v0 main_v6 main_v7 main_v30 main_v36 main_c_8

def fn {F : FTy → Type} [FloatOps F] (main_arg0 : IVec S256 32) (main_arg1 : FVec F S16384x1024 .bf16) (main_arg2 : FVec F S16x16384 .f32) (main_arg3 : FVec F S16x16384 .f32) (main_arg4 : FVec F S16x1024x512 .bf16) (main_arg5 : FVec F S16x1024x512 .bf16) (main_arg6 : FVec F S16x512x1024 .bf16) (main_arg7 : FVec F S16384x1024 .f32) (main_arg8 : FVec F S1x1024 .f32) : IVec S_ 1 :=
  let main_v0 : FVec F S16x16x1024 .f32 := shapeCast S16x16x1024 main_arg2 shapeCasts_S16x16384_S16x16x1024
  let main_v1 : IVec S16x16 32 := shapeCast S16x16 main_arg0 shapeCasts_S256_S16x16
  let main_v2 : IVec S16x16 32 := (transpose S16x16 [1, 0] · transposes_S16x16_S16x16_1_0) main_v1
  let main_v3 : FVec F S16x16 .f32 := sitofp .f32 main_v2
  let main_v4 : IVec S1x1x1x1024 32 := iotaInDim S1x1x1x1024 32 3
  let main_v5 : FVec F S1x1x1x1024 .f32 := sitofp .f32 main_v4
  let main_v6 : IVec S1x1x1024x1024 32 := iotaInDim S1x1x1024x1024 32 2
  let main_v7 : IVec S1x1x1024x1024 32 := iotaInDim S1x1x1024x1024 32 3
  let main_c : IVec S_ 32 := constantI S_ 32 0#32
  let main_v8 : IVec S256 32 := broadcastInDim S256 ![] bcast_S_S256 main_c
  let main_v9 : IVec S256 1 := cmpi .sge main_arg0 main_v8
  let main_c_0 : IVec S_ 32 := constantI S_ 32 1024#32
  let main_v10 : IVec S256 32 := broadcastInDim S256 ![] bcast_S_S256 main_c_0
  let main_v11 : IVec S256 1 := cmpi .sle main_arg0 main_v10
  let main_v12 : IVec S256 1 := andi main_v9 main_v11
  let main_c_1 : IVec S_ 1 := constantI S_ 1 1#1
  let main_v13 : IVec S_ 1 := (fun x v => Host.reduce IntOp.andi x v reducesTo_S256_S_d0 h_S_) main_v12 main_c_1
  let main_cst : FVec F S_ .f32 := constant S_ .f32 0x00000000#32
  let main_v14 : FVec F S16x16384 .f32 := broadcastInDim S16x16384 ![] bcast_S_S16x16384 main_cst
  let main_v15 : IVec S16x16384 1 := cmpf .oge main_arg2 main_v14
  let main_cst_2 : FVec F S_ .f32 := constant S_ .f32 0x00000000#32
  let main_v16 : FVec F S16x16384 .f32 := broadcastInDim S16x16384 ![] bcast_S_S16x16384 main_cst_2
  let main_v17 : IVec S16x16384 1 := cmpf .oeq main_arg3 main_v16
  let main_v18 : IVec S16x16384 1 := ori main_v15 main_v17
  fn_part1 (F := F) main_v0 main_v3 main_v5 main_v6 main_v7 main_v13 main_v18
-- ==== Kernel.lean ====
abbrev S256 : Shape := ⟨1, ![256]⟩
abbrev S16384x1024 : Shape := ⟨2, ![16384, 1024]⟩
abbrev S16x16384 : Shape := ⟨2, ![16, 16384]⟩
abbrev S16x1024x512 : Shape := ⟨3, ![16, 1024, 512]⟩
abbrev S16x512x1024 : Shape := ⟨3, ![16, 512, 1024]⟩
abbrev S1x1024 : Shape := ⟨2, ![1, 1024]⟩
abbrev S2048x1024 : Shape := ⟨2, ![2048, 1024]⟩
abbrev S16x2048 : Shape := ⟨2, ![16, 2048]⟩
abbrev S1x1024x512 : Shape := ⟨3, ![1, 1024, 512]⟩
abbrev S1x512x1024 : Shape := ⟨3, ![1, 512, 1024]⟩
abbrev S1024x512 : Shape := ⟨2, ![1024, 512]⟩
abbrev S512x1024 : Shape := ⟨2, ![512, 1024]⟩
abbrev S1x2048 : Shape := ⟨2, ![1, 2048]⟩
abbrev S256x1024 : Shape := ⟨2, ![256, 1024]⟩
abbrev S1024x1024 : Shape := ⟨2, ![1024, 1024]⟩
abbrev S256x512 : Shape := ⟨2, ![256, 512]⟩
abbrev S1024x256 : Shape := ⟨2, ![1024, 256]⟩
abbrev S1 : Shape := ⟨1, ![1]⟩
abbrev S2048 : Shape := ⟨1, ![2048]⟩
abbrev S2048x1 : Shape := ⟨2, ![2048, 1]⟩

abbrev nBuf : Space → Nat
  | .hbm => 9
  | .vmem => 17
  | .smem => 1
  | _ => 0

abbrev bufTy : (tb : Table) → Fin (tcTables nBuf tb) → BufTy
  | .hbm, ⟨0, _⟩ => ⟨S16384x1024, .bf16⟩
  | .hbm, ⟨1, _⟩ => ⟨S16x16384, .f32⟩
  | .hbm, ⟨2, _⟩ => ⟨S16x16384, .f32⟩
  | .hbm, ⟨3, _⟩ => ⟨S16x1024x512, .bf16⟩
  | .hbm, ⟨4, _⟩ => ⟨S16x1024x512, .bf16⟩
  | .hbm, ⟨5, _⟩ => ⟨S16x512x1024, .bf16⟩
  | .hbm, ⟨6, _⟩ => ⟨S16384x1024, .f32⟩
  | .hbm, ⟨7, _⟩ => ⟨S1x1024, .f32⟩
  | .hbm, ⟨8, _⟩ => ⟨S16384x1024, .f32⟩
  | .local _ .vmem, ⟨0, _⟩ => ⟨S2048x1024, .bf16⟩
  | .local _ .vmem, ⟨1, _⟩ => ⟨S2048x1024, .bf16⟩
  | .local _ .vmem, ⟨2, _⟩ => ⟨S16x2048, .f32⟩
  | .local _ .vmem, ⟨3, _⟩ => ⟨S16x2048, .f32⟩
  | .local _ .vmem, ⟨4, _⟩ => ⟨S16x2048, .f32⟩
  | .local _ .vmem, ⟨5, _⟩ => ⟨S16x2048, .f32⟩
  | .local _ .vmem, ⟨6, _⟩ => ⟨S1x1024x512, .bf16⟩
  | .local _ .vmem, ⟨7, _⟩ => ⟨S1x1024x512, .bf16⟩
  | .local _ .vmem, ⟨8, _⟩ => ⟨S1x1024x512, .bf16⟩
  | .local _ .vmem, ⟨9, _⟩ => ⟨S1x1024x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S2048x1024, .f32⟩
  | .local _ .vmem, ⟨13, _⟩ => ⟨S2048x1024, .f32⟩
  | .local _ .vmem, ⟨14, _⟩ => ⟨S1x1024, .f32⟩
  | .local _ .vmem, ⟨15, _⟩ => ⟨S2048x1024, .f32⟩
  | .local _ .vmem, ⟨16, _⟩ => ⟨S2048x1024, .f32⟩
  | .local _ .smem, ⟨0, _⟩ => ⟨S256, .i32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨2, ![8, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let v9 : Index := Scalar.indexCast arg1
  let c0_9 : Index := 0#32
  ![v9.toNat, 0]
def k0_off2 (i : grid0.Coords) (c0_i32_45 : BitVec 32) : Fin 1 → Nat :=
  let arg0 : BitVec 32 := BitVec.ofNat 32 (i 0).val
  let c2_i32 : BitVec 32 := 2#32
  let v91 : BitVec 32 := Scalar.muli arg0 c2_i32
  let v92 : BitVec 32 := Scalar.addi v91 c0_i32_45
  let c16_i32 : BitVec 32 := 16#32
  let v93 : BitVec 32 := Scalar.muli v92 c16_i32
  let arg1 : BitVec 32 := BitVec.ofNat 32 (i 1).val
  let v94 : BitVec 32 := Scalar.addi v93 arg1
  let v95 : Index := Scalar.indexCast v94
  ![v95.toNat]
@[reducible] def k0_t1_loop (v96 : BitVec 32) (v121 : BitVec 32) : Scf.Loop 32 :=
  let c1_i32_64 : BitVec 32 := 1#32
  let c0_i32_51 : BitVec 32 := 0#32
  let c255_i32 : BitVec 32 := 255#32
  let v97 : BitVec 32 := Scalar.addi v96 c255_i32
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c256_i32 : BitVec 32 := 256#32
  let c0_i32_48 : BitVec 32 := 0#32
  let v104 : BitVec 1 := Scalar.cmpi .sgt c256_i32 c0_i32_48
  let v105 : BitVec 32 := Scalar.extui v104
  let c0_i32_49 : BitVec 32 := 0#32
  let v106 : BitVec 1 := Scalar.cmpi .slt c256_i32 c0_i32_49
  let v107 : BitVec 32 := Scalar.extui v106
  let v108 : BitVec 32 := Scalar.subi v105 v107
  let v109 : BitVec 1 := Scalar.cmpi .ne v103 v108
  let v110 : BitVec 32 := Scalar.remsi v97 c256_i32
  let c0_i32_50 : BitVec 32 := 0#32
  let v111 : BitVec 1 := Scalar.cmpi .ne v110 c0_i32_50
  let v112 : BitVec 1 := Scalar.andi v109 v111
  let v98 : BitVec 32 := Scalar.divsi v97 c256_i32
  let c1_i32 : BitVec 32 := 1#32
  let v113 : BitVec 32 := Scalar.subi v98 c1_i32
  let v114 : BitVec 32 := Scalar.select v112 v113 v98
  let v115 : BitVec 32 := Scalar.maxsi c0_i32_51 v114
  let c255_i32_55 : BitVec 32 := 255#32
  let v122 : BitVec 32 := Scalar.addi v121 c255_i32_55
  let c0_i32_57 : BitVec 32 := 0#32
  let v124 : BitVec 1 := Scalar.cmpi .sgt v122 c0_i32_57
  let v125 : BitVec 32 := Scalar.extui v124
  let c0_i32_58 : BitVec 32 := 0#32
  let v126 : BitVec 1 := Scalar.cmpi .slt v122 c0_i32_58
  let v127 : BitVec 32 := Scalar.extui v126
  let v128 : BitVec 32 := Scalar.subi v125 v127
  let c256_i32_56 : BitVec 32 := 256#32
  let c0_i32_59 : BitVec 32 := 0#32
  let v129 : BitVec 1 := Scalar.cmpi .sgt c256_i32_56 c0_i32_59
  let v130 : BitVec 32 := Scalar.extui v129
  let c0_i32_60 : BitVec 32 := 0#32
  let v131 : BitVec 1 := Scalar.cmpi .slt c256_i32_56 c0_i32_60
  let v132 : BitVec 32 := Scalar.extui v131
  let v133 : BitVec 32 := Scalar.subi v130 v132
  let v134 : BitVec 1 := Scalar.cmpi .ne v128 v133
  let v135 : BitVec 32 := Scalar.remsi v122 c256_i32_56
  let c0_i32_61 : BitVec 32 := 0#32
  let v136 : BitVec 1 := Scalar.cmpi .ne v135 c0_i32_61
  let v137 : BitVec 1 := Scalar.andi v134 v136
  let v123 : BitVec 32 := Scalar.divsi v122 c256_i32_56
  let c1_i32_62 : BitVec 32 := 1#32
  let v138 : BitVec 32 := Scalar.subi v123 c1_i32_62
  let v139 : BitVec 32 := Scalar.select v137 v138 v123
  let v140 : BitVec 32 := Scalar.maxsi v115 v139
  let v141 : BitVec 32 := Scalar.subi v140 c1_i32_64
  let c1_i32_65 : BitVec 32 := 1#32
  let v143 : BitVec 32 := Scalar.divsi v141 c1_i32_65
  let v144 : BitVec 32 := Scalar.muli v143 c1_i32_65
  let v145 : BitVec 32 := Scalar.addi c1_i32_64 v144
  let c1_i32_66 : BitVec 32 := 1#32
  ⟨c1_i32_64, v145, c1_i32_66⟩

@[reducible] def k0_t2_loop (v96 : BitVec 32) (v121 : BitVec 32) : Scf.Loop 32 :=
  let c1_i32_64 : BitVec 32 := 1#32
  let c0_i32_51 : BitVec 32 := 0#32
  let c255_i32 : BitVec 32 := 255#32
  let v97 : BitVec 32 := Scalar.addi v96 c255_i32
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c256_i32 : BitVec 32 := 256#32
  let c0_i32_48 : BitVec 32 := 0#32
  let v104 : BitVec 1 := Scalar.cmpi .sgt c256_i32 c0_i32_48
  let v105 : BitVec 32 := Scalar.extui v104
  let c0_i32_49 : BitVec 32 := 0#32
  let v106 : BitVec 1 := Scalar.cmpi .slt c256_i32 c0_i32_49
  let v107 : BitVec 32 := Scalar.extui v106
  let v108 : BitVec 32 := Scalar.subi v105 v107
  let v109 : BitVec 1 := Scalar.cmpi .ne v103 v108
  let v110 : BitVec 32 := Scalar.remsi v97 c256_i32
  let c0_i32_50 : BitVec 32 := 0#32
  let v111 : BitVec 1 := Scalar.cmpi .ne v110 c0_i32_50
  let v112 : BitVec 1 := Scalar.andi v109 v111
  let v98 : BitVec 32 := Scalar.divsi v97 c256_i32
  let c1_i32 : BitVec 32 := 1#32
  let v113 : BitVec 32 := Scalar.subi v98 c1_i32
  let v114 : BitVec 32 := Scalar.select v112 v113 v98
  let v115 : BitVec 32 := Scalar.maxsi c0_i32_51 v114
  let c255_i32_55 : BitVec 32 := 255#32
  let v122 : BitVec 32 := Scalar.addi v121 c255_i32_55
  let c0_i32_57 : BitVec 32 := 0#32
  let v124 : BitVec 1 := Scalar.cmpi .sgt v122 c0_i32_57
  let v125 : BitVec 32 := Scalar.extui v124
  let c0_i32_58 : BitVec 32 := 0#32
  let v126 : BitVec 1 := Scalar.cmpi .slt v122 c0_i32_58
  let v127 : BitVec 32 := Scalar.extui v126
  let v128 : BitVec 32 := Scalar.subi v125 v127
  let c256_i32_56 : BitVec 32 := 256#32
  let c0_i32_59 : BitVec 32 := 0#32
  let v129 : BitVec 1 := Scalar.cmpi .sgt c256_i32_56 c0_i32_59
  let v130 : BitVec 32 := Scalar.extui v129
  let c0_i32_60 : BitVec 32 := 0#32
  let v131 : BitVec 1 := Scalar.cmpi .slt c256_i32_56 c0_i32_60
  let v132 : BitVec 32 := Scalar.extui v131
  let v133 : BitVec 32 := Scalar.subi v130 v132
  let v134 : BitVec 1 := Scalar.cmpi .ne v128 v133
  let v135 : BitVec 32 := Scalar.remsi v122 c256_i32_56
  let c0_i32_61 : BitVec 32 := 0#32
  let v136 : BitVec 1 := Scalar.cmpi .ne v135 c0_i32_61
  let v137 : BitVec 1 := Scalar.andi v134 v136
  let v123 : BitVec 32 := Scalar.divsi v122 c256_i32_56
  let c1_i32_62 : BitVec 32 := 1#32
  let v138 : BitVec 32 := Scalar.subi v123 c1_i32_62
  let v139 : BitVec 32 := Scalar.select v137 v138 v123
  let v140 : BitVec 32 := Scalar.maxsi v115 v139
  let v141 : BitVec 32 := Scalar.subi v140 c1_i32_64
  let c1_i32_65 : BitVec 32 := 1#32
  let v143 : BitVec 32 := Scalar.divsi v141 c1_i32_65
  let v144 : BitVec 32 := Scalar.muli v143 c1_i32_65
  let v145 : BitVec 32 := Scalar.addi c1_i32_64 v144
  let v142 : BitVec 32 := Scalar.addi c1_i32_64 v141
  let c1_i32_67 : BitVec 32 := 1#32
  ⟨v145, v142, c1_i32_67⟩

def k0_chk1 (v96 : BitVec 32) (v121 : BitVec 32) : Prop :=
  ((k0_t1_loop v96 v121).OK) ∧
  ((k0_t2_loop v96 v121).OK)
theorem k0_t1_ok : ∀ (v96 : BitVec 32) (v121 : BitVec 32) (k0_hw1 : k0_chk1 v96 v121), (k0_t1_loop v96 v121).OK := fun v96 v121 k0_hw1 => k0_hw1.1
theorem k0_t2_ok : ∀ (v96 : BitVec 32) (v121 : BitVec 32) (k0_hw1 : k0_chk1 v96 v121), (k0_t2_loop v96 v121).OK := fun v96 v121 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S2048x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== ReferenceIdeal.lean ====
abbrev S256 : Shape := ⟨1, ![256]⟩
abbrev S16384x1024 : Shape := ⟨2, ![16384, 1024]⟩
abbrev S16x16384 : Shape := ⟨2, ![16, 16384]⟩
abbrev S16x1024x512 : Shape := ⟨3, ![16, 1024, 512]⟩
abbrev S16x512x1024 : Shape := ⟨3, ![16, 512, 1024]⟩
abbrev S1x1024 : Shape := ⟨2, ![1, 1024]⟩
abbrev S1x16384x1024 : Shape := ⟨3, ![1, 16384, 1024]⟩
abbrev S16x16384x1024 : Shape := ⟨3, ![16, 16384, 1024]⟩
abbrev S16x16384x512 : Shape := ⟨3, ![16, 16384, 512]⟩
abbrev S_ : Shape := ⟨0, ![]⟩
abbrev S16x16384x1 : Shape := ⟨3, ![16, 16384, 1]⟩
abbrev S16384 : Shape := ⟨1, ![16384]⟩
abbrev S16384x1 : Shape := ⟨2, ![16384, 1]⟩

abbrev nBuf : Space → Nat
  | .hbm => 46
  | .vmem => 0
  | .smem => 0
  | _ => 0

abbrev bufTy : (tb : Table) → Fin (tcTables nBuf tb) → BufTy
  | .hbm, ⟨0, _⟩ => ⟨S256, .i32⟩
  | .hbm, ⟨1, _⟩ => ⟨S16384x1024, .bf16⟩
  | .hbm, ⟨2, _⟩ => ⟨S16x16384, .f32⟩
  | .hbm, ⟨3, _⟩ => ⟨S16x16384, .f32⟩
  | .hbm, ⟨4, _⟩ => ⟨S16x1024x512, .bf16⟩
  | .hbm, ⟨5, _⟩ => ⟨S16x1024x512, .bf16⟩
  | .hbm, ⟨6, _⟩ => ⟨S16x512x1024, .bf16⟩
  | .hbm, ⟨7, _⟩ => ⟨S16384x1024, .f32⟩
  | .hbm, ⟨8, _⟩ => ⟨S1x1024, .f32⟩
  | .hbm, ⟨9, _⟩ => ⟨S1x16384x1024, .bf16⟩
  | .hbm, ⟨10, _⟩ => ⟨S16x16384x1024, .bf16⟩
  | .hbm, ⟨11, _⟩ => ⟨S16x16384x512, .f32⟩
  | .hbm, ⟨12, _⟩ => ⟨S16x16384x512, .f32⟩
  | .hbm, ⟨13, _⟩ => ⟨S16x16384x512, .f32⟩
  | .hbm, ⟨14, _⟩ => ⟨S16x16384x512, .f32⟩
  | .hbm, ⟨15, _⟩ => ⟨S_, .f32⟩
  | .hbm, ⟨16, _⟩ => ⟨S16x16384x512, .f32⟩
  | .hbm, ⟨17, _⟩ => ⟨S16x16384x512, .f32⟩
  | .hbm, ⟨18, _⟩ => ⟨S_, .f32⟩
  | .hbm, ⟨19, _⟩ => ⟨S16x16384x512, .f32⟩
  | .hbm, ⟨20, _⟩ => ⟨S16x16384x512, .f32⟩
  | .hbm, ⟨21, _⟩ => ⟨S16x16384x512, .f32⟩
  | .hbm, ⟨22, _⟩ => ⟨S16x16384x512, .f32⟩
  | .hbm, ⟨23, _⟩ => ⟨S16x16384x512, .bf16⟩
  | .hbm, ⟨24, _⟩ => ⟨S16x16384x1024, .f32⟩
  | .hbm, ⟨25, _⟩ => ⟨S16x16384x1, .f32⟩
  | .hbm, ⟨26, _⟩ => ⟨S16x16384x1024, .f32⟩
  | .hbm, ⟨27, _⟩ => ⟨S16x16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S_, .f32⟩
  | .hbm, ⟨32, _⟩ => ⟨S16384, .f32⟩
  | .hbm, ⟨33, _⟩ => ⟨S16384x1, .f32⟩
  | .hbm, ⟨34, _⟩ => ⟨S_, .f32⟩
  | .hbm, ⟨35, _⟩ => ⟨S16384x1, .f32⟩
  | .hbm, ⟨36, _⟩ => ⟨S16384x1, .f32⟩
  | .hbm, ⟨37, _⟩ => ⟨S_, .f32⟩
  | .hbm, ⟨38, _⟩ => ⟨S16384x1, .f32⟩
  | .hbm, ⟨39, _⟩ => ⟨S16384x1, .f32⟩
  | .hbm, ⟨40, _⟩ => ⟨S16384x1, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x1024, .f32⟩
  | .hbm, ⟨45, _⟩ => ⟨S16384x1024, .f32⟩
  | _, _ => ⟨S256, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_cst_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_1 : Ref sig .tc := ⟨.hbm, 28, rfl⟩
abbrev main_v17 : Ref sig .tc := ⟨.hbm, 29, rfl⟩
abbrev main_v18 : Ref sig .tc := ⟨.hbm, 30, rfl⟩
abbrev main_cst_2 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩

abbrev nD : Nat := 1
abbrev τ : Topo := Topo.v7x

variable {F : FTy → Type} [FloatOps F]
-- ==== Kernel2.lean ====
abbrev S1x16384x1024 : Shape := ⟨3, ![1, 16384, 1024]⟩
abbrev S256x512 : Shape := ⟨2, ![256, 512]⟩
abbrev S64x512 : Shape := ⟨2, ![64, 512]⟩
abbrev S1x1024 : Shape := ⟨2, ![1, 1024]⟩
abbrev S1x1024x1536 : Shape := ⟨3, ![1, 1024, 1536]⟩
abbrev S1024 : Shape := ⟨1, ![1024]⟩
abbrev S_ : Shape := ⟨0, ![]⟩
abbrev S256x64x1024 : Shape := ⟨3, ![256, 64, 1024]⟩
abbrev S256x1x512 : Shape := ⟨3, ![256, 1, 512]⟩
abbrev S1x64x512 : Shape := ⟨3, ![1, 64, 512]⟩
abbrev S1024x1536 : Shape := ⟨2, ![1024, 1536]⟩
abbrev S16384x512 : Shape := ⟨2, ![16384, 512]⟩
abbrev S8x64x1024 : Shape := ⟨3, ![8, 64, 1024]⟩
abbrev S8x1x512 : Shape := ⟨3, ![8, 1, 512]⟩
abbrev S512x512 : Shape := ⟨2, ![512, 512]⟩
abbrev S8x64x512 : Shape := ⟨3, ![8, 64, 512]⟩
abbrev S512x1024 : Shape := ⟨2, ![512, 1024]⟩
abbrev S512 : Shape := ⟨1, ![512]⟩
abbrev S512x1 : Shape := ⟨2, ![512, 1]⟩
abbrev S512x1536 : Shape := ⟨2, ![512, 1536]⟩

abbrev nBuf : Space → Nat
  | .hbm => 21
  | .vmem => 14
  | .smem => 0
  | _ => 0

abbrev bufTy : (tb : Table) → Fin (tcTables nBuf tb) → BufTy
  | .hbm, ⟨0, _⟩ => ⟨S1x16384x1024, .f32⟩
  | .hbm, ⟨1, _⟩ => ⟨S256x512, .f32⟩
  | .hbm, ⟨2, _⟩ => ⟨S64x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1536, .f32⟩
  | .hbm, ⟨7, _⟩ => ⟨S1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S256x64x1024, .f32⟩
  | .hbm, ⟨14, _⟩ => ⟨S256x1x512, .f32⟩
  | .hbm, ⟨15, _⟩ => ⟨S1x64x512, .f32⟩
  | .hbm, ⟨16, _⟩ => ⟨S1024x1536, .f32⟩
  | .hbm, ⟨17, _⟩ => ⟨S1024x1536, .bf16⟩
  | .hbm, ⟨18, _⟩ => ⟨S16384x512, .bf16⟩
  | .hbm, ⟨19, _⟩ => ⟨S16384x512, .bf16⟩
  | .hbm, ⟨20, _⟩ => ⟨S16384x512, .bf16⟩
  | .local _ .vmem, ⟨0, _⟩ => ⟨S8x64x1024, .f32⟩
  | .local _ .vmem, ⟨1, _⟩ => ⟨S8x64x1024, .f32⟩
  | .local _ .vmem, ⟨2, _⟩ => ⟨S8x1x512, .f32⟩
  | .local _ .vmem, ⟨3, _⟩ => ⟨S8x1x512, .f32⟩
  | .local _ .vmem, ⟨4, _⟩ => ⟨S1x64x512, .f32⟩
  | .local _ .vmem, ⟨5, _⟩ => ⟨S1x1024, .f32⟩
  | .local _ .vmem, ⟨6, _⟩ => ⟨S1x1024, .f32⟩
  | .local _ .vmem, ⟨7, _⟩ => ⟨S1024x1536, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10_0 : Ref sig .tc := ⟨.hbm, 18, rfl⟩
abbrev main_v10_1 : Ref sig .tc := ⟨.hbm, 19, rfl⟩
abbrev main_v10_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x64x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1536 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference2Ideal.lean ====
abbrev S1x16384x1024 : Shape := ⟨3, ![1, 16384, 1024]⟩
abbrev S256x512 : Shape := ⟨2, ![256, 512]⟩
abbrev S64x512 : Shape := ⟨2, ![64, 512]⟩
abbrev S1x1024 : Shape := ⟨2, ![1, 1024]⟩
abbrev S1x1024x1536 : Shape := ⟨3, ![1, 1024, 1536]⟩
abbrev S256x1x512 : Shape := ⟨3, ![256, 1, 512]⟩
abbrev S256x64x512 : Shape := ⟨3, ![256, 64, 512]⟩
abbrev S1x64x512 : Shape := ⟨3, ![1, 64, 512]⟩
abbrev S256x64x1024 : Shape := ⟨3, ![256, 64, 1024]⟩
abbrev S16384x1024 : Shape := ⟨2, ![16384, 1024]⟩
abbrev S_ : Shape := ⟨0, ![]⟩
abbrev S1x16384 : Shape := ⟨2, ![1, 16384]⟩
abbrev S1x16384x1 : Shape := ⟨3, ![1, 16384, 1]⟩
abbrev S1024 : Shape := ⟨1, ![1024]⟩
abbrev S1x1x1024 : Shape := ⟨3, ![1, 1, 1024]⟩
abbrev S1024x1536 : Shape := ⟨2, ![1024, 1536]⟩
abbrev S16384x1536 : Shape := ⟨2, ![16384, 1536]⟩
abbrev S16384x512 : Shape := ⟨2, ![16384, 512]⟩

abbrev nBuf : Space → Nat
  | .hbm => 50
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S256x512, .f32⟩
  | .hbm, ⟨2, _⟩ => ⟨S64x512, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024x1536, .f32⟩
  | .hbm, ⟨7, _⟩ => ⟨S256x1x512, .f32⟩
  | .hbm, ⟨8, _⟩ => ⟨S256x64x512, .f32⟩
  | .hbm, ⟨9, _⟩ => ⟨S1x64x512, .f32⟩
  | .hbm, ⟨10, _⟩ => ⟨S256x64x512, .f32⟩
  | .hbm, ⟨11, _⟩ => ⟨S256x64x1024, .f32⟩
  | .hbm, ⟨12, _⟩ => ⟨S16384x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S_, .f32⟩
  | .hbm, ⟨17, _⟩ => ⟨S1x16384, .f32⟩
  | .hbm, ⟨18, _⟩ => ⟨S1x16384x1, .f32⟩
  | .hbm, ⟨19, _⟩ => ⟨S_, .f32⟩
  | .hbm, ⟨20, _⟩ => ⟨S1x16384x1, .f32⟩
  | .hbm, ⟨21, _⟩ => ⟨S1x16384x1, .f32⟩
  | .hbm, ⟨22, _⟩ => ⟨S_, .f32⟩
  | .hbm, ⟨23, _⟩ => ⟨S1x16384x1, .f32⟩
  | .hbm, ⟨24, _⟩ => ⟨S1x16384x1, .f32⟩
  | .hbm, ⟨25, _⟩ => ⟨S1x16384x1, .f32⟩
  | .hbm, ⟨26, _⟩ => ⟨S1x16384x1024, .f32⟩
  | .hbm, ⟨27, _⟩ => ⟨S1x16384x1024, .f32⟩
  | .hbm, ⟨28, _⟩ => ⟨S1024, .f32⟩
  | .hbm, ⟨29, _⟩ => ⟨S1x1x1024, .f32⟩
  | .hbm, ⟨30, _⟩ => ⟨S1x16384x1024, .f32⟩
  | .hbm, ⟨31, _⟩ => ⟨S1x16384x1024, .f32⟩
  | .hbm, ⟨32, _⟩ => ⟨S_, .f32⟩
  | .hbm, ⟨33, _⟩ => ⟨S1x1024, .f32⟩
  | .hbm, ⟨34, _⟩ => ⟨S1x1024, .f32⟩
  | .hbm, ⟨35, _⟩ => ⟨S1x1x1024, .f32⟩
  | .hbm, ⟨36, _⟩ => ⟨S1x16384x1024, .f32⟩
  | .hbm, ⟨37, _⟩ => ⟨S1x16384x1024, .f32⟩
  | .hbm, ⟨38, _⟩ => ⟨S1x1x1024, .f32⟩
  | .hbm, ⟨39, _⟩ => ⟨S1x16384x1024, .f32⟩
  | .hbm, ⟨40, _⟩ => ⟨S1x16384x1024, .f32⟩
  | .hbm, ⟨41, _⟩ => ⟨S16384x1024, .f32⟩
  | .hbm, ⟨42, _⟩ => ⟨S1024x1536, .f32⟩
  | .hbm, ⟨43, _⟩ => ⟨S16384x1536, .f32⟩
  | .hbm, ⟨44, _⟩ => ⟨S16384x512, .f32⟩
  | .hbm, ⟨45, _⟩ => ⟨S16384x512, .bf16⟩
  | .hbm, ⟨46, _⟩ => ⟨S16384x512, .f32⟩
  | .hbm, ⟨47, _⟩ => ⟨S16384x512, .bf16⟩
  | .hbm, ⟨48, _⟩ => ⟨S16384x512, .f32⟩
  | .hbm, ⟨49, _⟩ => ⟨S16384x512, .bf16⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel3.lean ====
abbrev S16384x512 : Shape := ⟨2, ![16384, 512]⟩
abbrev S1x16384x1024 : Shape := ⟨3, ![1, 16384, 1024]⟩
abbrev S256x512 : Shape := ⟨2, ![256, 512]⟩
abbrev S64x512 : Shape := ⟨2, ![64, 512]⟩
abbrev S1x512 : Shape := ⟨2, ![1, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S1024 : Shape := ⟨1, ![1024]⟩
abbrev S_ : Shape := ⟨0, ![]⟩
abbrev S1024x4 : Shape := ⟨2, ![1024, 4]⟩
abbrev S1024x16 : Shape := ⟨2, ![1024, 16]⟩
abbrev S1024x108 : Shape := ⟨2, ![1024, 108]⟩
abbrev S1024x128 : Shape := ⟨2, ![1024, 128]⟩
abbrev S4 : Shape := ⟨1, ![4]⟩
abbrev S16 : Shape := ⟨1, ![16]⟩
abbrev S108 : Shape := ⟨1, ![108]⟩
abbrev S128 : Shape := ⟨1, ![128]⟩
abbrev S1x128 : Shape := ⟨2, ![1, 128]⟩
abbrev S256x64x1024 : Shape := ⟨3, ![256, 64, 1024]⟩
abbrev S256x1x512 : Shape := ⟨3, ![256, 1, 512]⟩
abbrev S1x64x512 : Shape := ⟨3, ![1, 64, 512]⟩
abbrev S512 : Shape := ⟨1, ![512]⟩
abbrev S1024x1024 : Shape := ⟨2, ![1024, 1024]⟩
abbrev S16384x1024 : Shape := ⟨2, ![16384, 1024]⟩
abbrev S32x16384 : Shape := ⟨2, ![32, 16384]⟩
abbrev S512x512 : Shape := ⟨2, ![512, 512]⟩
abbrev S8x64x1024 : Shape := ⟨3, ![8, 64, 1024]⟩
abbrev S8x1x512 : Shape := ⟨3, ![8, 1, 512]⟩
abbrev S512x1024 : Shape := ⟨2, ![512, 1024]⟩
abbrev S32x512 : Shape := ⟨2, ![32, 512]⟩
abbrev S512x128 : Shape := ⟨2, ![512, 128]⟩
abbrev S512x1 : Shape := ⟨2, ![512, 1]⟩
abbrev S8x64x512 : Shape := ⟨3, ![8, 64, 512]⟩
abbrev S128x512 : Shape := ⟨2, ![128, 512]⟩

abbrev nBuf : Space → Nat
  | .hbm => 52
  | .vmem => 29
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S16384x512, .bf16⟩
  | .hbm, ⟨3, _⟩ => ⟨S16384x512, .bf16⟩
  | .hbm, ⟨4, _⟩ => ⟨S16384x512, .bf16⟩
  | .hbm, ⟨5, _⟩ => ⟨S1x16384x1024, .f32⟩
  | .hbm, ⟨6, _⟩ => ⟨S256x512, .f32⟩
  | .hbm, ⟨7, _⟩ => ⟨S64x512, .f32⟩
  | .hbm, ⟨8, _⟩ => ⟨S1x512, .f32⟩
  | .hbm, ⟨9, _⟩ => ⟨S1x512, .f32⟩
  | .hbm, ⟨10, _⟩ => ⟨S1x1024x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024x4, .f32⟩
  | .hbm, ⟨17, _⟩ => ⟨S1x4, .f32⟩
  | .hbm, ⟨18, _⟩ => ⟨S1x1024x16, .f32⟩
  | .hbm, ⟨19, _⟩ => ⟨S1x16, .f32⟩
  | .hbm, ⟨20, _⟩ => ⟨S1024, .f32⟩
  | .hbm, ⟨21, _⟩ => ⟨S1x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S_, .f32⟩
  | .hbm, ⟨26, _⟩ => ⟨S1x1024, .f32⟩
  | .hbm, ⟨27, _⟩ => ⟨S1x1024, .f32⟩
  | .hbm, ⟨28, _⟩ => ⟨S1x1024, .f32⟩
  | .hbm, ⟨29, _⟩ => ⟨S1024x4, .f32⟩
  | .hbm, ⟨30, _⟩ => ⟨S1024x16, .f32⟩
  | .hbm, ⟨31, _⟩ => ⟨S_, .f32⟩
  | .hbm, ⟨32, _⟩ => ⟨S1024x108, .f32⟩
  | .hbm, ⟨33, _⟩ => ⟨S1024x128, .f32⟩
  | .hbm, ⟨34, _⟩ => ⟨S4, .f32⟩
  | .hbm, ⟨35, _⟩ => ⟨S16, .f32⟩
  | .hbm, ⟨36, _⟩ => ⟨S_, .f32⟩
  | .hbm, ⟨37, _⟩ => ⟨S108, .f32⟩
  | .hbm, ⟨38, _⟩ => ⟨S128, .f32⟩
  | .hbm, ⟨39, _⟩ => ⟨S1x128, .f32⟩
  | .hbm, ⟨40, _⟩ => ⟨S256x64x1024, .f32⟩
  | .hbm, ⟨41, _⟩ => ⟨S256x1x512, .f32⟩
  | .hbm, ⟨42, _⟩ => ⟨S1x64x512, .f32⟩
  | .hbm, ⟨43, _⟩ => ⟨S512, .f32⟩
  | .hbm, ⟨44, _⟩ => ⟨S1x512, .f32⟩
  | .hbm, ⟨45, _⟩ => ⟨S512, .f32⟩
  | .hbm, ⟨46, _⟩ => ⟨S1x512, .f32⟩
  | .hbm, ⟨47, _⟩ => ⟨S1024x1024, .f32⟩
  | .hbm, ⟨48, _⟩ => ⟨S1024x1024, .bf16⟩
  | .hbm, ⟨49, _⟩ => ⟨S16384x1024, .f32⟩
  | .hbm, ⟨50, _⟩ => ⟨S16384x1024, .bf16⟩
  | .hbm, ⟨51, _⟩ => ⟨S32x16384, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S8x64x1024, .f32⟩
  | .local _ .vmem, ⟨11, _⟩ => ⟨S8x64x1024, .f32⟩
  | .local _ .vmem, ⟨12, _⟩ => ⟨S8x1x512, .f32⟩
  | .local _ .vmem, ⟨13, _⟩ => ⟨S8x1x512, .f32⟩
  | .local _ .vmem, ⟨14, _⟩ => ⟨S1x64x512, .f32⟩
  | .local _ .vmem, ⟨15, _⟩ => ⟨S1x512, .f32⟩
  | .local _ .vmem, ⟨16, _⟩ => ⟨S1x512, .f32⟩
  | .local _ .vmem, ⟨17, _⟩ => ⟨S1024x1024, .bf16⟩
  | .local _ .vmem, ⟨18, _⟩ => ⟨S1x1024, .f32⟩
  | .local _ .vmem, ⟨19, _⟩ => ⟨S1x1024, .f32⟩
  | .local _ .vmem, ⟨20, _⟩ => ⟨S1x1024, .f32⟩
  | .local _ .vmem, ⟨21, _⟩ => ⟨S1024x128, .f32⟩
  | .local _ .vmem, ⟨22, _⟩ => ⟨S1x128, .f32⟩
  | .local _ .vmem, ⟨23, _⟩ => ⟨S512x1024, .f32⟩
  | .local _ .vmem, ⟨24, _⟩ => ⟨S512x1024, .f32⟩
  | .local _ .vmem, ⟨25, _⟩ => ⟨S512x1024, .bf16⟩
  | .local _ .vmem, ⟨26, _⟩ => ⟨S512x1024, .bf16⟩
  | .local _ .vmem, ⟨27, _⟩ => ⟨S32x512, .f32⟩
  | .local _ .vmem, ⟨28, _⟩ => ⟨S32x512, .f32⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_cst : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26_0 : Ref sig .tc := ⟨.hbm, 49, rfl⟩
abbrev main_v26_1 : Ref sig .tc := ⟨.hbm, 50, rfl⟩
abbrev main_v26_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg16_0 : Ref sig .tc := ⟨.vmem, 23, rfl⟩
abbrev cc0_stg16_1 : Ref sig .tc := ⟨.vmem, 24, rfl⟩
abbrev cc0_stg17_0 : Ref sig .tc := ⟨.vmem, 25, rfl⟩
abbrev cc0_stg17_1 : Ref sig .tc := ⟨.vmem, 26, rfl⟩
abbrev cc0_stg18_0 : Ref sig .tc := ⟨.vmem, 27, rfl⟩
abbrev cc0_stg18_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem16_0 : DmaSem sig := 23
abbrev cc0_sem16_1 : DmaSem sig := 24
abbrev cc0_sem17_0 : DmaSem sig := 25
abbrev cc0_sem17_1 : DmaSem sig := 26
abbrev cc0_sem18_0 : DmaSem sig := 27
abbrev cc0_sem18_1 : DmaSem sig := 28

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S32x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]
-- ==== Reference3Ideal.lean ====
abbrev S16384x512 : Shape := ⟨2, ![16384, 512]⟩
abbrev S1x16384x1024 : Shape := ⟨3, ![1, 16384, 1024]⟩
abbrev S256x512 : Shape := ⟨2, ![256, 512]⟩
abbrev S64x512 : Shape := ⟨2, ![64, 512]⟩
abbrev S1x512 : Shape := ⟨2, ![1, 512]⟩
abbrev S1x1024x1024 : Shape := ⟨3, ![1, 1024, 1024]⟩
abbrev S1x1024 : Shape := ⟨2, ![1, 1024]⟩
abbrev S1x1024x4 : Shape := ⟨3, ![1, 1024, 4]⟩
abbrev S1x4 : Shape := ⟨2, ![1, 4]⟩
abbrev S1x1024x16 : Shape := ⟨3, ![1, 1024, 16]⟩
abbrev S1x16 : Shape := ⟨2, ![1, 16]⟩
abbrev S256x1x512 : Shape := ⟨3, ![256, 1, 512]⟩
abbrev S256x64x512 : Shape := ⟨3, ![256, 64, 512]⟩
abbrev S1x64x512 : Shape := ⟨3, ![1, 64, 512]⟩
abbrev S256x64x1024 : Shape := ⟨3, ![256, 64, 1024]⟩
abbrev S16384x1024 : Shape := ⟨2, ![16384, 1024]⟩
abbrev S16384x4x128 : Shape := ⟨3, ![16384, 4, 128]⟩
abbrev S_ : Shape := ⟨0, ![]⟩
abbrev S16384x4 : Shape := ⟨2, ![16384, 4]⟩
abbrev S16384x4x1 : Shape := ⟨3, ![16384, 4, 1]⟩
abbrev S512 : Shape := ⟨1, ![512]⟩
abbrev S1024x1024 : Shape := ⟨2, ![1024, 1024]⟩
abbrev S16384 : Shape := ⟨1, ![16384]⟩
abbrev S16384x1 : Shape := ⟨2, ![16384, 1]⟩
abbrev S1024 : Shape := ⟨1, ![1024]⟩
abbrev S1024x4 : Shape := ⟨2, ![1024, 4]⟩
abbrev S4 : Shape := ⟨1, ![4]⟩
abbrev S1024x16 : Shape := ⟨2, ![1024, 16]⟩
abbrev S16384x16 : Shape := ⟨2, ![16384, 16]⟩
abbrev S16 : Shape := ⟨1, ![16]⟩
abbrev S16384x12 : Shape := ⟨2, ![16384, 12]⟩
abbrev S16384x32 : Shape := ⟨2, ![16384, 32]⟩
abbrev S32x16384 : Shape := ⟨2, ![32, 16384]⟩

abbrev nBuf : Space → Nat
  | .hbm => 141
  | .vmem => 0
  | .smem => 0
  | _ => 0

abbrev hbmTy0_0 (i : Nat) : BufTy := match i % 128 with
  | 0 => ⟨S16384x512, .bf16⟩
  | 1 => ⟨S16384x512, .bf16⟩
  | 2 => ⟨S16384x512, .bf16⟩
  | 3 => ⟨S16384x512, .bf16⟩
  | 4 => ⟨S16384x512, .bf16⟩
  | 5 => ⟨S1x16384x1024, .f32⟩
  | 6 => ⟨S256x512, .f32⟩
  | 7 => ⟨S64x512, .f32⟩
  | 8 => ⟨S1x512, .f32⟩
  | 9 => ⟨S1x512, .f32⟩
  | 10 => ⟨S1x1024x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024x4, .f32⟩
  | 17 => ⟨S1x4, .f32⟩
  | 18 => ⟨S1x1024x16, .f32⟩
  | 19 => ⟨S1x16, .f32⟩
  | 20 => ⟨S256x1x512, .f32⟩
  | 21 => ⟨S256x64x512, .f32⟩
  | 22 => ⟨S1x64x512, .f32⟩
  | 23 => ⟨S256x64x512, .f32⟩
  | 24 => ⟨S256x64x1024, .f32⟩
  | 25 => ⟨S16384x1024, .f32⟩
  | 26 => ⟨S1x16384x1024, .f32⟩
  | 27 => ⟨S1x16384x1024, .f32⟩
  | 28 => ⟨S16384x512, .f32⟩
  | 29 => ⟨S16384x512, .f32⟩
  | 30 => ⟨S16384x512, .f32⟩
  | 31 => ⟨S16384x4x128, .f32⟩
  | 32 => ⟨S_, .f32⟩
  | 33 => ⟨S16384x4, .f32⟩
  | 34 => ⟨S16384x4x1, .f32⟩
  | 35 => ⟨S_, .f32⟩
  | 36 => ⟨S16384x4x1, .f32⟩
  | 37 => ⟨S16384x4x1, .f32⟩
  | 38 => ⟨S16384x4x128, .f32⟩
  | 39 => ⟨S16384x4x128, .f32⟩
  | 40 => ⟨S16384x4x128, .f32⟩
  | 41 => ⟨S_, .f32⟩
  | 42 => ⟨S16384x4, .f32⟩
  | 43 => ⟨S16384x4x1, .f32⟩
  | 44 => ⟨S_, .f32⟩
  | 45 => ⟨S16384x4x1, .f32⟩
  | 46 => ⟨S16384x4x1, .f32⟩
  | 47 => ⟨S_, .f32⟩
  | 48 => ⟨S16384x4x1, .f32⟩
  | 49 => ⟨S16384x4x1, .f32⟩
  | 50 => ⟨S16384x4x1, .f32⟩
  | 51 => ⟨S16384x4x128, .f32⟩
  | 52 => ⟨S16384x4x128, .f32⟩
  | 53 => ⟨S16384x512, .f32⟩
  | 54 => ⟨S512, .f32⟩
  | 55 => ⟨S1x512, .f32⟩
  | 56 => ⟨S16384x512, .f32⟩
  | 57 => ⟨S16384x512, .f32⟩
  | 58 => ⟨S16384x512, .f32⟩
  | 59 => ⟨S512, .f32⟩
  | 60 => ⟨S16384x512, .f32⟩
  | 61 => ⟨S1x512, .f32⟩
  | 62 => ⟨S16384x512, .f32⟩
  | 63 => ⟨S16384x512, .f32⟩
  | 64 => ⟨S16384x512, .f32⟩
  | 65 => ⟨S16384x512, .f32⟩
  | 66 => ⟨S16384x512, .f32⟩
  | 67 => ⟨S_, .f32⟩
  | 68 => ⟨S16384x512, .f32⟩
  | 69 => ⟨S16384x512, .f32⟩
  | 70 => ⟨S_, .f32⟩
  | 71 => ⟨S16384x512, .f32⟩
  | 72 => ⟨S16384x512, .f32⟩
  | 73 => ⟨S16384x512, .f32⟩
  | 74 => ⟨S16384x512, .f32⟩
  | 75 => ⟨S16384x512, .f32⟩
  | 76 => ⟨S16384x1024, .f32⟩
  | 77 => ⟨S1024x1024, .f32⟩
  | 78 => ⟨S16384x1024, .f32⟩
  | 79 => ⟨S16384x1024, .f32⟩
  | 80 => ⟨S16384x1024, .f32⟩
  | 81 => ⟨S_, .f32⟩
  | 82 => ⟨S16384, .f32⟩
  | 83 => ⟨S16384x1, .f32⟩
  | 84 => ⟨S_, .f32⟩
  | 85 => ⟨S16384x1, .f32⟩
  | 86 => ⟨S16384x1, .f32⟩
  | 87 => ⟨S_, .f32⟩
  | 88 => ⟨S16384x1, .f32⟩
  | 89 => ⟨S16384x1, .f32⟩
  | 90 => ⟨S16384x1, .f32⟩
  | 91 => ⟨S16384x1024, .f32⟩
  | 92 => ⟨S16384x1024, .f32⟩
  | 93 => ⟨S1024, .f32⟩
  | 94 => ⟨S1x1024, .f32⟩
  | 95 => ⟨S16384x1024, .f32⟩
  | 96 => ⟨S16384x1024, .f32⟩
  | 97 => ⟨S16384x1024, .f32⟩
  | 98 => ⟨S16384x1024, .f32⟩
  | 99 => ⟨S16384x1024, .f32⟩
  | 100 => ⟨S16384x1024, .f32⟩
  | 101 => ⟨S_, .f32⟩
  | 102 => ⟨S16384, .f32⟩
  | 103 => ⟨S16384x1, .f32⟩
  | 104 => ⟨S_, .f32⟩
  | 105 => ⟨S16384x1, .f32⟩
  | 106 => ⟨S16384x1, .f32⟩
  | 107 => ⟨S_, .f32⟩
  | 108 => ⟨S16384x1, .f32⟩
  | 109 => ⟨S16384x1, .f32⟩
  | 110 => ⟨S16384x1, .f32⟩
  | 111 => ⟨S16384x1024, .f32⟩
  | 112 => ⟨S16384x1024, .f32⟩
  | 113 => ⟨S1024, .f32⟩
  | 114 => ⟨S1x1024, .f32⟩
  | 115 => ⟨S16384x1024, .f32⟩
  | 116 => ⟨S16384x1024, .f32⟩
  | 117 => ⟨S_, .f32⟩
  | 118 => ⟨S1x1024, .f32⟩
  | 119 => ⟨S1x1024, .f32⟩
  | 120 => ⟨S16384x1024, .f32⟩
  | 121 => ⟨S16384x1024, .f32⟩
  | 122 => ⟨S16384x1024, .f32⟩
  | 123 => ⟨S16384x1024, .f32⟩
  | 124 => ⟨S1024x4, .f32⟩
  | 125 => ⟨S16384x4, .f32⟩
  | 126 => ⟨S4, .f32⟩
  | 127 => ⟨S1x4, .f32⟩
  | _ => ⟨S16384x512, .bf16⟩

abbrev hbmTy0_1 (i : Nat) : BufTy := match i % 128 with
  | 0 => ⟨S16384x4, .f32⟩
  | 1 => ⟨S16384x4, .f32⟩
  | 2 => ⟨S1024x16, .f32⟩
  | 3 => ⟨S16384x16, .f32⟩
  | 4 => ⟨S16, .f32⟩
  | 5 => ⟨S1x16, .f32⟩
  | 6 => ⟨S16384x16, .f32⟩
  | 7 => ⟨S16384x16, .f32⟩
  | 8 => ⟨S_, .f32⟩
  | 9 => ⟨S16384x12, .f32⟩
  | 10 => ⟨S16384x32, .f32⟩
  | 11 => ⟨S16384x1024, .bf16⟩
  | 12 => ⟨S32x16384, .f32⟩
  | _ => ⟨S16384x512, .bf16⟩

abbrev hbmTy (i : Nat) : BufTy := match i / 128 with
  | 0 => hbmTy0_0 i
  | 1 => hbmTy0_1 i
  | _ => ⟨S16384x512, .bf16⟩

abbrev bufTy : (tb : Table) → Fin (tcTables nBuf tb) → BufTy
  | .hbm, ⟨i, _⟩ => hbmTy i
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_cst : Ref sig .tc := ⟨.hbm, 32, rfl⟩
abbrev main_v12 : Ref sig .tc := ⟨.hbm, 33, rfl⟩
abbrev main_v13 : Ref sig .tc := ⟨.hbm, 34, rfl⟩
abbrev main_cst_0 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_cst_1 : Ref sig .tc := ⟨.hbm, 41, rfl⟩
abbrev main_v19 : Ref sig .tc := ⟨.hbm, 42, rfl⟩
abbrev main_v20 : Ref sig .tc := ⟨.hbm, 43, rfl⟩
abbrev main_cst_2 : Ref sig .tc := ⟨.hbm, 44, rfl⟩
abbrev main_v21 : Ref sig .tc := ⟨.hbm, 45, rfl⟩
abbrev main_v22 : Ref sig .tc := ⟨.hbm, 46, rfl⟩
abbrev main_cst_3 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_cst_4 : Ref sig .tc := ⟨.hbm, 67, rfl⟩
abbrev main_v42 : Ref sig .tc := ⟨.hbm, 68, rfl⟩
abbrev main_v43 : Ref sig .tc := ⟨.hbm, 69, rfl⟩
abbrev main_cst_5 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_6 : Ref sig .tc := ⟨.hbm, 81, rfl⟩
abbrev main_v54 : Ref sig .tc := ⟨.hbm, 82, rfl⟩
abbrev main_v55 : Ref sig .tc := ⟨.hbm, 83, rfl⟩
abbrev main_cst_7 : Ref sig .tc := ⟨.hbm, 84, rfl⟩
abbrev main_v56 : Ref sig .tc := ⟨.hbm, 85, rfl⟩
abbrev main_v57 : Ref sig .tc := ⟨.hbm, 86, rfl⟩
abbrev main_cst_8 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_9 : Ref sig .tc := ⟨.hbm, 101, rfl⟩
abbrev main_v71 : Ref sig .tc := ⟨.hbm, 102, rfl⟩
abbrev main_v72 : Ref sig .tc := ⟨.hbm, 103, rfl⟩
abbrev main_cst_10 : Ref sig .tc := ⟨.hbm, 104, rfl⟩
abbrev main_v73 : Ref sig .tc := ⟨.hbm, 105, rfl⟩
abbrev main_v74 : Ref sig .tc := ⟨.hbm, 106, rfl⟩
abbrev main_cst_11 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_12 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_13 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩

abbrev nD : Nat := 1
abbrev τ : Topo := Topo.v7x

variable {F : FTy → Type} [FloatOps F]
-- ==== Proof.Moe.Words.lean ====
module

public import proofs.«01_k».proof.Proof.Gen.KernelIdeal
public import Idealize.ShloMosaic.Lib.Tactic
public import Idealize.ShloMosaic.Lib.WordCmp

@[expose] public section

set_option maxRecDepth 8192

namespace Cert.KernelIdeal.Moe

open Cert.KernelIdeal Cert.KernelIdeal.Gen
open Idealize.ShloMosaic

/-- The number of row tiles of 256 rows that hold `v96` tokens, as the kernel computes it (a rounded-up quotient). -/
def tiles (v96 : BitVec 32) : BitVec 32 :=
  let c255_i32 : BitVec 32 := 255#32
  let v97 : BitVec 32 := Scalar.addi v96 c255_i32
  let c0_i32_46 : BitVec 32 := 0#32
  let v99 : BitVec 1 := Scalar.cmpi .sgt v97 c0_i32_46
  let v100 : BitVec 32 := Scalar.extui v99
  let c0_i32_47 : BitVec 32 := 0#32
  let v101 : BitVec 1 := Scalar.cmpi .slt v97 c0_i32_47
  let v102 : BitVec 32 := Scalar.extui v101
  let v103 : BitVec 32 := Scalar.subi v100 v102
  let c256_i32 : BitVec 32 := 256#32
  let c0_i32_48 : BitVec 32 := 0#32
  let v104 : BitVec 1 := Scalar.cmpi .sgt c256_i32 c0_i32_48
  let v105 : BitVec 32 := Scalar.extui v104
  let c0_i32_49 : BitVec 32 := 0#32
  let v106 : BitVec 1 := Scalar.cmpi .slt c256_i32 c0_i32_49
  let v107 : BitVec 32 := Scalar.extui v106
  let v108 : BitVec 32 := Scalar.subi v105 v107
  let v109 : BitVec 1 := Scalar.cmpi .ne v103 v108
  let v110 : BitVec 32 := Scalar.remsi v97 c256_i32
  let c0_i32_50 : BitVec 32 := 0#32
  let v111 : BitVec 1 := Scalar.cmpi .ne v110 c0_i32_50
  let v112 : BitVec 1 := Scalar.andi v109 v111
  let v98 : BitVec 32 := Scalar.divsi v97 c256_i32
  let c1_i32 : BitVec 32 := 1#32
  let v113 : BitVec 32 := Scalar.subi v98 c1_i32
  let v114 : BitVec 32 := Scalar.select v112 v113 v98
  v114

/-- The larger of the two sub-blocks' tile counts, and at least zero. -/
def most (v w : BitVec 32) : BitVec 32 := Scalar.maxsi (Scalar.maxsi 0#32 (tiles v)) (tiles w)

theorem most_nonneg (v w : BitVec 32) : 0 ≤ (most v w).toInt := by
  have h : ∀ a b : BitVec 32, a.toInt ≤ (Scalar.maxsi a b).toInt := by
    intro a b
    unfold Scalar.maxsi IntOp.maxsi
    split <;> simp_all [BitVec.slt] <;> omega
  have h0 := h 0#32 (tiles v)
  have h1 := h (Scalar.maxsi 0#32 (tiles v)) (tiles w)
  have : (0#32 : BitVec 32).toInt = 0 := by decide
  unfold most
  omega

/-- The upper bound the kernel computes is that count again. -/
theorem upper (m : BitVec 32) : Scalar.addi 1#32 (Scalar.muli (Scalar.divsi (Scalar.subi m 1#32) 1#32) 1#32) = m := by
  have h1 : ∀ x : BitVec 32, Scalar.divsi x 1#32 = x := by
    intro x
    show (if IntOp.SDivCorner x 1#32 then _ else x.sdiv 1#32) = _
    rw [if_neg (by unfold IntOp.SDivCorner; rintro (h | ⟨_, h⟩) <;> revert h <;> decide)]
    simp
  rw [h1]
  show 1#32 + (m - 1#32) * 1#32 = m
  rw [BitVec.mul_one, BitVec.add_comm, BitVec.sub_add_cancel]

theorem upper' (m : BitVec 32) : Scalar.addi 1#32 (Scalar.subi m 1#32) = m := by
  show 1#32 + (m - 1#32) = m
  rw [BitVec.add_comm, BitVec.sub_add_cancel]

theorem loop1 (v w : BitVec 32) : k0_t1_loop v w = ⟨1#32, most v w, 1#32⟩ :=
  congrArg (fun u => (⟨1#32, u, 1#32⟩ : Scf.Loop 32)) (upper (most v w))

theorem loop2 (v w : BitVec 32) : k0_t2_loop v w = ⟨most v w, most v w, 1#32⟩ :=
  (congrArg (fun u => (⟨u, Scalar.addi 1#32 (Scalar.subi (most v w) 1#32), 1#32⟩ : Scf.Loop 32)) (upper (most v w))).trans
    (congrArg (fun u => (⟨most v w, u, 1#32⟩ : Scf.Loop 32)) (upper' (most v w)))

theorem trips1 (v w : BitVec 32) : (k0_t1_loop v w).trips = ((most v w).toInt - 1).toNat := by
  rw [loop1]
  show (((most v w).toInt - (1#32 : BitVec 32).toInt + (1#32 : BitVec 32).toInt - 1) / (1#32 : BitVec 32).toInt).toNat = _
  have : (1#32 : BitVec 32).toInt = 1 := by decide
  rw [this]; congr 1; omega

theorem trips2 (v w : BitVec 32) : (k0_t2_loop v w).trips = 0 := by
  rw [loop2]
  show (((most v w).toInt - (most v w).toInt + (1#32 : BitVec 32).toInt - 1) / (1#32 : BitVec 32).toInt).toNat = _
  have : (1#32 : BitVec 32).toInt = 1 := by decide
  rw [this]; omega

/-- What the kernel's two loops ask of the words they read holds at every word. -/
theorem chk1 (v w : BitVec 32) : k0_chk1 v w := by
  have h1 : (1#32 : BitVec 32).toInt = 1 := by decide
  have hm := (most v w).toInt_lt
  have hn := most_nonneg v w
  refine ⟨⟨?_, ?_⟩, ⟨?_, ?_⟩⟩
  · rw [loop1]; exact (by decide : 0 < (1#32 : BitVec 32).toInt)
  · have := trips1 v w
    rw [loop1] at this ⊢
    change (Scf.trips _ _ _) = _ at this
    show (1#32 : BitVec 32).toInt + (Scf.trips _ _ _ : ℕ) * (1#32 : BitVec 32).toInt < _
    rw [this, h1]; omega
  · rw [loop2]; exact (by decide : 0 < (1#32 : BitVec 32).toInt)
  · have := trips2 v w
    rw [loop2] at this ⊢
    change (Scf.trips _ _ _) = _ at this
    show (most v w).toInt + (Scf.trips _ _ _ : ℕ) * (1#32 : BitVec 32).toInt < _
    rw [this, h1]; omega

theorem tiles_count : ∀ n : Fin 1025, tiles (BitVec.ofNat 32 n.val) = BitVec.ofNat 32 ((n.val + 255) / 256) := by
  decide +kernel

end Cert.KernelIdeal.Moe

end
-- ==== Proof.Moe.Kit.lean ====
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Moe.Words
public import Idealize.ShloMosaic.Lib.Pipeline.Kit
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output block is written back after the last expert of each block of tokens. -/
theorem flush0_8 (a : (pcfg0 (F := F)).Adm) : ∀ t : Fin (cfg0 a).N, ((cfg0 a).win 8).flush t = true ↔ t.val % 16 = 15 :=
  (fun t => Pipeline.Window.flushOf_reads cc0_transform_8 reads0_8 hreads0_8 0 (by decide) (by decide) (Pipeline.Window.sep_of_coord cc0_transform_8 0 0 (fun _ => rfl) (by decide)) (P := 16) (m := 15) (by decide) rfl t : ∀ t : Fin grid0.N, Pipeline.Window.flushOf grid0 true cc0_transform_8 t = true ↔ t.val % 16 = 15)

/-- The kernel body at grid point `t`. -/
abbrev bodyAt0 (a : (pcfg0 (F := F)).Adm) (t : Fin (cfg0 a).N) : Prog (TpuEff nD τ sig (Elt F) Λ₀ .tc) PUnit :=
  cc0_moe (grid0.coords t) (Memref.whole main_arg0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8))

/-- What core `c` holds when the call starts: the arguments as launched. -/
abbrev V (c : Dev nD) (b : Ref sig .tc) : Buf (Elt F) ((c : Thread nD τ).loc b) := m ((c : Thread nD τ).loc b)

set_option maxHeartbeats 800000 in
/-- The host program is the call alone. -/
theorem hmain (𝒱₀ : Variants) : Pipeline.HMainP (Ix := Unit) (Name := ℕ) (U := UR sig nD τ) (Lvl := ℕ) pcfgs 0 defs₀ 𝒱₀ m (main (F := F)) (V m) :=
  Pipeline.hmainP_region pcfgs 0 defs₀ 𝒱₀ m main fun c => (main_chain c).trans rfl

theorem V_main_arg0 (c : Dev nD) : V m c main_arg0 = m ((c : Thread nD τ).loc main_arg0) := rfl
theorem V_main_arg1 (c : Dev nD) : V m c main_arg1 = m ((c : Thread nD τ).loc main_arg1) := rfl
theorem V_main_arg2 (c : Dev nD) : V m c main_arg2 = m ((c : Thread nD τ).loc main_arg2) := rfl
theorem V_main_arg3 (c : Dev nD) : V m c main_arg3 = m ((c : Thread nD τ).loc main_arg3) := rfl
theorem V_main_arg4 (c : Dev nD) : V m c main_arg4 = m ((c : Thread nD τ).loc main_arg4) := rfl
theorem V_main_arg5 (c : Dev nD) : V m c main_arg5 = m ((c : Thread nD τ).loc main_arg5) := rfl
theorem V_main_arg6 (c : Dev nD) : V m c main_arg6 = m ((c : Thread nD τ).loc main_arg6) := rfl
theorem V_main_arg7 (c : Dev nD) : V m c main_arg7 = m ((c : Thread nD τ).loc main_arg7) := rfl
theorem V_main_arg8 (c : Dev nD) : V m c main_arg8 = m ((c : Thread nD τ).loc main_arg8) := rfl

/-- The contents of the prefetched table of counts. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S256 .i32 := Memref.whole main_arg0
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-- The block of input window `w` at grid point `t`, read off its array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before0_7_of (hO : Ok m) {c : Dev nD} (dat : Dat τ (Elt F) Unit ℕ (UR sig nD τ) ℕ (cfgM m hO) c) (hA : dat.A 7 = V m c (Pipeline.arrRef spec0 7))
    (hafter : ∀ t, dat.after 7 t = iblk m hO c 7 t) (t : Fin (cfgM m hO).N) (d) : dat.before 7 t d = iblk m hO c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- The arguments are unchanged after a run to the pipeline's post-state. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (by decide : main_arg0 ∈ Pipeline.restRefs sig spec0)).trans (V_main_arg0 m c),
      ((h c).1 0).trans (((dats 0 c).arrAt_in 0 rfl _).trans ((hA c 0).trans (V_main_arg1 m c))),
      ((h c).1 1).trans (((dats 0 c).arrAt_in 1 rfl _).trans ((hA c 1).trans (V_main_arg2 m c))),
      ((h c).1 2).trans (((dats 0 c).arrAt_in 2 rfl _).trans ((hA c 2).trans (V_main_arg3 m c))),
      ((h c).1 3).trans (((dats 0 c).arrAt_in 3 rfl _).trans ((hA c 3).trans (V_main_arg4 m c))),
      ((h c).1 4).trans (((dats 0 c).arrAt_in 4 rfl _).trans ((hA c 4).trans (V_main_arg5 m c))),
      ((h c).1 5).trans (((dats 0 c).arrAt_in 5 rfl _).trans ((hA c 5).trans (V_main_arg6 m c))),
      ((h c).1 6).trans (((dats 0 c).arrAt_in 6 rfl _).trans ((hA c 6).trans (V_main_arg7 m c))),
      ((h c).1 7).trans (((dats 0 c).arrAt_in 7 rfl _).trans ((hA c 7).trans (V_main_arg8 m c)))⟩) h

/-- The grid step is at the first expert. -/
abbrev cond0_0 (i : grid0.Coords) : Prop := (Scalar.cmpi .ne (Scalar.extui (Scalar.cmpi .eq (BitVec.ofNat 32 (i 1).val) 0#32)) 0#32) = 1#1
theorem hcond0_0 : ∀ t : Fin grid0.N, cond0_0 (grid0.coords t) ↔ t.val % 16 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

/-- The grid step is at the last expert. -/
abbrev cond0_1 (i : grid0.Coords) : Prop := (Scalar.cmpi .ne (Scalar.extui (Scalar.cmpi .eq (BitVec.ofNat 32 (i 1).val) 15#32)) 0#32) = 1#1
theorem hcond0_1 : ∀ t : Fin grid0.N, cond0_1 (grid0.coords t) ↔ t.val % 16 = 15 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 1 % 16 := Pipeline.Grid.coords_val t 1 (by decide) rfl
    simp only [cond0_1, e0, e1]
    word_cmp
   : ∀ t : Fin grid0.N, cond0_1 (grid0.coords t) ↔ t.val % 16 = 15)

abbrev VO0_8 : View sig .tc .vmem S2048x1024 .f32 := (Memref.whole cc0_stg8_0 : Memref sig .tc .vmem S2048x1024 .f32).view
abbrev ms0_0 (hO : Ok m) (t : Fin (cfgM m hO).N) : Memref sig .tc .vmem S2048x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S16x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S16x2048 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x1024x512 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1024x512 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x512x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S2048x1024 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S1x1024 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S2048x1024 .f32 := spec0_8.stage ((cfgM m hO).slots t 8)
abbrev hs0_8 (hO : Ok m) (t : Fin (cfgM m hO).N) : (ms0_8 m hO t).IsWhole := hstage0_8 (((cfgM m hO).slots t 8).cast nbuf0_8)

end Cert.KernelIdeal.Moe

end
-- ==== Proof.Moe.RunA.lean ====
module

public import proofs.«01_k».proof.Proof.Moe.Kit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this case: the pieces it leaves in the output block are found by the run. -/
noncomputable def kernelRun0_A (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) :
    { L8 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ d, owns (c : Thread nD τ) arg11 fullShare d) ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ tbPt0 c tbM0_0 xt0) -∗ K ⟨⟩))
          ⊢ wp frame (wpE (defs₀ (F := F)) Variants.none c none) E (cc0_moe i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0_moe_eq_skeleton]; unfold cc0_moe_skel
    simp only [k0_part8_eq_skeleton, k0_part7_eq_skeleton, k0_part6_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7
    sl_exec (disch := first | sl_exact hc0 | sl_exact hc1 | exact chk1 _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexact HT0

end Cert.KernelIdeal.Moe

end
-- ==== Proof.Moe.RunB.lean ====
module

public import proofs.«01_k».proof.Proof.Moe.RunA

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this case: the pieces it leaves in the output block are found by the run. -/
noncomputable def kernelRun0_B (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32) :
    { L8 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ tbPt0 c tbM0_0 xt0) -∗ K ⟨⟩))
          ⊢ wp frame (wpE (defs₀ (F := F)) Variants.none c none) E (cc0_moe i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0_moe_eq_skeleton]; unfold cc0_moe_skel
    simp only [k0_part8_eq_skeleton, k0_part7_eq_skeleton, k0_part6_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | exact chk1 _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexact HT0

end Cert.KernelIdeal.Moe

end
-- ==== Proof.Moe.RunC.lean ====
module

public import proofs.«01_k».proof.Proof.Moe.RunB

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body run once in this case: the pieces it leaves in the output block are found by the run. -/
noncomputable def kernelRun0_C (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32) :
    { L8 : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare xo8 ∗ tbPt0 c tbM0_0 xt0
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ (∃ f, arg11.view.loc (c : Thread nD τ) ↦[arg11.view.set]{fullShare} arg11.view.writes (Elt F) f L8) ∗ tbPt0 c tbM0_0 xt0) -∗ K ⟨⟩))
          ⊢ wp frame (wpE (defs₀ (F := F)) Variants.none c none) E (cc0_moe i tbM0_0 htbM0_0 arg3 harg3 arg4 harg4 arg5 harg5 arg6 harg6 arg7 harg7 arg8 harg8 arg9 harg9 arg10 harg10 arg11 harg11) K } := by
  refine ⟨?_, fun E K => ?run⟩
  case run =>
    simp only [cc0_moe_eq_skeleton]; unfold cc0_moe_skel
    simp only [k0_part8_eq_skeleton, k0_part7_eq_skeleton, k0_part6_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, HT0, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
    sl_exec (disch := first | sl_exact hc0 | sl_exact hc1 | exact chk1 _ _)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]; · iexists _; iexact H8
    iexact HT0

end Cert.KernelIdeal.Moe

end
-- ==== Proof.Moe.Frame.lean ====
module

public import proofs.«01_k».proof.Proof.Moe.RunC
public import Idealize.ShloMosaic.Lib.Claim

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem cover_append {S : Shape} {e : EltTy} (L M : List (View.Piece (Elt F) S e)) {y : S.Idx} (h : ∃ pc ∈ M, y ∈ pc.1.set) :
    ∃ pc ∈ L ++ M, y ∈ pc.1.set := by
  obtain ⟨pc, hp, hy⟩ := h
  exact ⟨pc, List.mem_append_right _ hp, hy⟩

/-- The pieces left in this case cover the output block. -/
theorem cover0_A_8 (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (y : S2048x1024.Idx) :
    ∃ pc ∈ (kernelRun0_A c i arg3 harg3 arg4 harg4 arg5 harg5 arg6 harg6 arg7 harg7 arg8 harg8 arg9 harg9 arg10 harg10 arg11 harg11 hc0 hc1 x0 x1 x2 x3 x4 x5 x6 x7 xt0).1, y ∈ pc.1.set := by
  unfold kernelRun0_A
  refine cover_append _ _ (cover_append _ _ ?_)
  exact View.cover_of_tiledBy _ ![1024, 1024] (by sl_kernel_rfl) y

/-- What this case leaves in the output block. -/
def out0_A_8 (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) : Vec F S2048x1024 .f32 :=
  VO0_8.read (Elt F) (VO0_8.writes (Elt F) VO0_8.junk (kernelRun0_A c i arg3 harg3 arg4 harg4 arg5 harg5 arg6 harg6 arg7 harg7 arg8 harg8 arg9 harg9 arg10 harg10 arg11 harg11 hc0 hc1 x0 x1 x2 x3 x4 x5 x6 x7 xt0).1)

/-- The pieces left in this case cover the output block. -/
theorem cover0_B_8 (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32) (y : S2048x1024.Idx) :
    ∃ pc ∈ (kernelRun0_B c i arg3 harg3 arg4 harg4 arg5 harg5 arg6 harg6 arg7 harg7 arg8 harg8 arg9 harg9 arg10 harg10 arg11 harg11 hc0 hc1 x0 x1 x2 x3 x4 x5 x6 x7 xt0 xo8).1, y ∈ pc.1.set := by
  unfold kernelRun0_B
  refine cover_append _ _ (cover_append _ _ ?_)
  exact View.cover_of_tiledBy _ ![1024, 1024] (by sl_kernel_rfl) y

/-- What this case leaves in the output block. -/
def out0_B_8 (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32) : Vec F S2048x1024 .f32 :=
  VO0_8.read (Elt F) (VO0_8.writes (Elt F) VO0_8.junk (kernelRun0_B c i arg3 harg3 arg4 harg4 arg5 harg5 arg6 harg6 arg7 harg7 arg8 harg8 arg9 harg9 arg10 harg10 arg11 harg11 hc0 hc1 x0 x1 x2 x3 x4 x5 x6 x7 xt0 xo8).1)

/-- The pieces left in this case cover the output block. -/
theorem cover0_C_8 (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32) (y : S2048x1024.Idx) :
    ∃ pc ∈ (kernelRun0_C c i arg3 harg3 arg4 harg4 arg5 harg5 arg6 harg6 arg7 harg7 arg8 harg8 arg9 harg9 arg10 harg10 arg11 harg11 hc0 hc1 x0 x1 x2 x3 x4 x5 x6 x7 xt0 xo8).1, y ∈ pc.1.set := by
  unfold kernelRun0_C
  refine cover_append [_] _ (cover_append _ _ (cover_append _ _ ?_))
  exact View.cover_of_tiledBy _ ![1024, 1024] (by sl_kernel_rfl) y

/-- What this case leaves in the output block. -/
def out0_C_8 (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32) : Vec F S2048x1024 .f32 :=
  VO0_8.read (Elt F) (VO0_8.writes (Elt F) VO0_8.junk (kernelRun0_C c i arg3 harg3 arg4 harg4 arg5 harg5 arg6 harg6 arg7 harg7 arg8 harg8 arg9 harg9 arg10 harg10 arg11 harg11 hc0 hc1 x0 x1 x2 x3 x4 x5 x6 x7 xt0 xo8).1)

/-- What the output block holds after each grid point. -/
def outsAt0 (hO : Ok m) (c : Dev nD) : (n : ℕ) → n < (cfgM m hO).N → Vec F S2048x1024 .f32
  | 0, hn => out0_A_8 c (grid0.coords ⟨0, hn⟩) (ms0_0 m hO ⟨0, hn⟩) (hs0_0 m hO ⟨0, hn⟩) (ms0_1 m hO ⟨0, hn⟩) (hs0_1 m hO ⟨0, hn⟩) (ms0_2 m hO ⟨0, hn⟩) (hs0_2 m hO ⟨0, hn⟩) (ms0_3 m hO ⟨0, hn⟩) (hs0_3 m hO ⟨0, hn⟩) (ms0_4 m hO ⟨0, hn⟩) (hs0_4 m hO ⟨0, hn⟩) (ms0_5 m hO ⟨0, hn⟩) (hs0_5 m hO ⟨0, hn⟩) (ms0_6 m hO ⟨0, hn⟩) (hs0_6 m hO ⟨0, hn⟩) (ms0_7 m hO ⟨0, hn⟩) (hs0_7 m hO ⟨0, hn⟩) (ms0_8 m hO ⟨0, hn⟩) (hs0_8 m hO ⟨0, hn⟩) ((hcond0_0 ⟨0, hn⟩).mpr (Nat.zero_mod _)) (fun h => (fun h => by (try dsimp only at h); omega) ((hcond0_1 ⟨0, hn⟩).mp h)) (iblk m hO c 0 ⟨0, hn⟩) (iblk m hO c 1 ⟨0, hn⟩) (iblk m hO c 2 ⟨0, hn⟩) (iblk m hO c 3 ⟨0, hn⟩) (iblk m hO c 4 ⟨0, hn⟩) (iblk m hO c 5 ⟨0, hn⟩) (iblk m hO c 6 ⟨0, hn⟩) (iblk m hO c 7 ⟨0, hn⟩) (tbl m 0)
  | n + 1, hn =>
    if h0 : (n + 1) % 16 = 0 then
      if h1 : (n + 1) % 16 = 15 then
        False.elim (by have hN : n + 1 < 128 := lt_of_lt_of_eq hn (show (cfgM m hO).N = 128 from N_0); omega)
      else
        out0_A_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) ((hcond0_0 ⟨n + 1, hn⟩).mpr h0) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0)
    else
      if h1 : (n + 1) % 16 = 15 then
        out0_C_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (fun h => h0 ((hcond0_0 ⟨n + 1, hn⟩).mp h)) ((hcond0_1 ⟨n + 1, hn⟩).mpr h1) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn))
      else
        out0_B_8 c (grid0.coords ⟨n + 1, hn⟩) (ms0_0 m hO ⟨n + 1, hn⟩) (hs0_0 m hO ⟨n + 1, hn⟩) (ms0_1 m hO ⟨n + 1, hn⟩) (hs0_1 m hO ⟨n + 1, hn⟩) (ms0_2 m hO ⟨n + 1, hn⟩) (hs0_2 m hO ⟨n + 1, hn⟩) (ms0_3 m hO ⟨n + 1, hn⟩) (hs0_3 m hO ⟨n + 1, hn⟩) (ms0_4 m hO ⟨n + 1, hn⟩) (hs0_4 m hO ⟨n + 1, hn⟩) (ms0_5 m hO ⟨n + 1, hn⟩) (hs0_5 m hO ⟨n + 1, hn⟩) (ms0_6 m hO ⟨n + 1, hn⟩) (hs0_6 m hO ⟨n + 1, hn⟩) (ms0_7 m hO ⟨n + 1, hn⟩) (hs0_7 m hO ⟨n + 1, hn⟩) (ms0_8 m hO ⟨n + 1, hn⟩) (hs0_8 m hO ⟨n + 1, hn⟩) (fun h => h0 ((hcond0_0 ⟨n + 1, hn⟩).mp h)) (fun h => h1 ((hcond0_1 ⟨n + 1, hn⟩).mp h)) (iblk m hO c 0 ⟨n + 1, hn⟩) (iblk m hO c 1 ⟨n + 1, hn⟩) (iblk m hO c 2 ⟨n + 1, hn⟩) (iblk m hO c 3 ⟨n + 1, hn⟩) (iblk m hO c 4 ⟨n + 1, hn⟩) (iblk m hO c 5 ⟨n + 1, hn⟩) (iblk m hO c 6 ⟨n + 1, hn⟩) (iblk m hO c 7 ⟨n + 1, hn⟩) (tbl m 0) (outsAt0 hO c n (Nat.lt_of_succ_lt hn))

theorem outsAt0_A (hO : Ok m) (c : Dev nD) (t : Fin (cfgM m hO).N) (h0 : t.val % 16 = 0) (h1 : ¬t.val % 16 = 15) :
    outsAt0 m hO c t.val t.isLt = out0_A_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) := by
  obtain ⟨n, hn⟩ := t
  cases n with
  | zero => exact rfl
  | succ n => exact (dif_pos h0).trans ((dif_neg h1).trans rfl)

theorem outsAt0_B (hO : Ok m) (c : Dev nD) (t : Fin (cfgM m hO).N) (h0 : ¬t.val % 16 = 0) (h1 : ¬t.val % 16 = 15) :
    outsAt0 m hO c t.val t.isLt = out0_B_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_neg h1).trans rfl)

theorem outsAt0_C (hO : Ok m) (c : Dev nD) (t : Fin (cfgM m hO).N) (h0 : ¬t.val % 16 = 0) (h1 : t.val % 16 = 15) :
    outsAt0 m hO c t.val t.isLt = out0_C_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) (outsAt0 m hO c (t.val - 1) (Nat.lt_of_le_of_lt (Nat.sub_le _ _) t.isLt)) := by
  obtain ⟨n, hn⟩ := t
  cases n with
  | zero => exact (by exfalso; (try dsimp only at h0); exact absurd (Nat.zero_mod _) h0)
  | succ n => exact (dif_neg h0).trans ((dif_pos h1).trans rfl)

/-- The data of the pipeline: arrays, contents after each point, invariant. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => (outsAt0 m hO c t.val t.isLt)
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = (outsAt0 m hO c t.val t.isLt) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8_B (hO : Ok m) (c : Dev nD) (t : Fin (cfgM m hO).N) (h0 : ¬t.val % 16 = 0) (h1 : ¬t.val % 16 = 15) (d) :
    (dats m hO 0 c).before 8 t d = (outsAt0 m hO c (t.val - 1) (Nat.lt_of_le_of_lt (Nat.sub_le _ _) t.isLt)) := by
  have hN : t.val < 128 := lt_of_lt_of_eq t.isLt (show (cfgM m hO).N = 128 from N_0)
  rw [Dat.before_out_kept _ 8 rfl t (by omega) (Bool.eq_false_iff.mpr fun h => by have := (flush0_8 (adm m hO) _).mp h; dsimp only at this; omega)
    (fun _ => rfl) (fun _ _ => rfl)]
  dsimp only [dats]
  try rfl
theorem before0_8_C (hO : Ok m) (c : Dev nD) (t : Fin (cfgM m hO).N) (h0 : ¬t.val % 16 = 0) (h1 : t.val % 16 = 15) (d) :
    (dats m hO 0 c).before 8 t d = (outsAt0 m hO c (t.val - 1) (Nat.lt_of_le_of_lt (Nat.sub_le _ _) t.isLt)) := by
  have hN : t.val < 128 := lt_of_lt_of_eq t.isLt (show (cfgM m hO).N = 128 from N_0)
  rw [Dat.before_out_kept _ 8 rfl t (by omega) (Bool.eq_false_iff.mpr fun h => by have := (flush0_8 (adm m hO) _).mp h; dsimp only at this; omega)
    (fun _ => rfl) (fun _ _ => rfl)]
  dsimp only [dats]
  try rfl

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t))

set_option maxHeartbeats 2400000 in
/-- The body meets its obligation at every grid point. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8]
  rw [show (dats m hO 0 c).Φ t.castSucc = iprop(Pipeline.ΦA spec0 c ∗ Pipeline.ΦT pre0 (tbl m) c) from rfl, PhiT0_eq]
  have hN : t.val < 128 := lt_of_lt_of_eq t.isLt (show (cfgM m hO).N = 128 from N_0)
  by_cases h0 : t.val % 16 = 0
  · by_cases h1 : t.val % 16 = 15
    · exfalso; omega
    · rw [outsAt0_A m hO c t h0 h1]
      unfold out0_A_8
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_A c (grid0.coords t) _ _ _ _ _ _ _ _ _ _ _ _ _ _ _ _ _ _ ((hcond0_0 t).mpr h0) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0)).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HT0]; · iexact HT0
      iintro ⟨H0, H1, H2, H3, H4, H5, H6, H7, ⟨%e8, H8⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_A_8 c _ _ _ _ _ _ _ _ _ _ _ _ _ _ _ _ _ _ _ _ _ _ _ _ _ _ _ _ _ _)
  · by_cases h1 : t.val % 16 = 15
    · rw [outsAt0_C m hO c t h0 h1]
      simp only [before0_8_C m hO c t h0 h1]
      unfold out0_C_8
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_C c (grid0.coords t) _ _ _ _ _ _ _ _ _ _ _ _ _ _ _ _ _ _ (fun h => h0 ((hcond0_0 t).mp h)) ((hcond0_1 t).mpr h1) (iblk m hO c 0 t) (iblk m hO c 1 t) (iblk m hO c 2 t) (iblk m hO c 3 t) (iblk m hO c 4 t) (iblk m hO c 5 t) (iblk m hO c 6 t) (iblk m hO c 7 t) (tbl m 0) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iintro ⟨H0, H1, H2, H3, H4, H5, H6, H7, ⟨%e8, H8⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_C_8 c _ _ _ _ _ _ _ _ _ _ _ _ _ _ _ _ _ _ _ _ _ _ _ _ _ _ _ _ _ _ _)
    · rw [outsAt0_B m hO c t h0 h1]
      simp only [before0_8_B m hO c t h0 h1]
      unfold out0_B_8
      iintro ⟨⟨HΦ, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun0_B c (grid0.coords t) _ _ _ _ _ _ _ _ _ _ _ _ _ _ _ _ _ _ (fun h => h0 ((hcond0_0 t).mp h)) (fun h => h1 ((hcond0_1 t).mp h)) (iblk m hO c 0 t) (iblk m hO c 1 t) (iblk m hO c 2 t) (iblk m hO c 3 t) (iblk m hO c 4 t) (iblk m hO c 5 t) (iblk m hO c 6 t) (iblk m hO c 7 t) (tbl m 0) _).2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HT0]; · iexact HT0
      iintro ⟨H0, H1, H2, H3, H4, H5, H6, H7, ⟨%e8, H8⟩, HT0⟩
      isplitl [HΦ HT0]
      · isplitl [HΦ]
        · iexact HΦ
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover0_B_8 c _ _ _ _ _ _ _ _ _ _ _ _ _ _ _ _ _ _ _ _ _ _ _ _ _ _ _ _ _ _ _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hΦ := fun _ _ => rfl)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Moe

end
-- ==== Proof.Moe.Steps.lean ====
module

public import proofs.«01_k».proof.Proof.Moe.Frame
public import Idealize.ShloMosaic.Lib.WritesUnit
public import Idealize.ShloMosaic.Lib.Pointwise

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Rows 0 to 1023 of a block. -/
def top {α : Type} (v : S2048x1024.Idx → α) : S1024x1024.Idx → α := fun x => v (ix2 ⟨(x 0).val, Nat.lt_of_lt_of_le (x 0).isLt (by decide)⟩ (x 1))

/-- Rows 1024 to 2047 of a block. -/
def bot {α : Type} (v : S2048x1024.Idx → α) : S1024x1024.Idx → α := fun x => v (ix2 ⟨1024 + (x 0).val, by have := (x 0).isLt; change (x 0).val < 1024 at this; omega⟩ (x 1))

/-- The block with the given halves. -/
def join {α : Type} (a b : S1024x1024.Idx → α) : S2048x1024.Idx → α := fun y =>
  if h : (y 0).val < 1024 then a (ix2 ⟨(y 0).val, h⟩ (y 1)) else b (ix2 ⟨(y 0).val - 1024, by have := (y 0).isLt; change (y 0).val < 2048 at this; omega⟩ (y 1))

theorem top_join {α : Type} (a b : S1024x1024.Idx → α) : top (join a b) = a := by
  funext x
  unfold top join
  rw [dif_pos (by show (x 0).val < 1024; exact (x 0).isLt)]
  congr 1
  exact (eq_ix2 x).symm

theorem bot_join {α : Type} (a b : S1024x1024.Idx → α) : bot (join a b) = b := by
  funext x
  unfold bot join
  rw [dif_neg (by show ¬ 1024 + (x 0).val < 1024; omega)]
  refine congrArg b ?_
  rw [eq_ix2 x]
  congr 1
  apply Fin.ext
  show 1024 + (x 0).val - 1024 = (x 0).val
  omega

theorem join_top_bot {α : Type} (v : S2048x1024.Idx → α) : join (top v) (bot v) = v := by
  funext y
  unfold join top bot
  split
  · next h => exact congrArg v (eq_ix2 y).symm
  · next h =>
    refine congrArg v (Eq.trans ?_ (eq_ix2 y).symm)
    congr 1
    apply Fin.ext
    show 1024 + ((y 0).val - 1024) = (y 0).val
    have : ¬ (y 0).val < 1024 := h
    omega

/-- A load of the upper rows. -/
theorem ld_top {e : EltTy} (v : Vec F S2048x1024 e) (inb) :
    View.ld (Val := Elt F) v (Rect.unit (s := S2048x1024) ![0, 0] ![1024, 1024] inb) = top v := by
  funext x
  show v _ = v _
  refine congrArg v ?_
  funext a
  apply Fin.ext
  fin_cases a
  · show 0 + 1 * (x 0).val = (x 0).val; omega
  · show 0 + 1 * (x 1).val = (x 1).val; omega

/-- A load of the lower rows. -/
theorem ld_bot {e : EltTy} (v : Vec F S2048x1024 e) (inb) :
    View.ld (Val := Elt F) v (Rect.unit (s := S2048x1024) ![1024, 0] ![1024, 1024] inb) = bot v := by
  funext x
  show v _ = v _
  refine congrArg v ?_
  funext a
  apply Fin.ext
  fin_cases a
  · show 1024 + 1 * (x 0).val = 1024 + (x 0).val; omega
  · show 0 + 1 * (x 1).val = (x 1).val; omega

/-- Both halves stored leave their join. -/
theorem read_halves {κ : Kind} {sp : Space} {e : EltTy} (v : View sig κ sp S2048x1024 e) (f : v.ty.Contents (Elt F)) (inbA inbB)
    (a b : S1024x1024.Idx → Elt F e) (L : List (View.Piece (Elt F) S2048x1024 e)) :
    v.read (Elt F) (v.writes (Elt F) f (⟨Rect.unit (s := S2048x1024) ![1024, 0] ![1024, 1024] inbB, b⟩ :: ⟨Rect.unit (s := S2048x1024) ![0, 0] ![1024, 1024] inbA, a⟩ :: L)) = join a b := by
  funext y
  have hy := (y 0).isLt
  change (y 0).val < 2048 at hy
  unfold join
  split
  · next h =>
    rw [View.read_writes_cons_rows_of_not_mem v f inbB b _ y (o := 1024) (W := 1024) rfl rfl (Or.inl h)]
    exact View.read_writes_cons_rows_of_mem v f inbA a L y (ix2 ⟨(y 0).val, h⟩ (y 1)) (o := 0) rfl (Nat.zero_add _).symm rfl
  · next h =>
    have h' : 1024 ≤ (y 0).val := Nat.le_of_not_lt h
    exact View.read_writes_cons_rows_of_mem v f inbB b _ y (ix2 ⟨(y 0).val - 1024, by omega⟩ (y 1)) (o := 1024) rfl (by show (y 0).val = 1024 + ((y 0).val - 1024); omega) rfl

/-- One sub-tile: the 256 slots from `base` on, gathered, put through the expert and scattered back onto the rows. -/
def tile (v4 v6 : FVec F S1024x512 .bf16) (v8 : FVec F S512x1024 .bf16) (p w : FVec F S1x1024 .f32) (base : F .f32)
    (h : Vec F S1024x1024 .bf16) (acc : Vec F S1024x1024 .f32) : FVec F S1024x1024 .f32 :=
  have v152 : FVec F S256x1024 .f32 := broadcast S256x1024 base
  have v153 : FVec F S256x1024 .f32 := addf (k0_pay9 (F := F)) v152
  have v154 : FVec F S256x1024 .f32 := broadcastTo S256x1024 p broadcasts_S1x1024_S256x1024
  have v155 : IVec S256x1024 1 := cmpf .oeq v154 v153
  have cst_70 : F .f32 := Scalar.ofBits .f32 0x3F800000#32
  have cst_71 : F .f32 := Scalar.ofBits .f32 0x00000000#32
  have v156 : FVec F S256x1024 .f32 := broadcast S256x1024 cst_70
  have v157 : FVec F S256x1024 .f32 := broadcast S256x1024 cst_71
  have v158 : FVec F S256x1024 .f32 := select v155 v156 v157
  have v159 : FVec F S256x1024 .bf16 := truncf .bf16 v158 bitsLt_bf16_f32
  have cst_74 : FVec F S256x1024 .f32 := constant S256x1024 .f32 0x00000000#32
  have v161 : FVec F S256x1024 .f32 := matmul dot_S256x1024_S1024x1024_S256x1024_1_0_0_1_n_n none v159 h cst_74
  have v162 : FVec F S256x1024 .bf16 := truncf .bf16 v161 bitsLt_bf16_f32
  have cst_75 : FVec F S256x512 .f32 := constant S256x512 .f32 0x00000000#32
  have v163 : FVec F S256x512 .f32 := matmul dot_S256x1024_S1024x512_S256x512_1_0_0_1_n_n none v162 v4 cst_75
  have cst_76 : F .f32 := Scalar.ofBits .f32 0x00000000#32
  have v164 : FVec F S256x512 .f32 := broadcast S256x512 cst_76
  have v165 : FVec F S256x512 .f32 := subf v164 v163
  have v166 : FVec F S256x512 .f32 := exp v165
  have cst_77 : F .f32 := Scalar.ofBits .f32 0x3F800000#32
  have v167 : FVec F S256x512 .f32 := broadcast S256x512 cst_77
  have v168 : FVec F S256x512 .f32 := addf v167 v166
  have cst_78 : F .f32 := Scalar.ofBits .f32 0x3F800000#32
  have v169 : FVec F S256x512 .f32 := broadcast S256x512 cst_78
  have v170 : FVec F S256x512 .f32 := divf v169 v168
  have v171 : FVec F S256x512 .f32 := mulf v163 v170
  have cst_79 : FVec F S256x512 .f32 := constant S256x512 .f32 0x00000000#32
  have v172 : FVec F S256x512 .f32 := matmul dot_S256x1024_S1024x512_S256x512_1_0_0_1_n_n none v162 v6 cst_79
  have v173 : FVec F S256x512 .f32 := mulf v171 v172
  have v174 : FVec F S256x512 .bf16 := truncf .bf16 v173 bitsLt_bf16_f32
  have cst_80 : FVec F S256x1024 .f32 := constant S256x1024 .f32 0x00000000#32
  have v175 : FVec F S256x1024 .f32 := matmul dot_S256x512_S512x1024_S256x1024_1_0_0_1_n_n none v174 v8 cst_80
  have v176 : FVec F S256x1024 .bf16 := truncf .bf16 v175 bitsLt_bf16_f32
  have cst_81 : F .f32 := Scalar.ofBits .f32 0x00000000#32
  have v178 : FVec F S1x1024 .f32 := shapeCast S1x1024 w shapeCasts_S1x1024_S1x1024
  have v179 : FVec F S256x1024 .f32 := broadcastTo S256x1024 v178 broadcasts_S1x1024_S256x1024
  have v180 : FVec F S256x1024 .f32 := broadcast S256x1024 cst_81
  have v181 : FVec F S256x1024 .f32 := select v155 v179 v180
  have v182 : FVec F S1024x256 .f32 := transpose S1024x256 [1, 0] v181 transposes_S256x1024_p1_0_S1024x256
  have v183 : FVec F S1024x256 .bf16 := truncf .bf16 v182 bitsLt_bf16_f32
  have v185 : FVec F S1024x1024 .f32 := shapeCast S1024x1024 acc shapeCasts_S1024x1024_S1024x1024
  have cst_84 : FVec F S1024x1024 .f32 := constant S1024x1024 .f32 0x00000000#32
  have v186 : FVec F S1024x1024 .f32 := matmul dot_S1024x256_S256x1024_S1024x1024_1_0_0_1_n_n none v183 v176 cst_84
  have v187 : FVec F S1024x1024 .f32 := addf v185 v186
  v187

/-- One sub-tile of each half of the block. -/
def step (v4 v6 : FVec F S1024x512 .bf16) (v8 : FVec F S512x1024 .bf16) (v10 v12 : Vec F S1x2048 .f32) (base : F .f32)
    (h : Vec F S2048x1024 .bf16) (acc : Vec F S2048x1024 .f32) : Vec F S2048x1024 .f32 :=
  join
    (tile v4 v6 v8 (extractStridedSlice S1x1024 ![0, 0] v10 slices_S1x2048_o0_0_S1x1024) (extractStridedSlice S1x1024 ![0, 0] v12 slices_S1x2048_o0_0_S1x1024) base (top h) (top acc))
    (tile v4 v6 v8 (extractStridedSlice S1x1024 ![0, 1024] v10 slices_S1x2048_o0_1024_S1x1024) (extractStridedSlice S1x1024 ![0, 1024] v12 slices_S1x2048_o0_1024_S1x1024) base (bot h) (bot acc))

/-- The first slot of the sub-tile of trip `k`. -/
def base1 (k : ℕ) : F .f32 := Scalar.sitofp .f32 (Scalar.muli (Scf.iv 1#32 1#32 k) 256#32)

/-- The block after the first sub-tile and `n` trips. -/
def steps (v4 v6 : FVec F S1024x512 .bf16) (v8 : FVec F S512x1024 .bf16) (v10 v12 : Vec F S1x2048 .f32)
    (h : Vec F S2048x1024 .bf16) (acc : Vec F S2048x1024 .f32) : ℕ → Vec F S2048x1024 .f32
  | 0 => acc
  | n + 1 => step v4 v6 v8 v10 v12 (base1 n) h (steps v4 v6 v8 v10 v12 h acc n)

/-- What one trip leaves in the block. -/
theorem read_trip (𝒱 : Variants) (c : Dev nD) (bd : Option 𝒱.V) (i : grid0.Coords) (arg2 : Memref sig .tc .smem S256 .i32) (harg2 : arg2.IsWhole) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (v4 : FVec F S1024x512 .bf16) (v6 : FVec F S1024x512 .bf16) (v8 : FVec F S512x1024 .bf16) (v10 : Vec F S1x2048 .f32) (v12 : Vec F S1x2048 .f32) (v96 : Elt F .i32) (v121 : Elt F .i32) (k0_hw1 : k0_chk1 v96 v121) (X_arg3 : BufTy.Contents (Elt F) arg3.view.ty) (k : Fin (k0_t1_loop v96 v121).trips) (f_arg11 : BufTy.Contents (Elt F) arg11.view.ty)
    {κ : Kind} {sp : Space} (v : View sig κ sp S2048x1024 .f32) (g : v.ty.Contents (Elt F)) (L : List (View.Piece (Elt F) S2048x1024 .f32)) :
    v.read (Elt F) (v.writes (Elt F) g (tripL_k0_t1 (F := F) 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 X_arg3 k f_arg11 ++ L))
      = step v4 v6 v8 v10 v12 (base1 k.val) (arg3.view.read (Elt F) X_arg3) (arg11.view.read (Elt F) f_arg11) := by
  unfold tripL_k0_t1 trip_k0_t1
  dsimp only
  rw [List.cons_append, List.cons_append, read_halves]
  unfold trip_k0_t1.sl.v224 trip_k0_t1.sl.arg12
  rw [View.readAt_eq_ld, View.readAt_eq_ld, View.readAt_eq_ld, View.readAt_eq_ld]
  unfold step
  rw [ld_top, ld_top, ld_bot, ld_bot]
  rfl

/-- What the first `n` trips leave in the block. -/
theorem read_trips (𝒱 : Variants) (c : Dev nD) (bd : Option 𝒱.V) (i : grid0.Coords) (arg2 : Memref sig .tc .smem S256 .i32) (harg2 : arg2.IsWhole) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (v4 : FVec F S1024x512 .bf16) (v6 : FVec F S1024x512 .bf16) (v8 : FVec F S512x1024 .bf16) (v10 : Vec F S1x2048 .f32) (v12 : Vec F S1x2048 .f32) (v96 : Elt F .i32) (v121 : Elt F .i32) (k0_hw1 : k0_chk1 v96 v121) (X_arg3 : BufTy.Contents (Elt F) arg3.view.ty) (n : ℕ) (hn : n ≤ (k0_t1_loop v96 v121).trips) (G : BufTy.Contents (Elt F) arg11.view.ty)
    {κ : Kind} {sp : Space} (v : View sig κ sp S2048x1024 .f32) (g : v.ty.Contents (Elt F)) (L : List (View.Piece (Elt F) S2048x1024 .f32))
    (hL : v.read (Elt F) (v.writes (Elt F) g L) = arg11.view.read (Elt F) G) :
    v.read (Elt F) (v.writes (Elt F) g (pb_k0_t1 (F := F) 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 X_arg3 G n ++ L))
      = steps v4 v6 v8 v10 v12 (arg3.view.read (Elt F) X_arg3) (arg11.view.read (Elt F) G) n := by
  have key : ∀ n, n ≤ (k0_t1_loop v96 v121).trips → arg11.view.read (Elt F) (arg11.view.writes (Elt F) G (pb_k0_t1 (F := F) 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 X_arg3 G n)) = steps v4 v6 v8 v10 v12 (arg3.view.read (Elt F) X_arg3) (arg11.view.read (Elt F) G) n := by
    intro n
    induction n with
    | zero => intro _; rfl
    | succ n ih =>
      intro hn
      rw [pb_k0_t1_succ 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 X_arg3 G ⟨n, hn⟩, read_trip, ih (Nat.le_of_succ_le hn)]
      rfl
  cases n with
  | zero => exact hL
  | succ n =>
    rw [pb_k0_t1_succ 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 X_arg3 G ⟨n, hn⟩, List.append_assoc, read_trip, key n (Nat.le_of_succ_le hn)]
    rfl

end Cert.KernelIdeal.Moe

end
-- ==== Proof.Moe.Tile.lean ====
module

public import proofs.«01_k».proof.Proof.Moe.Steps
public import Idealize.ShloMosaic.Lib.Pointwise
public import Idealize.ShloMosaic.Lib.ValueIdxCore

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

/-- The expert's gated layer of a row `x` at the hidden unit `n`. -/
def hid (wg wu : FVec Ideal S1024x512 .bf16) (x : Fin 1024 → EReal) (n : Fin 512) : EReal :=
  ((∑ k : Fin 1024, x k * wg (ix2 k n)) * Ideal.div 1 (1 + Ideal.exp (-(∑ k : Fin 1024, x k * wg (ix2 k n))))) * ∑ k : Fin 1024, x k * wu (ix2 k n)

/-- The expert's layer of a row `x` at the column `d`. -/
def mlp (wg wu : FVec Ideal S1024x512 .bf16) (wd : FVec Ideal S512x1024 .bf16) (x : Fin 1024 → EReal) (d : Fin 1024) : EReal :=
  ∑ n : Fin 512, hid wg wu x n * wd (ix2 n d)

/-- The slot number `n` as a value. -/
def slot (n : ℕ) : EReal := ((n : ℝ) : EReal)

theorem slot_inj {a b : ℕ} (h : slot a = slot b) : a = b := by
  unfold slot at h
  exact_mod_cast h

theorem slot_add (a b : ℕ) : slot a + slot b = slot (a + b) := by
  unfold slot
  exact_mod_cast rfl

theorem slot_nonneg (n : ℕ) : 0 ≤ slot n := by
  unfold slot
  exact_mod_cast Nat.zero_le n

theorem pay9_apply (r : Fin 256) (t : Fin 1024) : k0_pay9 (F := Ideal) (ix2 r t) = slot r.val := by
  have h : ∀ r : Fin 256, (BitVec.ofNat 32 r.val).toInt = (r.val : ℤ) := by decide
  have e : k0_pay9 (F := Ideal) (ix2 r t) = (((BitVec.ofNat 32 r.val).toInt : ℝ) : EReal) := by
    unfold k0_pay9
    pointwise
    rfl
  rw [e, h r]
  rfl

theorem tile_apply (wg wu : FVec Ideal S1024x512 .bf16) (wd : FVec Ideal S512x1024 .bf16) (p w : FVec Ideal S1x1024 .f32) (b : ℕ)
    (h : FVec Ideal S1024x1024 .bf16) (acc : FVec Ideal S1024x1024 .f32) (t d : Fin 1024) :
    tile (F := Ideal) wg wu wd p w (slot b) h acc (ix2 t d) = acc (ix2 t d) + ∑ r : Fin 256,
      (if p (ix2 0 t) = slot (r.val + b) then w (ix2 0 t) else 0)
        * mlp wg wu wd (fun k => ∑ t' : Fin 1024, (if p (ix2 0 t') = slot (r.val + b) then 1 else 0) * h (ix2 t' k)) d := by
  unfold tile mlp hid
  dsimp only
  pointwise
  simp only [pay9_apply, slot_add, zero_sub]

/-- A token whose slot lies in the sub-tile gets its weighed expert's layer. -/
theorem tile_hit (wg wu : FVec Ideal S1024x512 .bf16) (wd : FVec Ideal S512x1024 .bf16) (p w : FVec Ideal S1x1024 .f32) (b : ℕ)
    (h : FVec Ideal S1024x1024 .bf16) (acc : FVec Ideal S1024x1024 .f32) (t d : Fin 1024) (n : ℕ) (hn : p (ix2 0 t) = slot n)
    (hb : b ≤ n) (hn2 : n < b + 256) (hinj : ∀ t', p (ix2 0 t') = p (ix2 0 t) → t' = t) :
    tile (F := Ideal) wg wu wd p w (slot b) h acc (ix2 t d) = acc (ix2 t d) + w (ix2 0 t) * mlp wg wu wd (fun k => h (ix2 t k)) d := by
  rw [tile_apply]
  congr 1
  have e : (n - b) + b = n := Nat.sub_add_cancel hb
  rw [Finset.sum_eq_single (⟨n - b, by omega⟩ : Fin 256)]
  · dsimp only
    rw [e, if_pos hn]
    congr 2
    funext k
    rw [Finset.sum_eq_single t]
    · rw [if_pos hn, one_mul]
    · intro t' _ ht
      rw [if_neg (fun h => ht (hinj t' (h.trans hn.symm))), zero_mul]
    · intro h; exact absurd (Finset.mem_univ _) h
  · intro r _ hr
    rw [if_neg, zero_mul]
    intro h
    have := slot_inj (hn.symm.trans h)
    exact hr (Fin.ext (by show r.val = n - b; omega))
  · intro h; exact absurd (Finset.mem_univ _) h

/-- A token whose slot lies elsewhere, or that has none, keeps its row. -/
theorem tile_miss (wg wu : FVec Ideal S1024x512 .bf16) (wd : FVec Ideal S512x1024 .bf16) (p w : FVec Ideal S1x1024 .f32) (b : ℕ)
    (h : FVec Ideal S1024x1024 .bf16) (acc : FVec Ideal S1024x1024 .f32) (t d : Fin 1024) (hn : ∀ r : Fin 256, p (ix2 0 t) ≠ slot (r.val + b)) :
    tile (F := Ideal) wg wu wd p w (slot b) h acc (ix2 t d) = acc (ix2 t d) := by
  rw [tile_apply, Finset.sum_eq_zero, add_zero]
  intro r _
  rw [if_neg (hn r), zero_mul]

end Cert.KernelIdeal.Moe

end
-- ==== Proof.Moe.Outs.lean ====
module

public import proofs.«01_k».proof.Proof.Moe.Steps
public import Idealize.ShloMosaic.Lib.VecWindow

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- Row `i 1` of a table of slots or weights. -/
def rowOf (i : grid0.Coords) (x : Vec F S16x2048 .f32) : Vec F S1x2048 .f32 :=
  View.ld (Val := Elt F) x (Rect.unit (s := S16x2048) (k0_off1 i) S1x2048.size (k0_off1_inb i))

/-- The count read for the first sub-block. -/
def cntA (c : Dev nD) (i : grid0.Coords) (xt0 : TbBuf0 (F := F) c tbM0_0) : BitVec 32 :=
  View.readAt (Elt F) tbM0_0.view (Rect.unit (s := S256) (k0_off2 i 0#32) S1.size (k0_off2_inb i 0)).toLoadRect xt0 (Shape.Idx.first numel1_S1.ge)

/-- The count read for the second sub-block. -/
def cntB (c : Dev nD) (i : grid0.Coords) (xt0 : TbBuf0 (F := F) c tbM0_0) : BitVec 32 :=
  View.readAt (Elt F) tbM0_0.view (Rect.unit (s := S256) (k0_off2 i 1#32) S1.size (k0_off2_inb i 1)).toLoadRect xt0 (Shape.Idx.first numel1_S1.ge)

/-- What one grid point makes of the block, before the last point's normalization. -/
def point (c : Dev nD) (i : grid0.Coords) (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (xt0 : TbBuf0 (F := F) c tbM0_0) (acc : Vec F S2048x1024 .f32) : Vec F S2048x1024 .f32 :=
  steps (k0_pay6 x3) (k0_pay7 x4) (k0_pay8 x5) (rowOf i x1) (rowOf i x2) x0
    (step (k0_pay6 x3) (k0_pay7 x4) (k0_pay8 x5) (rowOf i x1) (rowOf i x2) (Scalar.ofBits .f32 0x00000000#32) x0 acc)
    (k0_t1_loop (cntA c i xt0) (cntB c i xt0)).trips

theorem first_eq (v3 : Vec F S1x1024x512 .bf16) (v5 : Vec F S1x1024x512 .bf16) (v7 : Vec F S1x512x1024 .bf16) (v10 v12 : Vec F S1x2048 .f32) (h : Vec F S2048x1024 .bf16) (a b : Vec F S1024x1024 .f32) :
    join (k0_pay15 (k0_pay7 v5) (k0_pay8 v7) v12 (k0_pay10 v10) (k0_pay11 v10 (top h)) (k0_pay12 v3 v10 (top h)) (k0_pay13 v3 v10 (top h)) k0_pay14 a)
      (k0_pay19 (k0_pay7 v5) (k0_pay8 v7) v12 (k0_pay16 v10 k0_pay9) (k0_pay17 v10 k0_pay9 (bot h)) (k0_pay18 (k0_pay6 v3) v10 k0_pay9 (bot h)) (constant S256x512 .f32 0x00000000#32) b)
    = step (k0_pay6 v3) (k0_pay7 v5) (k0_pay8 v7) v10 v12 (Scalar.ofBits .f32 0x00000000#32) h (join a b) := by
  unfold step
  rw [top_join, bot_join]
  rfl

/-- Rows the newest piece does not reach. -/
theorem bot_read_top {κ : Kind} {sp : Space} {e : EltTy} (v : View sig κ sp S2048x1024 e) (f : v.ty.Contents (Elt F)) (inbA)
    (a : S1024x1024.Idx → Elt F e) (L : List (View.Piece (Elt F) S2048x1024 e)) :
    bot (v.read (Elt F) (v.writes (Elt F) f (⟨Rect.unit (s := S2048x1024) ![0, 0] ![1024, 1024] inbA, a⟩ :: L))) = bot (v.read (Elt F) (v.writes (Elt F) f L)) := by
  funext x
  unfold bot
  exact View.read_writes_cons_rows_of_not_mem v f inbA a L _ (o := 0) (W := 1024) rfl rfl (Or.inr (by show 0 + 1024 ≤ 1024 + (x 0).val; omega))

/-- No trip, no write. -/
theorem none_zero (𝒱 : Variants) (c : Dev nD) (bd : Option 𝒱.V) (i : grid0.Coords) (arg2 : Memref sig .tc .smem S256 .i32) (harg2 : arg2.IsWhole) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (v4 : FVec F S1024x512 .bf16) (v6 : FVec F S1024x512 .bf16) (v8 : FVec F S512x1024 .bf16) (v10 : Vec F S1x2048 .f32) (v12 : Vec F S1x2048 .f32) (v96 : Elt F .i32) (v121 : Elt F .i32) (k0_hw1 : k0_chk1 v96 v121) (X_arg3 : BufTy.Contents (Elt F) arg3.view.ty) (v145 : BitVec 32) (G2 : BufTy.Contents (Elt F) arg11.view.ty) :
    pb_k0_t2 (F := F) 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 v145 X_arg3 G2 0 = [] := rfl

/-- The two loops over the halves: the second runs no trip. -/
theorem read_loops (𝒱 : Variants) (c : Dev nD) (bd : Option 𝒱.V) (i : grid0.Coords) (arg2 : Memref sig .tc .smem S256 .i32) (harg2 : arg2.IsWhole) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (v4 : FVec F S1024x512 .bf16) (v6 : FVec F S1024x512 .bf16) (v8 : FVec F S512x1024 .bf16) (v10 : Vec F S1x2048 .f32) (v12 : Vec F S1x2048 .f32) (v96 : Elt F .i32) (v121 : Elt F .i32) (k0_hw1 : k0_chk1 v96 v121) (X_arg3 : BufTy.Contents (Elt F) arg3.view.ty) (v145 : BitVec 32) (n n2 : ℕ) (hn : n = (k0_t1_loop v96 v121).trips) (hn2 : n2 = 0) (G G2 : BufTy.Contents (Elt F) arg11.view.ty)
    {κ : Kind} {sp : Space} (v : View sig κ sp S2048x1024 .f32) (g : v.ty.Contents (Elt F)) (L : List (View.Piece (Elt F) S2048x1024 .f32)) (P : Vec F S2048x1024 .f32)
    (hL : v.read (Elt F) (v.writes (Elt F) g L) = P) (hG : arg11.view.read (Elt F) G = P) :
    v.read (Elt F) (v.writes (Elt F) g (pb_k0_t2 (F := F) 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 v145 X_arg3 G2 n2 ++ (pb_k0_t1 (F := F) 𝒱 c bd i arg2 harg2 arg3 harg3 arg4 harg4 arg5 harg5 arg6 harg6 arg7 harg7 arg8 harg8 arg9 harg9 arg10 harg10 arg11 harg11 v4 v6 v8 v10 v12 k0_pay9 v96 v121 k0_hw1 X_arg3 G n ++ L)))
      = steps v4 v6 v8 v10 v12 (arg3.view.read (Elt F) X_arg3) P (k0_t1_loop v96 v121).trips := by
  rw [hn2, none_zero, List.nil_append, hn, ← hG]
  exact read_trips 𝒱 c bd i arg2 harg2 arg3 harg3 arg4 harg4 arg5 harg5 arg6 harg6 arg7 harg7 arg8 harg8 arg9 harg9 arg10 harg10 arg11 harg11 v4 v6 v8 v10 v12 v96 v121 k0_hw1 X_arg3 _ (Nat.le_refl _) G v g L (hL.trans hG.symm)

/-- What the block holds after a grid point of this kind. -/
theorem out_A (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0)  :
    out0_A_8 c i arg3 harg3 arg4 harg4 arg5 harg5 arg6 harg6 arg7 harg7 arg8 harg8 arg9 harg9 arg10 harg10 arg11 harg11 hc0 hc1 x0 x1 x2 x3 x4 x5 x6 x7 xt0 = point c i x0 x1 x2 x3 x4 x5 xt0 k0_pay5 := by
  have hA : ∀ inb, View.readAt (Elt F) arg3.view (Rect.unit (s := S2048x1024) ![0, 0] S1024x1024.size inb).toLoadRect (harg3.unread x0) = top x0 := fun inb => by
    rw [View.readAt_eq_ld, harg3.read_unread]; exact ld_top x0 inb
  have hB : ∀ inb, View.readAt (Elt F) arg3.view (Rect.unit (s := S2048x1024) ![1024, 0] S1024x1024.size inb).toLoadRect (harg3.unread x0) = bot x0 := fun inb => by
    rw [View.readAt_eq_ld, harg3.read_unread]; exact ld_bot x0 inb
  have h6 : ∀ inb, View.readAt (Elt F) arg6.view (Rect.unit (s := S1x1024x512) ![0, 0, 0] S1x1024x512.size inb).toLoadRect (harg6.unread x3) = x3 := fun inb => by
    rw [View.readAt_full, harg6.read_unread]
  have h7 : ∀ inb, View.readAt (Elt F) arg7.view (Rect.unit (s := S1x1024x512) ![0, 0, 0] S1x1024x512.size inb).toLoadRect (harg7.unread x4) = x4 := fun inb => by
    rw [View.readAt_full, harg7.read_unread]
  have h8 : ∀ inb, View.readAt (Elt F) arg8.view (Rect.unit (s := S1x512x1024) ![0, 0, 0] S1x512x1024.size inb).toLoadRect (harg8.unread x5) = x5 := fun inb => by
    rw [View.readAt_full, harg8.read_unread]
  have h4 : View.readAt (Elt F) arg4.view (Rect.unit (s := S16x2048) (k0_off1 i) S1x2048.size (k0_off1_inb i)).toLoadRect (harg4.unread x1) = rowOf i x1 := by
    rw [View.readAt_eq_ld, harg4.read_unread]; rfl
  have h5 : View.readAt (Elt F) arg5.view (Rect.unit (s := S16x2048) (k0_off1 i) S1x2048.size (k0_off1_inb i)).toLoadRect (harg5.unread x2) = rowOf i x2 := by
    rw [View.readAt_eq_ld, harg5.read_unread]; rfl
  have hP : ∀ {κ : Kind} {sp : Space} (v : View sig κ sp S2048x1024 .f32) (g : v.ty.Contents (Elt F)), v.read (Elt F) (v.writes (Elt F) g (kernelRun0_A.sl.H8_3 (F := F) c i arg3 harg3 arg4 harg4 arg5 harg5 arg6 harg6 arg7 harg7 arg8 harg8 arg11 x0 x1 x2 x3 x4 x5))
      = step (k0_pay6 x3) (k0_pay7 x4) (k0_pay8 x5) (rowOf i x1) (rowOf i x2) (Scalar.ofBits .f32 0x00000000#32) x0 k0_pay5 := by
    intro κ sp v g
    unfold kernelRun0_A.sl.H8_3
    have hoA : kernelRun0_A.sl.v48 (F := F) c arg11 = top k0_pay5 := by
      unfold kernelRun0_A.sl.v48 View.readCov kernelRun0_A.sl.H8_1
      rw [View.readAt_eq_ld, View.read_writes_full]; exact ld_top (F := F) (e := .f32) k0_pay5 _
    have hoB : kernelRun0_A.sl.v86 (F := F) c i arg3 harg3 arg4 harg4 arg5 harg5 arg6 harg6 arg7 harg7 arg8 harg8 arg11 x0 x1 x2 x3 x4 x5 = bot k0_pay5 := by
      unfold kernelRun0_A.sl.v86 View.readCov kernelRun0_A.sl.H8_2
      rw [View.readAt_eq_ld]
      refine (ld_bot _ _).trans ?_
      refine (bot_read_top _ _ _ _ _).trans ?_
      unfold kernelRun0_A.sl.H8_1
      rw [View.read_writes_full]
    rw [hoB]
    unfold kernelRun0_A.sl.H8_2
    rw [hoA]
    refine (read_halves v g _ _ _ _ _).trans ?_
    unfold kernelRun0_A.sl.r_1 kernelRun0_A.sl.r_2 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r kernelRun0_A.sl.r_3 kernelRun0_A.sl.r_4 kernelRun0_A.sl.cst_37
    simp only [hA, hB, h4, h5, h6, h7, h8]
    rw [first_eq, join_top_bot]
  unfold out0_A_8 kernelRun0_A
  dsimp only
  refine (read_loops _ _ _ _ _ _ _ _ _ _ _ _ _ _ _ _ _ _ _ _ _ _ _ _ _ _ _ _ _ _ _ _ _ _ _ _ rfl (trips2 _ _) _ _ _ _ _ _ (hP _ _) (hP _ _)).trans ?_
  unfold kernelRun0_A.sl.r kernelRun0_A.sl.r_1 kernelRun0_A.sl.r_2 kernelRun0_A.sl.r_3 kernelRun0_A.sl.r_4 kernelRun0_A.sl.r_12 kernelRun0_A.sl.r_13
  simp only [h4, h5, h6, h7, h8]
  rw [harg3.read_unread]
  rfl

/-- What the block holds after a grid point of this kind. -/
theorem out_B (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : ¬cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32)  :
    out0_B_8 c i arg3 harg3 arg4 harg4 arg5 harg5 arg6 harg6 arg7 harg7 arg8 harg8 arg9 harg9 arg10 harg10 arg11 harg11 hc0 hc1 x0 x1 x2 x3 x4 x5 x6 x7 xt0 xo8 = point c i x0 x1 x2 x3 x4 x5 xt0 xo8 := by
  have hA : ∀ inb, View.readAt (Elt F) arg3.view (Rect.unit (s := S2048x1024) ![0, 0] S1024x1024.size inb).toLoadRect (harg3.unread x0) = top x0 := fun inb => by
    rw [View.readAt_eq_ld, harg3.read_unread]; exact ld_top x0 inb
  have hB : ∀ inb, View.readAt (Elt F) arg3.view (Rect.unit (s := S2048x1024) ![1024, 0] S1024x1024.size inb).toLoadRect (harg3.unread x0) = bot x0 := fun inb => by
    rw [View.readAt_eq_ld, harg3.read_unread]; exact ld_bot x0 inb
  have h6 : ∀ inb, View.readAt (Elt F) arg6.view (Rect.unit (s := S1x1024x512) ![0, 0, 0] S1x1024x512.size inb).toLoadRect (harg6.unread x3) = x3 := fun inb => by
    rw [View.readAt_full, harg6.read_unread]
  have h7 : ∀ inb, View.readAt (Elt F) arg7.view (Rect.unit (s := S1x1024x512) ![0, 0, 0] S1x1024x512.size inb).toLoadRect (harg7.unread x4) = x4 := fun inb => by
    rw [View.readAt_full, harg7.read_unread]
  have h8 : ∀ inb, View.readAt (Elt F) arg8.view (Rect.unit (s := S1x512x1024) ![0, 0, 0] S1x512x1024.size inb).toLoadRect (harg8.unread x5) = x5 := fun inb => by
    rw [View.readAt_full, harg8.read_unread]
  have h4 : View.readAt (Elt F) arg4.view (Rect.unit (s := S16x2048) (k0_off1 i) S1x2048.size (k0_off1_inb i)).toLoadRect (harg4.unread x1) = rowOf i x1 := by
    rw [View.readAt_eq_ld, harg4.read_unread]; rfl
  have h5 : View.readAt (Elt F) arg5.view (Rect.unit (s := S16x2048) (k0_off1 i) S1x2048.size (k0_off1_inb i)).toLoadRect (harg5.unread x2) = rowOf i x2 := by
    rw [View.readAt_eq_ld, harg5.read_unread]; rfl
  have hoA : ∀ inb, View.readAt (Elt F) arg11.view (Rect.unit (s := S2048x1024) ![0, 0] S1024x1024.size inb).toLoadRect (harg11.unread xo8) = top xo8 := fun inb => by
    rw [View.readAt_eq_ld, harg11.read_unread]; exact ld_top xo8 inb
  have hoB : ∀ inb, View.readAt (Elt F) arg11.view (Rect.unit (s := S2048x1024) ![1024, 0] S1024x1024.size inb).toLoadRect (harg11.unread xo8) = bot xo8 := fun inb => by
    rw [View.readAt_eq_ld, harg11.read_unread]; exact ld_bot xo8 inb
  have hP : ∀ {κ : Kind} {sp : Space} (v : View sig κ sp S2048x1024 .f32) (g : v.ty.Contents (Elt F)), v.read (Elt F) (v.writes (Elt F) g (kernelRun0_B.sl.H8_2 (F := F) c i arg3 harg3 arg4 harg4 arg5 harg5 arg6 harg6 arg7 harg7 arg8 harg8 arg11 harg11 x0 x1 x2 x3 x4 x5 xo8))
      = step (k0_pay6 x3) (k0_pay7 x4) (k0_pay8 x5) (rowOf i x1) (rowOf i x2) (Scalar.ofBits .f32 0x00000000#32) x0 xo8 := by
    intro κ sp v g
    unfold kernelRun0_B.sl.H8_2
    refine (read_halves v g _ _ _ _ _).trans ?_
    unfold kernelRun0_B.sl.r_1 kernelRun0_B.sl.r_2 kernelRun0_B.sl.r_5 kernelRun0_B.sl.r_6 kernelRun0_B.sl.r_7 kernelRun0_B.sl.r_8 kernelRun0_B.sl.r_9 kernelRun0_B.sl.r_10 kernelRun0_B.sl.r_11 kernelRun0_B.sl.r kernelRun0_B.sl.r_3 kernelRun0_B.sl.r_4 kernelRun0_B.sl.cst_37 kernelRun0_B.sl.v86
    simp only [hA, hB, h4, h5, h6, h7, h8, hoA, hoB]
    rw [first_eq, join_top_bot]
  unfold out0_B_8 kernelRun0_B
  dsimp only
  refine (read_loops _ _ _ _ _ _ _ _ _ _ _ _ _ _ _ _ _ _ _ _ _ _ _ _ _ _ _ _ _ _ _ _ _ _ _ _ rfl (trips2 _ _) _ _ _ _ _ _ (hP _ _) (hP _ _)).trans ?_
  unfold kernelRun0_B.sl.r kernelRun0_B.sl.r_1 kernelRun0_B.sl.r_2 kernelRun0_B.sl.r_3 kernelRun0_B.sl.r_4 kernelRun0_B.sl.r_12 kernelRun0_B.sl.r_13
  simp only [h4, h5, h6, h7, h8]
  rw [harg3.read_unread]
  rfl

set_option maxHeartbeats 2000000 in
/-- What the block holds after a grid point of this kind. -/
theorem out_C (c : Dev nD) (i : grid0.Coords) (arg3 : Memref sig .tc .vmem S2048x1024 .bf16) (harg3 : arg3.IsWhole) (arg4 : Memref sig .tc .vmem S16x2048 .f32) (harg4 : arg4.IsWhole) (arg5 : Memref sig .tc .vmem S16x2048 .f32) (harg5 : arg5.IsWhole) (arg6 : Memref sig .tc .vmem S1x1024x512 .bf16) (harg6 : arg6.IsWhole) (arg7 : Memref sig .tc .vmem S1x1024x512 .bf16) (harg7 : arg7.IsWhole) (arg8 : Memref sig .tc .vmem S1x512x1024 .bf16) (harg8 : arg8.IsWhole) (arg9 : Memref sig .tc .vmem S2048x1024 .f32) (harg9 : arg9.IsWhole) (arg10 : Memref sig .tc .vmem S1x1024 .f32) (harg10 : arg10.IsWhole) (arg11 : Memref sig .tc .vmem S2048x1024 .f32) (harg11 : arg11.IsWhole) (hc0 : ¬cond0_0 i) (hc1 : cond0_1 i)
    (x0 : Vec F S2048x1024 .bf16) (x1 : Vec F S16x2048 .f32) (x2 : Vec F S16x2048 .f32) (x3 : Vec F S1x1024x512 .bf16) (x4 : Vec F S1x1024x512 .bf16) (x5 : Vec F S1x512x1024 .bf16) (x6 : Vec F S2048x1024 .f32) (x7 : Vec F S1x1024 .f32) (xt0 : TbBuf0 (F := F) c tbM0_0) (xo8 : Vec F S2048x1024 .f32)  :
    out0_C_8 c i arg3 harg3 arg4 harg4 arg5 harg5 arg6 harg6 arg7 harg7 arg8 harg8 arg9 harg9 arg10 harg10 arg11 harg11 hc0 hc1 x0 x1 x2 x3 x4 x5 x6 x7 xt0 xo8 = k0_pay20 x6 (point c i x0 x1 x2 x3 x4 x5 xt0 xo8) x7 := by
  have hA : ∀ inb, View.readAt (Elt F) arg3.view (Rect.unit (s := S2048x1024) ![0, 0] S1024x1024.size inb).toLoadRect (harg3.unread x0) = top x0 := fun inb => by
    rw [View.readAt_eq_ld, harg3.read_unread]; exact ld_top x0 inb
  have hB : ∀ inb, View.readAt (Elt F) arg3.view (Rect.unit (s := S2048x1024) ![1024, 0] S1024x1024.size inb).toLoadRect (harg3.unread x0) = bot x0 := fun inb => by
    rw [View.readAt_eq_ld, harg3.read_unread]; exact ld_bot x0 inb
  have h6 : ∀ inb, View.readAt (Elt F) arg6.view (Rect.unit (s := S1x1024x512) ![0, 0, 0] S1x1024x512.size inb).toLoadRect (harg6.unread x3) = x3 := fun inb => by
    rw [View.readAt_full, harg6.read_unread]
  have h7 : ∀ inb, View.readAt (Elt F) arg7.view (Rect.unit (s := S1x1024x512) ![0, 0, 0] S1x1024x512.size inb).toLoadRect (harg7.unread x4) = x4 := fun inb => by
    rw [View.readAt_full, harg7.read_unread]
  have h8 : ∀ inb, View.readAt (Elt F) arg8.view (Rect.unit (s := S1x512x1024) ![0, 0, 0] S1x512x1024.size inb).toLoadRect (harg8.unread x5) = x5 := fun inb => by
    rw [View.readAt_full, harg8.read_unread]
  have h4 : View.readAt (Elt F) arg4.view (Rect.unit (s := S16x2048) (k0_off1 i) S1x2048.size (k0_off1_inb i)).toLoadRect (harg4.unread x1) = rowOf i x1 := by
    rw [View.readAt_eq_ld, harg4.read_unread]; rfl
  have h5 : View.readAt (Elt F) arg5.view (Rect.unit (s := S16x2048) (k0_off1 i) S1x2048.size (k0_off1_inb i)).toLoadRect (harg5.unread x2) = rowOf i x2 := by
    rw [View.readAt_eq_ld, harg5.read_unread]; rfl
  have hoA : ∀ inb, View.readAt (Elt F) arg11.view (Rect.unit (s := S2048x1024) ![0, 0] S1024x1024.size inb).toLoadRect (harg11.unread xo8) = top xo8 := fun inb => by
    rw [View.readAt_eq_ld, harg11.read_unread]; exact ld_top xo8 inb
  have hoB : ∀ inb, View.readAt (Elt F) arg11.view (Rect.unit (s := S2048x1024) ![1024, 0] S1024x1024.size inb).toLoadRect (harg11.unread xo8) = bot xo8 := fun inb => by
    rw [View.readAt_eq_ld, harg11.read_unread]; exact ld_bot xo8 inb
  have hP : ∀ {κ : Kind} {sp : Space} (v : View sig κ sp S2048x1024 .f32) (g : v.ty.Contents (Elt F)), v.read (Elt F) (v.writes (Elt F) g (kernelRun0_C.sl.H8_2 (F := F) c i arg3 harg3 arg4 harg4 arg5 harg5 arg6 harg6 arg7 harg7 arg8 harg8 arg11 harg11 x0 x1 x2 x3 x4 x5 xo8))
      = step (k0_pay6 x3) (k0_pay7 x4) (k0_pay8 x5) (rowOf i x1) (rowOf i x2) (Scalar.ofBits .f32 0x00000000#32) x0 xo8 := by
    intro κ sp v g
    unfold kernelRun0_C.sl.H8_2
    refine (read_halves v g _ _ _ _ _).trans ?_
    unfold kernelRun0_C.sl.r_1 kernelRun0_C.sl.r_2 kernelRun0_C.sl.r_5 kernelRun0_C.sl.r_6 kernelRun0_C.sl.r_7 kernelRun0_C.sl.r_8 kernelRun0_C.sl.r_9 kernelRun0_C.sl.r_10 kernelRun0_C.sl.r_11 kernelRun0_C.sl.r kernelRun0_C.sl.r_3 kernelRun0_C.sl.r_4 kernelRun0_C.sl.cst_37 kernelRun0_C.sl.v86
    simp only [hA, hB, h4, h5, h6, h7, h8, hoA, hoB]
    rw [first_eq, join_top_bot]
  have hF : kernelRun0_C.sl.v150 (F := F) c i arg3 harg3 arg4 harg4 arg5 harg5 arg6 harg6 arg7 harg7 arg8 harg8 arg9 harg9 arg10 harg10 arg11 harg11 x0 x1 x2 x3 x4 x5 xt0 xo8 = point c i x0 x1 x2 x3 x4 x5 xt0 xo8 := by
    unfold kernelRun0_C.sl.v150
    rw [View.readAt_full]
    refine (read_loops _ _ _ _ _ _ _ _ _ _ _ _ _ _ _ _ _ _ _ _ _ _ _ _ _ _ _ _ _ _ _ _ _ _ _ _ rfl (trips2 _ _) _ _ _ _ _ _ (hP _ _) (hP _ _)).trans ?_
    unfold kernelRun0_C.sl.r kernelRun0_C.sl.r_1 kernelRun0_C.sl.r_2 kernelRun0_C.sl.r_3 kernelRun0_C.sl.r_4 kernelRun0_C.sl.r_12 kernelRun0_C.sl.r_13
    simp only [h4, h5, h6, h7, h8]
    rw [harg3.read_unread]
    rfl
  unfold out0_C_8 kernelRun0_C
  dsimp only
  rw [hF]
  refine (View.read_writes_full (s := S2048x1024) _ _ _ _ _).trans ?_
  have h9 : ∀ inb, View.readAt (Elt F) arg9.view (Rect.unit (s := S2048x1024) ![0, 0] S2048x1024.size inb).toLoadRect (harg9.unread x6) = x6 := fun inb => by
    rw [View.readAt_full, harg9.read_unread]
  have h10 : ∀ inb, View.readAt (Elt F) arg10.view (Rect.unit (s := S1x1024) ![0, 0] S1x1024.size inb).toLoadRect (harg10.unread x7) = x7 := fun inb => by
    rw [View.readAt_full, harg10.read_unread]
  exact congrArg₂ (fun a b => k0_pay20 a _ b) (h9 _) (h10 _)

end Cert.KernelIdeal.Moe

end
-- ==== Proof.Moe.Block.lean ====
module

public import proofs.«01_k».proof.Proof.Moe.Tile
public import proofs.«01_k».proof.Proof.Moe.Outs

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

/-- One row of a routing over a block: tokens without a slot have no weight, the others' slots are numbers
    below `256 * (N + 1)`, different within a sub-block. -/
structure Slots (p w : Fin 2048 → EReal) (N : ℕ) : Prop where
  few : N ≤ 3
  idle : ∀ q, p q < 0 → w q = 0
  num : ∀ q, p q < 0 ∨ ∃ n, p q = slot n ∧ n < 256 * (N + 1)
  inj : ∀ q q', q.val / 1024 = q'.val / 1024 → p q' = p q → p q < 0 ∨ q' = q

theorem base1_slot : ∀ k : Fin 3, base1 (F := Ideal) k.val = slot (256 * (k.val + 1)) := by
  have h : ∀ k : Fin 3, (Scalar.muli (Scf.iv 1#32 1#32 k.val) 256#32).toInt = ((256 * (k.val + 1) : ℕ) : ℤ) := by decide
  intro k
  show (((Scalar.muli (Scf.iv 1#32 1#32 k.val) 256#32).toInt : ℝ) : EReal) = _
  rw [h k]
  rfl

theorem base0_slot : (Scalar.ofBits .f32 0x00000000#32 : Ideal .f32) = slot 0 := by
  have : (Scalar.ofBits .f32 0x00000000#32 : Ideal .f32) = (0 : EReal) := Ideal.ofBits_zero_f32
  rw [this]
  unfold slot
  exact_mod_cast rfl

section Rows

variable (wg wu : FVec Ideal S1024x512 .bf16) (wd : FVec Ideal S512x1024 .bf16) (p w : FVec Ideal S1x2048 .f32) (b : ℕ)
variable (h : Vec Ideal S2048x1024 .bf16) (acc : Vec Ideal S2048x1024 .f32) (q : Fin 2048) (d : Fin 1024)

theorem slice0_apply (v : FVec Ideal S1x2048 .f32) (t : Fin 1024) :
    extractStridedSlice S1x1024 ![0, 0] v slices_S1x2048_o0_0_S1x1024 (ix2 0 t) = v (ix2 0 ⟨t.val, by omega⟩) := by
  pointwise

theorem slice1_apply (v : FVec Ideal S1x2048 .f32) (t : Fin 1024) :
    extractStridedSlice S1x1024 ![0, 1024] v slices_S1x2048_o0_1024_S1x1024 (ix2 0 t) = v (ix2 0 ⟨1024 + t.val, by omega⟩) := by
  pointwise

theorem step_hit (n : ℕ) (hn : p (ix2 0 q) = slot n) (hb : b ≤ n) (hn2 : n < b + 256)
    (hinj : ∀ q' : Fin 2048, q.val / 1024 = q'.val / 1024 → p (ix2 0 q') = p (ix2 0 q) → q' = q) :
    step (F := Ideal) wg wu wd p w (slot b) h acc (ix2 q d) = acc (ix2 q d) + w (ix2 0 q) * mlp wg wu wd (fun k => h (ix2 q k)) d := by
  unfold step join
  by_cases hq : q.val < 1024
  · rw [dif_pos (show ((ix2 q d : S2048x1024.Idx) 0).val < 1024 from hq)]
    have key := tile_hit wg wu wd (extractStridedSlice S1x1024 ![0, 0] p slices_S1x2048_o0_0_S1x1024) (extractStridedSlice S1x1024 ![0, 0] w slices_S1x2048_o0_0_S1x1024) b (top h) (top acc) ⟨q.val, hq⟩ d n ((slice0_apply p _).trans hn) hb hn2
      (fun t' ht => by
        rw [slice0_apply, slice0_apply] at ht
        have := hinj ⟨t'.val, by omega⟩ (by dsimp only; omega) ht
        exact Fin.ext (by have h := congrArg (fun x : Fin 2048 => x.val) this; exact h))
    rw [slice0_apply] at key
    exact key
  · rw [dif_neg (show ¬((ix2 q d : S2048x1024.Idx) 0).val < 1024 from hq)]
    have e : (⟨1024 + (q.val - 1024), by omega⟩ : Fin 2048) = q := Fin.ext (by show 1024 + (q.val - 1024) = q.val; omega)
    have key := tile_hit wg wu wd (extractStridedSlice S1x1024 ![0, 1024] p slices_S1x2048_o0_1024_S1x1024) (extractStridedSlice S1x1024 ![0, 1024] w slices_S1x2048_o0_1024_S1x1024) b (bot h) (bot acc) ⟨q.val - 1024, by omega⟩ d n ((slice1_apply p _).trans (by dsimp only; rw [e]; exact hn)) hb hn2
      (fun t' ht => by
        rw [slice1_apply, slice1_apply] at ht
        dsimp only at ht
        rw [e] at ht
        have := hinj ⟨1024 + t'.val, by omega⟩ (by dsimp only; omega) ht
        apply Fin.ext
        have := congrArg Fin.val this
        dsimp only at this ⊢
        omega)
    rw [slice1_apply] at key
    unfold bot at key ⊢
    dsimp only [ix2] at key ⊢
    simp only [show 1024 + (q.val - 1024) = q.val by omega] at key ⊢
    exact key

theorem step_miss (hn : ∀ r : Fin 256, p (ix2 0 q) ≠ slot (r.val + b)) :
    step (F := Ideal) wg wu wd p w (slot b) h acc (ix2 q d) = acc (ix2 q d) := by
  unfold step join
  by_cases hq : q.val < 1024
  · rw [dif_pos (show ((ix2 q d : S2048x1024.Idx) 0).val < 1024 from hq)]
    have key := tile_miss wg wu wd (extractStridedSlice S1x1024 ![0, 0] p slices_S1x2048_o0_0_S1x1024) (extractStridedSlice S1x1024 ![0, 0] w slices_S1x2048_o0_0_S1x1024) b (top h) (top acc) ⟨q.val, hq⟩ d (fun r => by rw [slice0_apply]; exact hn r)
    exact key
  · rw [dif_neg (show ¬((ix2 q d : S2048x1024.Idx) 0).val < 1024 from hq)]
    have e : (⟨1024 + (q.val - 1024), by omega⟩ : Fin 2048) = q := Fin.ext (by show 1024 + (q.val - 1024) = q.val; omega)
    have key := tile_miss wg wu wd (extractStridedSlice S1x1024 ![0, 1024] p slices_S1x2048_o0_1024_S1x1024) (extractStridedSlice S1x1024 ![0, 1024] w slices_S1x2048_o0_1024_S1x1024) b (bot h) (bot acc) ⟨q.val - 1024, by omega⟩ d (fun r => by rw [slice1_apply]; dsimp only; rw [e]; exact hn r)
    exact key.trans (congrArg (fun x => acc (ix2 x d)) e)

/-- Trips at slots the token does not have. -/
theorem steps_miss (N : ℕ) (hN : N ≤ 3) (hn : ∀ k < N, ∀ r : Fin 256, p (ix2 0 q) ≠ slot (r.val + 256 * (k + 1))) :
    steps (F := Ideal) wg wu wd p w h acc N (ix2 q d) = acc (ix2 q d) := by
  induction N with
  | zero => rfl
  | succ N ih =>
    unfold steps
    rw [base1_slot ⟨N, by omega⟩, step_miss _ _ _ _ _ _ _ _ _ _ (hn N (by omega))]
    exact ih (by omega) (fun k hk => hn k (by omega))

/-- Of the trips, the one at the token's slot adds its weighed layer. -/
theorem steps_hit (N : ℕ) (hN : N ≤ 3) (n : ℕ) (hn : p (ix2 0 q) = slot n) (hb : 256 ≤ n) (hn2 : n < 256 * (N + 1))
    (hinj : ∀ q' : Fin 2048, q.val / 1024 = q'.val / 1024 → p (ix2 0 q') = p (ix2 0 q) → q' = q) :
    steps (F := Ideal) wg wu wd p w h acc N (ix2 q d) = acc (ix2 q d) + w (ix2 0 q) * mlp wg wu wd (fun k => h (ix2 q k)) d := by
  induction N with
  | zero => omega
  | succ N ih =>
    unfold steps
    rw [base1_slot ⟨N, by omega⟩]
    by_cases hl : n < 256 * (N + 1)
    · rw [step_miss _ _ _ _ _ _ _ _ _ _ (fun r h => by have := slot_inj (hn.symm.trans h); dsimp only at this; omega)]
      exact ih (by omega) hl
    · rw [step_hit _ _ _ _ _ _ _ _ _ _ n hn (by dsimp only; omega) (by dsimp only; omega) hinj,
        steps_miss _ _ _ _ _ _ _ _ _ N (by omega) (fun k hk r h => by have := slot_inj (hn.symm.trans h); omega)]

/-- The first sub-tile and all trips: every token gets its weighed layer. -/
theorem sweep (N : ℕ) (hs : Slots (fun q => p (ix2 0 q)) (fun q => w (ix2 0 q)) N) :
    steps (F := Ideal) wg wu wd p w h (step (F := Ideal) wg wu wd p w (Scalar.ofBits .f32 0x00000000#32) h acc) N (ix2 q d)
      = acc (ix2 q d) + w (ix2 0 q) * mlp wg wu wd (fun k => h (ix2 q k)) d := by
  rw [base0_slot]
  rcases hs.num q with hneg | ⟨n, hn, hl⟩
  · have hm : ∀ b : ℕ, ∀ r : Fin 256, p (ix2 0 q) ≠ slot (r.val + b) := fun b r h => absurd (slot_nonneg (r.val + b)) (not_le.mpr (h ▸ hneg))
    rw [steps_miss _ _ _ _ _ _ _ _ _ N hs.few (fun k _ => hm _), step_miss _ _ _ _ _ _ _ _ _ _ (hm 0)]
    have hw : w (ix2 0 q) = 0 := hs.idle q hneg
    rw [hw, zero_mul, add_zero]
  · have hn : p (ix2 0 q) = slot n := hn
    have hinj : ∀ q' : Fin 2048, q.val / 1024 = q'.val / 1024 → p (ix2 0 q') = p (ix2 0 q) → q' = q := fun q' hq h =>
      (hs.inj q q' hq h).resolve_left (fun h => absurd (slot_nonneg n) (not_le.mpr (hn ▸ h)))
    by_cases hb : n < 256
    · rw [steps_miss _ _ _ _ _ _ _ _ _ N hs.few (fun k _ r h => by have := slot_inj (hn.symm.trans h); omega),
        step_hit _ _ _ _ _ _ _ _ _ _ n hn (Nat.zero_le _) (by omega) hinj]
    · rw [steps_hit _ _ _ _ _ _ _ _ _ N hs.few n hn (by omega) hl hinj,
        step_miss _ _ _ _ _ _ _ _ _ _ (fun r h => by have := slot_inj (hn.symm.trans h); omega)]

end Rows

theorem off1_eq (i : grid0.Coords) : k0_off1 i = ![(i 1).val, 0] := by
  have h : ∀ e : Fin 16, (BitVec.ofNat 32 e.val).toNat = e.val := by decide
  unfold k0_off1
  exact congrArg (fun n => ![n, 0]) (h (i 1))

theorem rowOf_apply (i : grid0.Coords) (x : Vec Ideal S16x2048 .f32) (q : Fin 2048) : rowOf (F := Ideal) i x (ix2 0 q) = x (ix2 (i 1) q) := by
  unfold rowOf
  refine congrArg x ?_
  funext a
  apply Fin.ext
  have := off1_eq i
  match a with
  | 0 => show k0_off1 i 0 + 0 = (i 1).val; rw [this]; rfl
  | 1 => show k0_off1 i 1 + 1 * q.val = q.val; rw [this, Nat.one_mul]; exact Nat.zero_add _

/-- A grid point adds the expert's weighed layer to every token's row. -/
theorem point_apply (c : Dev nD) (i : grid0.Coords) (x0 : Vec Ideal S2048x1024 .bf16) (x1 : Vec Ideal S16x2048 .f32) (x2 : Vec Ideal S16x2048 .f32) (x3 : Vec Ideal S1x1024x512 .bf16) (x4 : Vec Ideal S1x1024x512 .bf16) (x5 : Vec Ideal S1x512x1024 .bf16) (xt0 : TbBuf0 (F := Ideal) c tbM0_0) (acc : Vec Ideal S2048x1024 .f32)
    (hs : Slots (fun q => x1 (ix2 (i 1) q)) (fun q => x2 (ix2 (i 1) q)) (k0_t1_loop (cntA c i xt0) (cntB c i xt0)).trips) (q : Fin 2048) (d : Fin 1024) :
    point c i x0 x1 x2 x3 x4 x5 xt0 acc (ix2 q d)
      = acc (ix2 q d) + x2 (ix2 (i 1) q) * mlp (fun k => x3 (ix3 0 (k 0) (k 1))) (fun k => x4 (ix3 0 (k 0) (k 1))) (fun k => x5 (ix3 0 (k 0) (k 1))) (fun k => x0 (ix2 q k)) d := by
  unfold point
  have e1 : (fun q => rowOf (F := Ideal) i x1 (ix2 0 q)) = fun q => x1 (ix2 (i 1) q) := funext (rowOf_apply i x1)
  have e2 : (fun q => rowOf (F := Ideal) i x2 (ix2 0 q)) = fun q => x2 (ix2 (i 1) q) := funext (rowOf_apply i x2)
  rw [sweep _ _ _ _ _ _ _ _ _ _ (by rw [e1, e2]; exact hs), rowOf_apply]
  have h6 : k0_pay6 x3 = fun k => x3 (ix3 0 (k 0) (k 1)) := by
    funext k
    unfold k0_pay6
    pointwise
  have h7 : k0_pay7 x4 = fun k => x4 (ix3 0 (k 0) (k 1)) := by
    funext k
    unfold k0_pay7
    pointwise
  have h8 : k0_pay8 x5 = fun k => x5 (ix3 0 (k 0) (k 1)) := by
    funext k
    unfold k0_pay8
    pointwise
  rw [h6, h7, h8]

end Cert.KernelIdeal.Moe

end
-- ==== Proof.Moe.Arrays.lean ====
module

public import proofs.«01_k».proof.Proof.Moe.Block
public import Idealize.ShloMosaic.Lib.Pipeline.ValueKit

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

variable (m : (ℓ : Loc nD τ sig) → Buf (Elt Ideal) ℓ)

/-- Token `q` of the block at a grid point. -/
def tok (i : grid0.Coords) (q : Fin 2048) : Fin 16384 := ⟨(i 0).val * 2048 + q.val, by have h : (i 0).val < 8 := (i 0).isLt; omega⟩

theorem small8 : ∀ e : Fin 8, (BitVec.ofNat 32 e.val).toNat = e.val := by decide
theorem small16 : ∀ e : Fin 16, (BitVec.ofNat 32 e.val).toNat = e.val := by decide

theorem at0 (i : grid0.Coords) : cc0_transform_0 i = ![(i 0).val, 0] := congrArg (fun n => ![n, 0]) (small8 (i 0))
theorem at1 (i : grid0.Coords) : cc0_transform_1 i = ![0, (i 0).val] := congrArg (fun n => ![0, n]) (small8 (i 0))
theorem at2 (i : grid0.Coords) : cc0_transform_2 i = ![0, (i 0).val] := congrArg (fun n => ![0, n]) (small8 (i 0))
theorem at3 (i : grid0.Coords) : cc0_transform_3 i = ![(i 1).val, 0, 0] := congrArg (fun n => ![n, 0, 0]) (small16 (i 1))
theorem at4 (i : grid0.Coords) : cc0_transform_4 i = ![(i 1).val, 0, 0] := congrArg (fun n => ![n, 0, 0]) (small16 (i 1))
theorem at5 (i : grid0.Coords) : cc0_transform_5 i = ![(i 1).val, 0, 0] := congrArg (fun n => ![n, 0, 0]) (small16 (i 1))
theorem at6 (i : grid0.Coords) : cc0_transform_6 i = ![(i 0).val, 0] := congrArg (fun n => ![n, 0]) (small8 (i 0))
theorem at7 (i : grid0.Coords) : cc0_transform_7 i = ![0, 0] := rfl
theorem at8 (i : grid0.Coords) : cc0_transform_8 i = ![(i 0).val, 0] := congrArg (fun n => ![n, 0]) (small8 (i 0))

theorem iblk0 (hO : Ok m) (c : Dev nD) (t : Fin (cfgM m hO).N) (q : Fin 2048) (k : Fin 1024) :
    iblk m hO c 0 t (ix2 q k) = m ((c.tc : Thread nD τ).loc main_arg1) (ix2 (tok (grid0.coords t) q) k) := by
  blk_ext [iblk, V, tok]
  · show cc0_transform_0 (grid0.coords t) 0 * 2048 + _ = _
    rw [at0]
    show (grid0.coords t 0).val * 2048 + _ = _
    omega
  · show cc0_transform_0 (grid0.coords t) 1 * 1024 + _ = _
    rw [at0]
    show 0 * 1024 + _ = _
    omega

theorem iblk1 (hO : Ok m) (c : Dev nD) (t : Fin (cfgM m hO).N) (e1 : Fin 16) (q : Fin 2048) :
    iblk m hO c 1 t (ix2 e1 q) = m ((c.tc : Thread nD τ).loc main_arg2) (ix2 e1 (tok (grid0.coords t) q)) := by
  blk_ext [iblk, V, tok]
  · show cc0_transform_1 (grid0.coords t) 0 * 16 + _ = _
    rw [at1]
    show 0 * 16 + _ = _
    omega
  · show cc0_transform_1 (grid0.coords t) 1 * 2048 + _ = _
    rw [at1]
    show (grid0.coords t 0).val * 2048 + _ = _
    omega

theorem iblk2 (hO : Ok m) (c : Dev nD) (t : Fin (cfgM m hO).N) (e1 : Fin 16) (q : Fin 2048) :
    iblk m hO c 2 t (ix2 e1 q) = m ((c.tc : Thread nD τ).loc main_arg3) (ix2 e1 (tok (grid0.coords t) q)) := by
  blk_ext [iblk, V, tok]
  · show cc0_transform_2 (grid0.coords t) 0 * 16 + _ = _
    rw [at2]
    show 0 * 16 + _ = _
    omega
  · show cc0_transform_2 (grid0.coords t) 1 * 2048 + _ = _
    rw [at2]
    show (grid0.coords t 0).val * 2048 + _ = _
    omega

theorem iblk3 (hO : Ok m) (c : Dev nD) (t : Fin (cfgM m hO).N) (k : Fin 1024) (n : Fin 512) :
    iblk m hO c 3 t (ix3 0 k n) = m ((c.tc : Thread nD τ).loc main_arg4) (ix3 (grid0.coords t 1) k n) := by
  blk_ext [iblk, V, tok]
  · show cc0_transform_3 (grid0.coords t) 0 + _ = _
    rw [at3]
    show (grid0.coords t 1).val + _ = _
    omega
  · show cc0_transform_3 (grid0.coords t) 1 * 1024 + _ = _
    rw [at3]
    show 0 * 1024 + _ = _
    omega
  · show cc0_transform_3 (grid0.coords t) 2 * 512 + _ = _
    rw [at3]
    show 0 * 512 + _ = _
    omega

theorem iblk4 (hO : Ok m) (c : Dev nD) (t : Fin (cfgM m hO).N) (k : Fin 1024) (n : Fin 512) :
    iblk m hO c 4 t (ix3 0 k n) = m ((c.tc : Thread nD τ).loc main_arg5) (ix3 (grid0.coords t 1) k n) := by
  blk_ext [iblk, V, tok]
  · show cc0_transform_4 (grid0.coords t) 0 + _ = _
    rw [at4]
    show (grid0.coords t 1).val + _ = _
    omega
  · show cc0_transform_4 (grid0.coords t) 1 * 1024 + _ = _
    rw [at4]
    show 0 * 1024 + _ = _
    omega
  · show cc0_transform_4 (grid0.coords t) 2 * 512 + _ = _
    rw [at4]
    show 0 * 512 + _ = _
    omega

theorem iblk5 (hO : Ok m) (c : Dev nD) (t : Fin (cfgM m hO).N) (n : Fin 512) (k : Fin 1024) :
    iblk m hO c 5 t (ix3 0 n k) = m ((c.tc : Thread nD τ).loc main_arg6) (ix3 (grid0.coords t 1) n k) := by
  blk_ext [iblk, V, tok]
  · show cc0_transform_5 (grid0.coords t) 0 + _ = _
    rw [at5]
    show (grid0.coords t 1).val + _ = _
    omega
  · show cc0_transform_5 (grid0.coords t) 1 * 512 + _ = _
    rw [at5]
    show 0 * 512 + _ = _
    omega
  · show cc0_transform_5 (grid0.coords t) 2 * 1024 + _ = _
    rw [at5]
    show 0 * 1024 + _ = _
    omega

theorem iblk6 (hO : Ok m) (c : Dev nD) (t : Fin (cfgM m hO).N) (q : Fin 2048) (k : Fin 1024) :
    iblk m hO c 6 t (ix2 q k) = m ((c.tc : Thread nD τ).loc main_arg7) (ix2 (tok (grid0.coords t) q) k) := by
  blk_ext [iblk, V, tok]
  · show cc0_transform_6 (grid0.coords t) 0 * 2048 + _ = _
    rw [at6]
    show (grid0.coords t 0).val * 2048 + _ = _
    omega
  · show cc0_transform_6 (grid0.coords t) 1 * 1024 + _ = _
    rw [at6]
    show 0 * 1024 + _ = _
    omega

theorem iblk7 (hO : Ok m) (c : Dev nD) (t : Fin (cfgM m hO).N) (k : Fin 1024) :
    iblk m hO c 7 t (ix2 0 k) = m ((c.tc : Thread nD τ).loc main_arg8) (ix2 0 k) := by
  blk_ext [iblk, V, tok]
  · show cc0_transform_7 (grid0.coords t) 0 + _ = _
    rw [at7]
    show 0 + _ = _
    omega
  · show cc0_transform_7 (grid0.coords t) 1 * 1024 + _ = _
    rw [at7]
    show 0 * 1024 + _ = _
    omega

end Cert.KernelIdeal.Moe

end
-- ==== Proof.Moe.Value.lean ====
module

public import proofs.«01_k».proof.Proof.Moe.Arrays
public import Idealize.ShloMosaic.Lib.Pipeline.Covers

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

variable (m : (ℓ : Loc nD τ sig) → Buf (Elt Ideal) ℓ)

/-! The argument arrays as tables of extended reals. -/

abbrev arr1 (c : Dev nD) : S16384x1024.Idx → EReal := m ((c.tc : Thread nD τ).loc main_arg1)
abbrev arr2 (c : Dev nD) : S16x16384.Idx → EReal := m ((c.tc : Thread nD τ).loc main_arg2)
abbrev arr3 (c : Dev nD) : S16x16384.Idx → EReal := m ((c.tc : Thread nD τ).loc main_arg3)
abbrev arr4 (c : Dev nD) : S16x1024x512.Idx → EReal := m ((c.tc : Thread nD τ).loc main_arg4)
abbrev arr5 (c : Dev nD) : S16x1024x512.Idx → EReal := m ((c.tc : Thread nD τ).loc main_arg5)
abbrev arr6 (c : Dev nD) : S16x512x1024.Idx → EReal := m ((c.tc : Thread nD τ).loc main_arg6)
abbrev arr7 (c : Dev nD) : S16384x1024.Idx → EReal := m ((c.tc : Thread nD τ).loc main_arg7)
abbrev arr8 (c : Dev nD) : S1x1024.Idx → EReal := m ((c.tc : Thread nD τ).loc main_arg8)

/-- Expert `e`, counted around. -/
def ex (e : ℕ) : Fin 16 := ⟨e % 16, Nat.mod_lt _ (by decide)⟩

/-- Expert `e`'s weighed layer of token `x` at column `d`. -/
def term (c : Dev nD) (e : Fin 16) (x : Fin 16384) (d : Fin 1024) : EReal :=
  arr3 m c (ix2 e x)
    * mlp (fun k => arr4 m c (ix3 e (k 0) (k 1))) (fun k => arr5 m c (ix3 e (k 0) (k 1)))
      (fun k => arr6 m c (ix3 e (k 0) (k 1))) (fun k => arr1 m c (ix2 x k)) d

/-- The first `n` experts' sum. -/
def upto (c : Dev nD) (n : ℕ) (x : Fin 16384) (d : Fin 1024) : EReal := ∑ e ∈ Finset.range n, term m c (ex e) x d

/-- The tables at a grid point are those of a routing. -/
def Routed (hO : Ok m) (c : Dev nD) : Prop := ∀ t : Fin (cfgM m hO).N,
  Slots (fun q => iblk m hO c 1 t (ix2 (grid0.coords t 1) q)) (fun q => iblk m hO c 2 t (ix2 (grid0.coords t 1) q))
    (k0_t1_loop (cntA c (grid0.coords t) (tbl m 0)) (cntB c (grid0.coords t) (tbl m 0))).trips

theorem coord0 (t : Fin grid0.N) : (grid0.coords t 0).val = t.val / 16 := by
  have ht : t.val < 128 := Nat.lt_of_lt_of_eq t.isLt N_0
  have e0 : (grid0.coords t 0).val = t.val / 16 % 8 := Pipeline.Grid.coords_val t 0 (by decide) rfl
  omega

theorem coord1 (t : Fin grid0.N) : grid0.coords t 1 = ex t.val := by
  have e1 : (grid0.coords t 1).val = t.val / 1 % 16 := Pipeline.Grid.coords_val t 1 (by decide) rfl
  apply Fin.ext
  show (grid0.coords t 1).val = t.val % 16
  omega

theorem ex_mod (n : ℕ) : ex (n % 16) = ex n := Fin.ext (Nat.mod_mod _ _)

/-- A grid point adds its expert's term. -/
theorem point_at (hO : Ok m) (c : Dev nD) (hR : Routed m hO c) (t : Fin (cfgM m hO).N) (acc : Vec Ideal S2048x1024 .f32) (q : Fin 2048) (d : Fin 1024) :
    point c (grid0.coords t) (iblk m hO c 0 t) (iblk m hO c 1 t) (iblk m hO c 2 t) (iblk m hO c 3 t) (iblk m hO c 4 t) (iblk m hO c 5 t) (tbl m 0) acc (ix2 q d)
      = acc (ix2 q d) + term m c (ex (t.val % 16)) (tok (grid0.coords t) q) d := by
  refine (point_apply c (grid0.coords t) _ _ _ _ _ _ _ acc (hR t) q d).trans ?_
  have he : ex (t.val % 16) = grid0.coords t 1 := (ex_mod _).trans (coord1 t).symm
  rw [he]
  unfold term
  have h3 : (fun k : S1024x512.Idx => iblk m hO c 3 t (ix3 0 (k 0) (k 1))) = fun k => arr4 m c (ix3 (grid0.coords t 1) (k 0) (k 1)) := funext fun k => iblk3 m hO c t (k 0) (k 1)
  have h4 : (fun k : S1024x512.Idx => iblk m hO c 4 t (ix3 0 (k 0) (k 1))) = fun k => arr5 m c (ix3 (grid0.coords t 1) (k 0) (k 1)) := funext fun k => iblk4 m hO c t (k 0) (k 1)
  have h5 : (fun k : S512x1024.Idx => iblk m hO c 5 t (ix3 0 (k 0) (k 1))) = fun k => arr6 m c (ix3 (grid0.coords t 1) (k 0) (k 1)) := funext fun k => iblk5 m hO c t (k 0) (k 1)
  have h0 : (fun k => iblk m hO c 0 t (ix2 q k)) = fun k => arr1 m c (ix2 (tok (grid0.coords t) q) k) := funext fun k => iblk0 m hO c t q k
  exact congrArg₂ (· + ·) rfl (congrArg₂ (· * ·) (iblk2 m hO c t _ q) (congrFun (congr (congr (congr (congrArg mlp h3) h4) h5) h0) d))

theorem tok_pred (hO : Ok m) (t : Fin (cfgM m hO).N) (h0 : ¬t.val % 16 = 0) (h : t.val - 1 < (cfgM m hO).N) (q : Fin 2048) :
    tok (grid0.coords (⟨t.val - 1, h⟩ : Fin grid0.N)) q = tok (grid0.coords t) q := by
  apply Fin.ext
  show (grid0.coords (⟨t.val - 1, h⟩ : Fin grid0.N) 0).val * 2048 + q.val = (grid0.coords t 0).val * 2048 + q.val
  rw [coord0, coord0 t]
  dsimp only
  omega

/-- Before the last expert the block holds the sum so far. -/
theorem partial_sum (hO : Ok m) (c : Dev nD) (hR : Routed m hO c) : ∀ (n : ℕ) (hn : n < (cfgM m hO).N), ¬n % 16 = 15 → ∀ (q : Fin 2048) (d : Fin 1024),
    outsAt0 m hO c n hn (ix2 q d) = upto m c (n % 16 + 1) (tok (grid0.coords (⟨n, hn⟩ : Fin grid0.N)) q) d := by
  intro n
  induction n using Nat.strong_induction_on with
  | _ n ih =>
    intro hn h1 q d
    unfold upto
    rw [Finset.sum_range_succ]
    by_cases h0 : n % 16 = 0
    · refine (congrFun ((outsAt0_A m hO c ⟨n, hn⟩ h0 h1).trans (out_A c _ _ _ _ _ _ _ _ _ _ _ _ _ _ _ _ _ _ _ _ _ _ _ _ _ _ _ _ _ _)) (ix2 q d)).trans ?_
      refine (point_at m hO c hR ⟨n, hn⟩ _ q d).trans ?_
      congr 1
      rw [h0, Finset.sum_range_zero]
      unfold k0_pay5
      pointwise
    · refine (congrFun ((outsAt0_B m hO c ⟨n, hn⟩ h0 h1).trans (out_B c _ _ _ _ _ _ _ _ _ _ _ _ _ _ _ _ _ _ _ _ _ _ _ _ _ _ _ _ _ _ _)) (ix2 q d)).trans ?_
      refine (point_at m hO c hR ⟨n, hn⟩ _ q d).trans ?_
      congr 1
      refine (ih (n - 1) (by omega) _ (by omega) q d).trans ?_
      unfold upto
      rw [tok_pred m hO ⟨n, hn⟩ h0, show (n - 1) % 16 + 1 = n % 16 by omega]

/-- The result: the residual plus the normalized, scaled sum over all experts. -/
def result (c : Dev nD) (x : Fin 16384) (d : Fin 1024) : EReal :=
  arr7 m c (ix2 x d)
    + (upto m c 16 x d * Ideal.rsqrt (Ideal.div (∑ k : Fin 1024, upto m c 16 x k * upto m c 16 x k) (Ideal.ofBits .f32 0x44800000#32) + Ideal.ofBits .f32 0x358637BD#32))
      * arr8 m c (ix2 0 d)

theorem pay20_apply (a acc : Vec Ideal S2048x1024 .f32) (g : Vec Ideal S1x1024 .f32) (q : Fin 2048) (d : Fin 1024) :
    k0_pay20 a acc g (ix2 q d) = a (ix2 q d) + (acc (ix2 q d) * Ideal.rsqrt (Ideal.div (∑ k : Fin 1024, acc (ix2 q k) * acc (ix2 q k)) (Ideal.ofBits .f32 0x44800000#32) + Ideal.ofBits .f32 0x358637BD#32)) * g (ix2 0 d) := by
  unfold k0_pay20
  pointwise

/-- After the last expert the block holds the result. -/
theorem last_point (hO : Ok m) (c : Dev nD) (hR : Routed m hO c) (t : Fin (cfgM m hO).N) (h1 : t.val % 16 = 15) (q : Fin 2048) (d : Fin 1024) :
    outsAt0 m hO c t.val t.isLt (ix2 q d) = result m c (tok (grid0.coords t) q) d := by
  have h0 : ¬t.val % 16 = 0 := by omega
  refine (congrFun ((outsAt0_C m hO c t h0 h1).trans (out_C c _ _ _ _ _ _ _ _ _ _ _ _ _ _ _ _ _ _ _ _ _ _ _ _ _ _ _ _ _ _ _)) (ix2 q d)).trans ?_
  have key : ∀ k : Fin 1024, point c (grid0.coords t) (iblk m hO c 0 t) (iblk m hO c 1 t) (iblk m hO c 2 t) (iblk m hO c 3 t) (iblk m hO c 4 t) (iblk m hO c 5 t) (tbl m 0) (outsAt0 m hO c (t.val - 1) (Nat.lt_of_le_of_lt (Nat.sub_le _ _) t.isLt)) (ix2 q k)
      = upto m c 16 (tok (grid0.coords t) q) k := by
    intro k
    refine (point_at m hO c hR t _ q k).trans ?_
    unfold upto
    rw [Finset.sum_range_succ, h1]
    congr 1
    refine (partial_sum m hO c hR (t.val - 1) _ (by omega) q k).trans ?_
    unfold upto
    rw [tok_pred m hO t h0, show (t.val - 1) % 16 + 1 = 15 by omega]
  refine (pay20_apply _ _ _ q d).trans ?_
  unfold result
  simp only [key]
  rw [iblk6, iblk7]

/-- The grid point of block `e` and the first expert. -/
def co (e : Fin 8) : grid0.Coords := fun a => match a with
  | ⟨0, _⟩ => e
  | ⟨1, _⟩ => (0 : Fin 16)

theorem nblk_rows (hO : Ok m) : ((cfgM m hO).win 8).nblk (0 : Fin 2) = 8 := by
  show (16384 + 2048 - 1) / 2048 = 8
  rfl

theorem nblk_cols (hO : Ok m) : ((cfgM m hO).win 8).nblk (1 : Fin 2) = 1 := by
  show (1024 + 1024 - 1) / 1024 = 1
  rfl

theorem covers (hO : Ok m) : ((cfgM m hO).win 8).Covers := by
  refine ((cfgM m hO).win 8).covers_of_indexMap_surj rfl (fun a => ?_) fun β => ⟨co ⟨(β (0 : Fin 2)).val, lt_of_lt_of_eq (β (0 : Fin 2)).isLt (nblk_rows m hO)⟩, fun a => ?_⟩
  · match a with
    | ⟨0, _⟩ => exact Nat.zero_lt_succ _
    | ⟨1, _⟩ => exact Nat.zero_lt_succ _
  · match a with
    | ⟨0, _⟩ => exact congrFun (at8 (co ⟨(β (0 : Fin 2)).val, lt_of_lt_of_eq (β (0 : Fin 2)).isLt (nblk_rows m hO)⟩)) 0
    | ⟨1, _⟩ =>
      have h : (β (1 : Fin 2)).val < 1 := lt_of_lt_of_eq (β (1 : Fin 2)).isLt (nblk_cols m hO)
      exact (congrFun (at8 (co ⟨(β (0 : Fin 2)).val, lt_of_lt_of_eq (β (0 : Fin 2)).isLt (nblk_rows m hO)⟩)) 1).trans (show 0 = (β (1 : Fin 2)).val by omega)

/-- The written-back blocks make up the result. -/
theorem final (hO : Ok m) (c : Dev nD) (hR : Routed m hO c) :
    (dats m hO 0 c).arrAt 8 (cfgM m hO).N = fun y : S16384x1024.Idx => result m c (y 0) (y 1) := by
  refine (dats m hO 0 c).arrAt_eq_of_covers 8 _ (covers m hO) fun t hf y => ?_
  blk_simp
  rw [after0_8]
  have h1 : t.val % 16 = 15 := (flush0_8 (adm m hO) t).mp hf
  have e0 : ((((cfgM m hO).win 8).blk t).view.emb y (0 : Fin 2) : Fin 16384) = tok (grid0.coords t) (y (0 : Fin 2)) := by
    apply Fin.ext
    blk_simp [tok]
    show cc0_transform_8 (grid0.coords t) 0 * _ + _ = _
    rw [at8]
    rfl
  have e1 : ((((cfgM m hO).win 8).blk t).view.emb y (1 : Fin 2) : Fin 1024) = y (1 : Fin 2) := by
    apply Fin.ext
    blk_simp
    show cc0_transform_8 (grid0.coords t) 1 * _ + _ = _
    rw [at8]
    exact (congrArg (· + _) (Nat.zero_mul _)).trans (Nat.zero_add _)
  exact (congrArg (outsAt0 m hO c t.val t.isLt) (eq_ix2 (n0 := 2048) (n1 := 1024) y)).trans ((last_point m hO c hR t h1 _ _).trans (congrArg₂ (result m c) e0.symm e1.symm))

end Cert.KernelIdeal.Moe

end
-- ==== Proof.Moe.Decode.lean ====
module

public import proofs.«01_k».proof.Pre_routed
public import Idealize.ShloMosaic.Lib.Pointwise
public import Idealize.ShloMosaic.Lib.ReduceAll
public import Idealize.ShloMosaic.Lib.Affine
public import Idealize.ShloMosaic.Lib.Routing.OpsOrder
public import Idealize.ShloMosaic.PureOps.Ideal

@[expose] public section

set_option maxRecDepth 16384

noncomputable section

namespace Cert.Pre_routed

open Idealize.ShloMosaic Idealize.ShloMosaic.Pointwise Idealize.ShloMosaic.Routing

variable [Facts]

theorem andi_eq_one {a b : BitVec 1} : IntOp.andi a b = 1#1 ↔ a = 1#1 ∧ b = 1#1 := by
  revert a b; decide

theorem ori_eq_one {a b : BitVec 1} : IntOp.ori a b = 1#1 ↔ a = 1#1 ∨ b = 1#1 := by
  revert a b; decide

theorem iota_ne {a b : Fin 1024} (h : IntOp.cmpi CmpIPredicate.eq (BitVec.ofNat 32 a.val) (BitVec.ofNat 32 b.val) = 1#1) : a = b := by
  have e := IntOp.cmpi_eq.mp h
  have e' := congrArg BitVec.toNat e
  simp only [BitVec.toNat_ofNat] at e'
  apply Fin.ext
  omega

/-- Token `u` of sub-block `s`. -/
abbrev at_ (s : Fin 16) (u : Fin 1024) : Fin 16384 := ⟨s.val * 1024 + u.val, by omega⟩

/-- The predicate read entry by entry: counts at most 1024; a token without a slot has weight zero; a slot is a number below
    1024, and below its sub-block's count; and no two tokens of a sub-block share one. -/
structure Facts5 (cnt : IVec S256 32) (pos w : S16x16384.Idx → EReal) : Prop where
  count : ∀ x : Fin 256, 0 ≤ (cnt (ix1 x)).toInt ∧ (cnt (ix1 x)).toInt ≤ 1024
  idle : ∀ (e : Fin 16) (y : Fin 16384), 0 ≤ pos (ix2 e y) ∨ w (ix2 e y) = 0
  num : ∀ (e s : Fin 16) (u : Fin 1024), pos (ix2 e (at_ s u)) < 0 ∨ ∃ n : Fin 1024, pos (ix2 e (at_ s u)) = ((n.val : ℝ) : EReal)
  below : ∀ (e s : Fin 16) (u : Fin 1024), pos (ix2 e (at_ s u)) < 0
    ∨ pos (ix2 e (at_ s u)) < (((cnt (ix1 ⟨s.val * 16 + e.val, by omega⟩)).toInt : ℝ) : EReal)
  inj : ∀ (e s : Fin 16) (u u' : Fin 1024), pos (ix2 e (at_ s u)) < 0 ∨ u = u' ∨ pos (ix2 e (at_ s u)) ≠ pos (ix2 e (at_ s u'))

theorem parts (cnt : IVec S256 32) (h2 : FVec Ideal S16384x1024 .bf16) (pos w : FVec Ideal S16x16384 .f32) (a4 a5 : FVec Ideal S16x1024x512 .bf16) (a6 : FVec Ideal S16x512x1024 .bf16) (a7 : FVec Ideal S16384x1024 .f32) (a8 : FVec Ideal S1x1024 .f32)
    (h : fn (F := Ideal) cnt h2 pos w a4 a5 a6 a7 a8 = fun _ => 1#1) : Facts5 cnt pos w := by
  have e := congrFun h (Shape.Idx.first Facts.h_S_)
  dsimp only [fn, fn_part1, fn_part2] at e
  simp only [andi] at e
  obtain ⟨e, e5⟩ := andi_eq_one.mp e
  obtain ⟨e, e4⟩ := andi_eq_one.mp e
  obtain ⟨e, e3⟩ := andi_eq_one.mp e
  obtain ⟨e1, e2⟩ := andi_eq_one.mp e
  have f1 := fun x : Fin 256 => Host.reduce_andi_all _ _ _ _ _ e1 (ix1 x)
  have f2 := fun (x : Fin 16) (y : Fin 16384) => Host.reduce_andi_all _ _ _ _ _ e2 (ix2 x y)
  have f3 := fun (x : Fin 16) (y : Fin 16) (z : Fin 1024) => Host.reduce_andi_all _ _ _ _ _ e3 (ix3 x y z)
  have f4 := fun (x : Fin 16) (y : Fin 16) (z : Fin 1024) => Host.reduce_andi_all _ _ _ _ _ e4 (ix3 x y z)
  have f5 := fun (x : Fin 16) (y : Fin 16) (z z' : Fin 1024) => Host.reduce_andi_all _ _ _ _ _ e5 (ix4 x y z z')
  clear e1 e2 e3 e4 e5 h e
  pointwise at f1 f2 f3 f4 f5
  have bit : ∀ {p : Prop} [Decidable p], BitVec.ofBool (decide p) = 1#1 → p := by
    intro p _ h
    by_contra hn
    rw [decide_eq_false hn] at h
    exact absurd h (by decide)
  refine ⟨fun x => ?_, fun e y => ?_, fun e s u => ?_, fun e s u => ?_, fun e s u u' => ?_⟩
  · obtain ⟨a, b⟩ := andi_eq_one.mp (f1 x)
    have a' := IntOp.cmpi_sge.mp a
    have b' := IntOp.cmpi_sle.mp b
    have h0 : (0#32 : BitVec 32).toInt = 0 := by decide
    have h1 : (1024#32 : BitVec 32).toInt = 1024 := by decide
    rw [h0] at a'
    rw [h1] at b'
    exact ⟨a', b'⟩
  · exact (ori_eq_one.mp (f2 e y)).imp bit bit
  · refine (ori_eq_one.mp (f3 e s u)).imp bit fun h => ?_
    rw [fold_ori] at h
    obtain ⟨n, -, hn⟩ := h
    refine ⟨n, (bit hn).trans ?_⟩
    show (((BitVec.ofNat 32 n.val).toInt : ℝ) : EReal) = _
    have : (BitVec.ofNat 32 n.val).toInt = (n.val : ℤ) := by
      have := n.isLt
      rw [BitVec.toInt_eq_toNat_of_lt (by simp only [BitVec.toNat_ofNat]; omega), BitVec.toNat_ofNat]
      omega
    rw [this, Int.cast_natCast]
  · exact (ori_eq_one.mp (f4 e s u)).imp bit bit
  · rcases ori_eq_one.mp (f5 e s u u') with h | h
    · exact (ori_eq_one.mp h).imp bit fun h => Or.inl (iota_ne h)
    · exact Or.inr (Or.inr (bit h))

end Cert.Pre_routed

end
-- ==== Proof.Moe.Routing.lean ====
module

public import proofs.«01_k».proof.Proof.Moe.Value
public import proofs.«01_k».proof.Proof.Moe.Decode

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

/-- The place of a sub-block's count in the table of counts. -/
def place (i : grid0.Coords) (s : ℕ) : Fin 256 := ⟨((i 0).val * 2 + s % 2) * 16 + (i 1).val, by
  have h0 : (i 0).val < 8 := (i 0).isLt
  have h1 : (i 1).val < 16 := (i 1).isLt
  omega⟩

theorem off2 : ∀ (a : Fin 8) (b : Fin 16) (s : Fin 2),
    (Scalar.indexCast (Scalar.addi (Scalar.muli (Scalar.addi (Scalar.muli (BitVec.ofNat 32 a.val) 2#32) (BitVec.ofNat 32 s.val)) 16#32) (BitVec.ofNat 32 b.val)) : Index).toNat = (a.val * 2 + s.val % 2) * 16 + b.val := by
  decide +kernel

theorem off2_eq (i : grid0.Coords) (s : Fin 2) : k0_off2 i (BitVec.ofNat 32 s.val) 0 = (place i s.val).val := off2 (i 0) (i 1) s

theorem dev0 (c : Dev nD) : c = 0 := Subsingleton.elim _ _

theorem cntA_read (c : Dev nD) (i : grid0.Coords) (xt0 : TbBuf0 (F := Ideal) c tbM0_0) : cntA c i xt0 = xt0 (ix1 (place i 0)) := by
  unfold cntA
  rw [View.readAt_apply]
  refine (View.read_apply _ _).trans ?_
  refine congrArg xt0 (funext fun a => Fin.ext ?_)
  match a with
  | 0 => exact off2_eq i 0

theorem cntB_read (c : Dev nD) (i : grid0.Coords) (xt0 : TbBuf0 (F := Ideal) c tbM0_0) : cntB c i xt0 = xt0 (ix1 (place i 1)) := by
  unfold cntB
  rw [View.readAt_apply]
  refine (View.read_apply _ _).trans ?_
  refine congrArg xt0 (funext fun a => Fin.ext ?_)
  match a with
  | 0 => exact off2_eq i 1

theorem cntA_eq (m : (ℓ : Loc nD τ sig) → Buf (Elt Ideal) ℓ) (c : Dev nD) (i : grid0.Coords) :
    cntA c i (tbl m 0) = m ((c.tc : Thread nD τ).loc main_arg0) (ix1 (place i 0)) := by
  obtain rfl := dev0 c
  exact cntA_read 0 i (tbl m 0)

theorem cntB_eq (m : (ℓ : Loc nD τ sig) → Buf (Elt Ideal) ℓ) (c : Dev nD) (i : grid0.Coords) :
    cntB c i (tbl m 0) = m ((c.tc : Thread nD τ).loc main_arg0) (ix1 (place i 1)) := by
  obtain rfl := dev0 c
  exact cntB_read 0 i (tbl m 0)

/-- A count at most 1024 has at most four tiles, and they reach it. -/
theorem tiles_bound (v : BitVec 32) (h0 : 0 ≤ v.toInt) (h1 : v.toInt ≤ 1024) :
    0 ≤ (tiles v).toInt ∧ (tiles v).toInt ≤ 4 ∧ v.toInt ≤ 256 * (tiles v).toInt := by
  have hv : v = BitVec.ofNat 32 (v.toInt.toNat) := by
    apply BitVec.eq_of_toInt_eq
    rw [BitVec.toInt_ofNat']
    simp only [Int.bmod]
    omega
  have k := tiles_count ⟨v.toInt.toNat, by omega⟩
  rw [← hv] at k
  have e : (tiles v).toInt = ((v.toInt.toNat + 255) / 256 : ℕ) := by
    rw [k, BitVec.toInt_ofNat']
    simp only [Int.bmod]
    omega
  omega

theorem maxsi_toInt (a b : BitVec 32) : (Scalar.maxsi a b).toInt = max a.toInt b.toInt := by
  unfold Scalar.maxsi IntOp.maxsi
  split <;> simp_all [BitVec.slt] <;> omega

/-- The trips after the first tile are at most three, and every tile a count needs is among them. -/
theorem trips_bound (v w : BitVec 32) (hv : 0 ≤ v.toInt ∧ v.toInt ≤ 1024) (hw : 0 ≤ w.toInt ∧ w.toInt ≤ 1024) :
    (k0_t1_loop v w).trips ≤ 3 ∧ v.toInt ≤ 256 * ((k0_t1_loop v w).trips + 1) ∧ w.toInt ≤ 256 * ((k0_t1_loop v w).trips + 1) := by
  have a := tiles_bound v hv.1 hv.2
  have b := tiles_bound w hw.1 hw.2
  have e : (most v w).toInt = max (max 0 (tiles v).toInt) (tiles w).toInt := by
    unfold most
    rw [maxsi_toInt, maxsi_toInt]
    rfl
  rw [trips1, e]
  omega

/-- The precondition's reading makes every grid point's tables a routing's. -/
theorem routed (m : (ℓ : Loc nD τ sig) → Buf (Elt Ideal) ℓ) (hO : Ok m) (c : Dev nD)
    (h : Cert.Pre_routed.Facts5 (m ((c.tc : Thread nD τ).loc main_arg0)) (arr2 m c) (arr3 m c)) : Routed m hO c := by
  intro t
  rw [cntA_eq, cntB_eq]
  have hi0 : (grid0.coords t 0).val < 8 := (grid0.coords t 0).isLt
  have hi1 : (grid0.coords t 1).val < 16 := (grid0.coords t 1).isLt
  obtain ⟨b1, b2, b3⟩ := trips_bound _ _ (h.count (place (grid0.coords t) 0)) (h.count (place (grid0.coords t) 1))
  generalize (k0_t1_loop (m ((c.tc : Thread nD τ).loc main_arg0) (ix1 (place (grid0.coords t) 0))) (m ((c.tc : Thread nD τ).loc main_arg0) (ix1 (place (grid0.coords t) 1)))).trips = N at *
  let e : Fin 16 := grid0.coords t 1
  have sub : ∀ q : Fin 2048, ∃ (s : Fin 16) (u : Fin 1024), s.val = (grid0.coords t 0).val * 2 + q.val / 1024 ∧ u.val = q.val % 1024 ∧ tok (grid0.coords t) q = Cert.Pre_routed.at_ s u := fun q =>
    ⟨⟨(grid0.coords t 0).val * 2 + q.val / 1024, by omega⟩, ⟨q.val % 1024, by omega⟩, rfl, rfl, Fin.ext (by
      show (grid0.coords t 0).val * 2048 + q.val = ((grid0.coords t 0).val * 2 + q.val / 1024) * 1024 + q.val % 1024
      omega)⟩
  have e1 : ∀ q, iblk m hO c 1 t (ix2 (grid0.coords t 1) q) = arr2 m c (ix2 e (tok (grid0.coords t) q)) := fun q => iblk1 m hO c t (grid0.coords t 1) q
  have e2 : ∀ q, iblk m hO c 2 t (ix2 (grid0.coords t 1) q) = arr3 m c (ix2 e (tok (grid0.coords t) q)) := fun q => iblk2 m hO c t (grid0.coords t 1) q
  refine ⟨b1, fun q hq => ?_, fun q => ?_, fun q q' hqq hp => ?_⟩
  · have hq' := (e1 q) ▸ hq
    refine (e2 q).trans ?_
    exact (h.idle e _).resolve_left (not_le.mpr hq')
  · obtain ⟨s, u, hs, hu, hx⟩ := sub q
    have n1 := h.num e s u
    have n2 := h.below e s u
    rw [← hx] at n1 n2
    rcases n1 with n1 | ⟨n, hn⟩
    · exact Or.inl (lt_of_eq_of_lt (α := EReal) (e1 q) n1)
    rcases n2 with n2 | n2
    · exact Or.inl (lt_of_eq_of_lt (α := EReal) (e1 q) n2)
    refine Or.inr ⟨n.val, (e1 q).trans hn, ?_⟩
    rw [hn] at n2
    have n3 : ((n.val : ℤ) : ℝ) < (((m ((c.tc : Thread nD τ).loc main_arg0) (ix1 (⟨s.val * 16 + e.val, by omega⟩ : Fin 256))).toInt : ℤ) : ℝ) := by
      have := EReal.coe_lt_coe_iff.mp n2
      exact_mod_cast this
    have n4 := Int.cast_lt.mp n3
    have hq1 : q.val / 1024 = 0 ∨ q.val / 1024 = 1 := by omega
    rcases hq1 with hq1 | hq1
    · have : (⟨s.val * 16 + e.val, by omega⟩ : Fin 256) = place (grid0.coords t) 0 := Fin.ext (by
        show s.val * 16 + (grid0.coords t 1).val = ((grid0.coords t 0).val * 2 + 0 % 2) * 16 + (grid0.coords t 1).val
        omega)
      rw [this] at n4
      omega
    · have : (⟨s.val * 16 + e.val, by omega⟩ : Fin 256) = place (grid0.coords t) 1 := Fin.ext (by
        show s.val * 16 + (grid0.coords t 1).val = ((grid0.coords t 0).val * 2 + 1 % 2) * 16 + (grid0.coords t 1).val
        omega)
      rw [this] at n4
      omega
  · obtain ⟨s, u, hs, hu, hx⟩ := sub q
    obtain ⟨s', u', hs', hu', hx'⟩ := sub q'
    have hss : s' = s := Fin.ext (by omega)
    subst hss
    have k := h.inj e s' u u'
    rw [← hx, ← hx'] at k
    rcases k with k | k | k
    · exact Or.inl (lt_of_eq_of_lt (α := EReal) (e1 q) k)
    · exact Or.inr (Fin.ext (by have := congrArg Fin.val k; omega))
    · exact absurd ((e1 q).symm.trans (hp.symm.trans (e1 q'))) k

end Cert.KernelIdeal.Moe

end
-- ==== Proof.Moe.Reference.lean ====
module

public import proofs.«01_k».proof.Proof.Moe.Value
public import proofs.«01_k».proof.Proof.Gen.ReferenceIdeal.Run
public import Idealize.ShloMosaic.Lib.Tactic.CleanTypes

@[expose] public section

set_option maxRecDepth 16384

noncomputable section

namespace Cert.KernelIdeal.Moe

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

/-- The mathematics: sixteen gated layers weighed and summed, normalized by the root of the mean square, scaled, and added to the input. -/
def layer (h2 : S16384x1024.Idx → EReal) (w : S16x16384.Idx → EReal) (wg wu : S16x1024x512.Idx → EReal) (wd : S16x512x1024.Idx → EReal)
    (x0 : S16384x1024.Idx → EReal) (g : S1x1024.Idx → EReal) (x : Fin 16384) (d : Fin 1024) : EReal :=
  let S : Fin 1024 → EReal := fun d => ∑ e : Fin 16, w (ix2 e x)
    * mlp (fun k => wg (ix3 e (k 0) (k 1))) (fun k => wu (ix3 e (k 0) (k 1))) (fun k => wd (ix3 e (k 0) (k 1))) (fun k => h2 (ix2 x k)) d
  x0 (ix2 x d) + (S d * Ideal.rsqrt (Ideal.div (∑ k, S k * S k) (Ideal.ofBits .f32 0x44800000#32) + Ideal.ofBits .f32 0x358637BD#32)) * g (ix2 0 d)

theorem upto_all (m : (ℓ : Loc nD τ sig) → Buf (Elt Ideal) ℓ) (c : Dev nD) (x : Fin 16384) (d : Fin 1024) :
    upto m c 16 x d = ∑ e : Fin 16, term m c e x d := by
  unfold upto
  rw [Finset.sum_range]
  exact Finset.sum_congr rfl fun e _ => congrArg (fun e => term m c e x d) (Fin.ext (Nat.mod_eq_of_lt e.isLt))

/-- What the kernel leaves is the layer. -/
theorem result_eq (m : (ℓ : Loc nD τ sig) → Buf (Elt Ideal) ℓ) (c : Dev nD) (x : Fin 16384) (d : Fin 1024) :
    result m c x d = layer (arr1 m c) (arr3 m c) (arr4 m c) (arr5 m c) (arr6 m c) (arr7 m c) (arr8 m c) x d := by
  unfold result
  simp only [upto_all]
  rfl

/-- The reference's result at token `x`, column `d`, is the layer. -/
theorem ref_apply (m : (ℓ : Loc Cert.ReferenceIdeal.nD Cert.ReferenceIdeal.τ Cert.ReferenceIdeal.sig) → Buf (Elt Ideal) ℓ) (c : Dev Cert.ReferenceIdeal.nD) (x : Fin 16384) (d : Fin 1024) :
    Cert.ReferenceIdeal.Value.res_main_v30 m c (ix2 x d)
      = layer (m ((c.tc : Thread Cert.ReferenceIdeal.nD Cert.ReferenceIdeal.τ).loc Cert.ReferenceIdeal.main_arg1))
        (m ((c.tc : Thread Cert.ReferenceIdeal.nD Cert.ReferenceIdeal.τ).loc Cert.ReferenceIdeal.main_arg3))
        (m ((c.tc : Thread Cert.ReferenceIdeal.nD Cert.ReferenceIdeal.τ).loc Cert.ReferenceIdeal.main_arg4))
        (m ((c.tc : Thread Cert.ReferenceIdeal.nD Cert.ReferenceIdeal.τ).loc Cert.ReferenceIdeal.main_arg5))
        (m ((c.tc : Thread Cert.ReferenceIdeal.nD Cert.ReferenceIdeal.τ).loc Cert.ReferenceIdeal.main_arg6))
        (m ((c.tc : Thread Cert.ReferenceIdeal.nD Cert.ReferenceIdeal.τ).loc Cert.ReferenceIdeal.main_arg7))
        (m ((c.tc : Thread Cert.ReferenceIdeal.nD Cert.ReferenceIdeal.τ).loc Cert.ReferenceIdeal.main_arg8)) x d := by
  unfold Cert.ReferenceIdeal.Value.res_main_v30
  pointwise
  rfl

end Cert.KernelIdeal.Moe

end
-- ==== Proof.Inproj.Spec.lean ====
module

public import proofs.«01_k».proof.Proof.Gen.Kernel2Ideal.Value
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

/-! The mathematics of the input projection: the residual stream with its position added, normalized by the root of its
mean square, scaled and shifted, times a matrix. -/

/-- The position table at token `t`, column `k`: the left half of the columns is the token's row, the right half its place in it. -/
def posn (er : S256x512.Idx → EReal) (ec : S64x512.Idx → EReal) (t : Fin 16384) (k : Fin 1024) : EReal :=
  if h : k.val < 512 then er (ix2 ⟨t.val / 64, by omega⟩ ⟨k.val, h⟩) else ec (ix2 ⟨t.val % 64, by omega⟩ ⟨k.val - 512, by omega⟩)

/-- A row with its position added. -/
def row (x : S1x16384x1024.Idx → EReal) (er : S256x512.Idx → EReal) (ec : S64x512.Idx → EReal) (t : Fin 16384) (k : Fin 1024) : EReal :=
  x (ix3 0 t k) + posn er ec t k

/-- One over the root of the mean square of a row. -/
def rms (u : Fin 1024 → EReal) : EReal :=
  Ideal.rsqrt (Ideal.div (∑ k, u k * u k) (Ideal.ofBits .f32 0x44800000#32) + Ideal.ofBits .f32 0x358637BD#32)

/-- A row normalized, scaled, shifted, and multiplied with column `j` of the matrix. -/
def proj (u : Fin 1024 → EReal) (g sh sc : S1x1024.Idx → EReal) (w : S1x1024x1536.Idx → EReal) (j : Fin 1536) : EReal :=
  ∑ k, (((u k * rms u) * g (ix2 0 k)) * (1 + sc (ix2 0 k)) + sh (ix2 0 k)) * w (ix3 0 k j)

/-! One block of the kernel. -/

/-- The block of rows with the positions added. -/
def rowsK (v0 : Vec Ideal S8x64x1024 .f32) (v2 : Vec Ideal S8x1x512 .f32) (v6 : Vec Ideal S1x64x512 .f32) : FVec Ideal S8x64x1024 .f32 :=
  addf (shapeCast S8x64x1024 v0 shapeCasts_S8x64x1024_S8x64x1024) (concatenate S8x64x1024 2
    [⟨S8x64x512, broadcastTo S8x64x512 (shapeCast S8x1x512 (shapeCast S8x1x512 v2 shapeCasts_S8x1x512_S8x1x512) shapeCasts_S8x1x512_S8x1x512) broadcasts_S8x1x512_S8x64x512⟩,
     ⟨S8x64x512, broadcastTo S8x64x512 (shapeCast S1x64x512 (shapeCast S1x64x512 v6 shapeCasts_S1x64x512_S1x64x512) shapeCasts_S1x64x512_S1x64x512) broadcasts_S1x64x512_S8x64x512⟩]
    concatenates_S8x64x512_S8x64x512_S8x64x1024_d2)

theorem rowsK_apply (v0 : Vec Ideal S8x64x1024 .f32) (v2 : Vec Ideal S8x1x512 .f32) (v6 : Vec Ideal S1x64x512 .f32) (a : Fin 8) (b : Fin 64) (k : Fin 1024) :
    rowsK v0 v2 v6 (ix3 a b k) = v0 (ix3 a b k) + (if h : k.val < 512 then v2 (ix3 a 0 ⟨k.val, h⟩) else v6 (ix3 0 b ⟨k.val - 512, by omega⟩) : EReal) := by
  unfold rowsK
  pointwise

/-- What the block computes from its rows. -/
def core (v11 : FVec Ideal S8x64x1024 .f32) (v23 : Vec Ideal S1x1024 .f32) (v27 : Vec Ideal S1x1024 .f32) (v31 : Vec Ideal S1024x1536 .bf16) : FVec Ideal S512x1536 .f32 :=
  have v12 : FVec Ideal S512x1024 .f32 := shapeCast S512x1024 v11 shapeCasts_S8x64x1024_S512x1024
  have v13 : FVec Ideal S512x1024 .f32 := mulf v12 v12
  have v14 : FVec Ideal S512 .f32 := multiReduction .add [1] S512 v13 0x00000000#32 reduces_S512x1024_S512 (.inl rfl) rfl
  have v15 : FVec Ideal S512x1 .f32 := shapeCast S512x1 v14 shapeCasts_S512_S512x1
  have cst_8 : Ideal .f32 := Scalar.ofBits .f32 0x44800000#32
  have v16 : FVec Ideal S512x1 .f32 := broadcast S512x1 cst_8
  have v17 : FVec Ideal S512x1 .f32 := divf v15 v16
  have cst_9 : Ideal .f32 := Scalar.ofBits .f32 0x358637BD#32
  have v18 : FVec Ideal S512x1 .f32 := broadcast S512x1 cst_9
  have v19 : FVec Ideal S512x1 .f32 := addf v17 v18
  have v20 : FVec Ideal S512x1 .f32 := rsqrt v19
  have v21 : FVec Ideal S512x1024 .f32 := broadcastTo S512x1024 v20 broadcasts_S512x1_S512x1024
  have v22 : FVec Ideal S512x1024 .f32 := mulf v12 v21
  have v24 : FVec Ideal S1x1024 .f32 := shapeCast S1x1024 v23 shapeCasts_S1x1024_S1x1024
  have v25 : FVec Ideal S512x1024 .f32 := broadcastTo S512x1024 v24 broadcasts_S1x1024_S512x1024
  have v26 : FVec Ideal S512x1024 .f32 := mulf v22 v25
  have v28 : FVec Ideal S512x1024 .f32 := broadcastTo S512x1024 v27 broadcasts_S1x1024_S512x1024
  have v29 : FVec Ideal S512x1024 .f32 := addf v26 v28
  have v30 : FVec Ideal S512x1024 .bf16 := truncf .bf16 v29 bitsLt_bf16_f32
  have v32 : FVec Ideal S1024x1536 .bf16 := shapeCast S1024x1536 v31 shapeCasts_S1024x1536_S1024x1536
  have cst_16 : FVec Ideal S512x1536 .f32 := constant S512x1536 .f32 0x00000000#32
  have v33 : FVec Ideal S512x1536 .f32 := matmul dot_S512x1024_S1024x1536_S512x1536_1_0_0_1_n_n none v30 v32 cst_16
  v33

theorem pay_eq (v0 : Vec Ideal S8x64x1024 .f32) (v2 : Vec Ideal S8x1x512 .f32) (v6 : Vec Ideal S1x64x512 .f32) (v23 : Vec Ideal S1x1024 .f32) (v27 : Vec Ideal S1x1024 .f32) (v31 : Vec Ideal S1024x1536 .bf16) :
    k0_pay3 v0 v2 v6 v23 v27 v31 = core (rowsK v0 v2 v6) v23 v27 v31 := rfl

theorem core_apply (X : FVec Ideal S8x64x1024 .f32) (g1 sh : Vec Ideal S1x1024 .f32) (w : Vec Ideal S1024x1536 .bf16) (r : Fin 512) (j : Fin 1536)
    (u : Fin 1024 → EReal) (hu : ∀ k, X (ix3 ⟨r.val / 64, by omega⟩ ⟨r.val % 64, by omega⟩ k) = u k) :
    core X g1 sh w (ix2 r j) = (∑ k, ((u k * rms u) * g1 (ix2 0 k) + sh (ix2 0 k)) * w (ix2 k j) : EReal) := by
  unfold core rms
  pointwise
  simp only [hu]

end Cert.Kernel2Ideal.Inproj

end
-- ==== Proof.Inproj.Value.lean ====
module

public import proofs.«01_k».proof.Proof.Inproj.Spec

@[expose] public section

set_option maxRecDepth 16384

noncomputable section

namespace Cert.Kernel2Ideal.Inproj

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

variable (m : (ℓ : Loc nD τ sig) → Buf (Elt Ideal) ℓ)

/-! The arguments, and the arrays the region finds. -/

abbrev arg0 (c : Dev nD) : S1x16384x1024.Idx → EReal := m ((c.tc : Thread nD τ).loc main_arg0)
abbrev arg1 (c : Dev nD) : S256x512.Idx → EReal := m ((c.tc : Thread nD τ).loc main_arg1)
abbrev arg2 (c : Dev nD) : S64x512.Idx → EReal := m ((c.tc : Thread nD τ).loc main_arg2)
abbrev arg3 (c : Dev nD) : S1x1024.Idx → EReal := m ((c.tc : Thread nD τ).loc main_arg3)
abbrev arg4 (c : Dev nD) : S1x1024.Idx → EReal := m ((c.tc : Thread nD τ).loc main_arg4)
abbrev arg5 (c : Dev nD) : S1x1024.Idx → EReal := m ((c.tc : Thread nD τ).loc main_arg5)
abbrev arg6 (c : Dev nD) : S1x1024x1536.Idx → EReal := m ((c.tc : Thread nD τ).loc main_arg6)

theorem V_v5 (c : Dev nD) (a : Fin 256) (b : Fin 64) (k : Fin 1024) : (V m c main_v5 : S256x64x1024.Idx → EReal) (ix3 a b k) = (arg0 m c (ix3 0 ⟨a.val * 64 + b.val, by omega⟩ k) : EReal) := by
  unfold_abbrev_sides
  after_results
  pointwise
  try rfl

theorem V_v6 (c : Dev nD) (a : Fin 256) (b : Fin 1) (k : Fin 512) : (V m c main_v6 : S256x1x512.Idx → EReal) (ix3 a b k) = (arg1 m c (ix2 a k) : EReal) := by
  unfold_abbrev_sides
  after_results
  pointwise
  try rfl

theorem V_v7 (c : Dev nD) (a : Fin 1) (b : Fin 64) (k : Fin 512) : (V m c main_v7 : S1x64x512.Idx → EReal) (ix3 a b k) = (arg2 m c (ix2 b k) : EReal) := by
  unfold_abbrev_sides
  after_results
  pointwise
  try rfl

theorem V_v4 (c : Dev nD) (k : Fin 1024) : (V m c main_v4 : S1x1024.Idx → EReal) (ix2 0 k) = (arg3 m c (ix2 0 k) * (1 + arg5 m c (ix2 0 k)) : EReal) := by
  unfold_abbrev_sides
  after_results
  pointwise
  try rfl

theorem V_v9 (c : Dev nD) (a : Fin 1024) (k : Fin 1536) : (V m c main_v9 : S1024x1536.Idx → EReal) (ix2 a k) = (arg6 m c (ix3 0 a k) : EReal) := by
  unfold_abbrev_sides
  after_results
  pointwise
  try rfl

/-! Which block each point stages. -/

theorem at0 (i : grid0.Coords) : cc0_transform_0 i = ![(i 0).val, 0, 0] := by
  have h : (i 0).val < 32 := (i 0).isLt
  unfold cc0_transform_0
  funext a
  match a with
  | ⟨0, _⟩ => exact Nat.mod_eq_of_lt (by omega)
  | ⟨1, _⟩ => rfl
  | ⟨2, _⟩ => rfl

theorem at1 (i : grid0.Coords) : cc0_transform_1 i = ![(i 0).val, 0, 0] := by
  have h : (i 0).val < 32 := (i 0).isLt
  unfold cc0_transform_1
  funext a
  match a with
  | ⟨0, _⟩ => exact Nat.mod_eq_of_lt (by omega)
  | ⟨1, _⟩ => rfl
  | ⟨2, _⟩ => rfl

theorem at2 (i : grid0.Coords) : cc0_transform_2 i = ![0, 0, 0] := by
  have h : (i 0).val < 32 := (i 0).isLt
  unfold cc0_transform_2
  funext a
  match a with
  | ⟨0, _⟩ => rfl
  | ⟨1, _⟩ => rfl
  | ⟨2, _⟩ => rfl

theorem at3 (i : grid0.Coords) : cc0_transform_3 i = ![0, 0] := by
  have h : (i 0).val < 32 := (i 0).isLt
  unfold cc0_transform_3
  funext a
  match a with
  | ⟨0, _⟩ => rfl
  | ⟨1, _⟩ => rfl

theorem at4 (i : grid0.Coords) : cc0_transform_4 i = ![0, 0] := by
  have h : (i 0).val < 32 := (i 0).isLt
  unfold cc0_transform_4
  funext a
  match a with
  | ⟨0, _⟩ => rfl
  | ⟨1, _⟩ => rfl

theorem at5 (i : grid0.Coords) : cc0_transform_5 i = ![0, 0] := by
  have h : (i 0).val < 32 := (i 0).isLt
  unfold cc0_transform_5
  funext a
  match a with
  | ⟨0, _⟩ => rfl
  | ⟨1, _⟩ => rfl

theorem at6 (i : grid0.Coords) : cc0_transform_6 i = ![(i 0).val, 0] := by
  have h : (i 0).val < 32 := (i 0).isLt
  unfold cc0_transform_6
  funext a
  match a with
  | ⟨0, _⟩ => exact Nat.mod_eq_of_lt (by omega)
  | ⟨1, _⟩ => rfl

theorem at7 (i : grid0.Coords) : cc0_transform_7 i = ![(i 0).val, 0] := by
  have h : (i 0).val < 32 := (i 0).isLt
  unfold cc0_transform_7
  funext a
  match a with
  | ⟨0, _⟩ => exact Nat.mod_eq_of_lt (by omega)
  | ⟨1, _⟩ => rfl

theorem at8 (i : grid0.Coords) : cc0_transform_8 i = ![(i 0).val, 0] := by
  have h : (i 0).val < 32 := (i 0).isLt
  unfold cc0_transform_8
  funext a
  match a with
  | ⟨0, _⟩ => exact Nat.mod_eq_of_lt (by omega)
  | ⟨1, _⟩ => rfl

theorem lt32 (t : Fin cfg0.N) : (grid0.coords t 0).val < 32 := (grid0.coords t 0).isLt

theorem iblk0 (c : Dev nD) (t : Fin cfg0.N) (a : Fin 8) (b : Fin 64) (k : Fin 1024) :
    iblk m c 0 t (ix3 a b k) = V m c main_v5 (ix3 ⟨(grid0.coords t 0).val * 8 + a.val, by have := lt32 t; omega⟩ b k) := by
  blk_ext [iblk]
  · show cc0_transform_0 (grid0.coords t) 0 * 8 + _ = _
    rw [at0]
    show (grid0.coords t 0).val * 8 + _ = _
    omega
  · show cc0_transform_0 (grid0.coords t) 1 * 64 + _ = _
    rw [at0]
    show 0 * 64 + _ = _
    omega
  · show cc0_transform_0 (grid0.coords t) 2 * 1024 + _ = _
    rw [at0]
    show 0 * 1024 + _ = _
    omega

theorem iblk1 (c : Dev nD) (t : Fin cfg0.N) (a : Fin 8) (b : Fin 1) (k : Fin 512) :
    iblk m c 1 t (ix3 a b k) = V m c main_v6 (ix3 ⟨(grid0.coords t 0).val * 8 + a.val, by have := lt32 t; omega⟩ b k) := by
  blk_ext [iblk]
  · show cc0_transform_1 (grid0.coords t) 0 * 8 + _ = _
    rw [at1]
    show (grid0.coords t 0).val * 8 + _ = _
    omega
  · exact congrFun (at1 (grid0.coords t)) 1
  · show cc0_transform_1 (grid0.coords t) 2 * 512 + _ = _
    rw [at1]
    show 0 * 512 + _ = _
    omega

theorem iblk2 (c : Dev nD) (t : Fin cfg0.N) (a : Fin 1) (b : Fin 64) (k : Fin 512) :
    iblk m c 2 t (ix3 a b k) = V m c main_v7 (ix3 a b k) := by
  blk_ext [iblk]
  · exact congrFun (at2 (grid0.coords t)) 0
  · show cc0_transform_2 (grid0.coords t) 1 * 64 + _ = _
    rw [at2]
    show 0 * 64 + _ = _
    omega
  · show cc0_transform_2 (grid0.coords t) 2 * 512 + _ = _
    rw [at2]
    show 0 * 512 + _ = _
    omega

theorem iblk3 (c : Dev nD) (t : Fin cfg0.N) (a : Fin 1) (k : Fin 1024) :
    iblk m c 3 t (ix2 a k) = V m c main_v4 (ix2 a k) := by
  blk_ext [iblk]
  · exact congrFun (at3 (grid0.coords t)) 0
  · show cc0_transform_3 (grid0.coords t) 1 * 1024 + _ = _
    rw [at3]
    show 0 * 1024 + _ = _
    omega

theorem iblk4 (c : Dev nD) (t : Fin cfg0.N) (a : Fin 1) (k : Fin 1024) :
    iblk m c 4 t (ix2 a k) = V m c main_arg4 (ix2 a k) := by
  blk_ext [iblk]
  · exact congrFun (at4 (grid0.coords t)) 0
  · show cc0_transform_4 (grid0.coords t) 1 * 1024 + _ = _
    rw [at4]
    show 0 * 1024 + _ = _
    omega

theorem iblk5 (c : Dev nD) (t : Fin cfg0.N) (a : Fin 1024) (k : Fin 1536) :
    iblk m c 5 t (ix2 a k) = V m c main_v9 (ix2 a k) := by
  blk_ext [iblk]
  · show cc0_transform_5 (grid0.coords t) 0 * 1024 + _ = _
    rw [at5]
    show 0 * 1024 + _ = _
    omega
  · show cc0_transform_5 (grid0.coords t) 1 * 1536 + _ = _
    rw [at5]
    show 0 * 1536 + _ = _
    omega

/-! One point's projection. -/

/-- The token row `r` of point `t`'s block holds. -/
def tok (t : Fin cfg0.N) (r : Fin 512) : Fin 16384 := ⟨(grid0.coords t 0).val * 512 + r.val, by have := lt32 t; omega⟩

/-- Column `j` of the projection of token `x`. -/
def out (c : Dev nD) (x : Fin 16384) (j : Fin 1536) : EReal :=
  proj (row (arg0 m c) (arg1 m c) (arg2 m c) x) (arg3 m c) (arg4 m c) (arg5 m c) (arg6 m c) j

theorem rows_tok (c : Dev nD) (t : Fin cfg0.N) (r : Fin 512) (k : Fin 1024) :
    rowsK (iblk m c 0 t) (iblk m c 1 t) (iblk m c 2 t) (ix3 ⟨r.val / 64, by omega⟩ ⟨r.val % 64, by omega⟩ k) = row (arg0 m c) (arg1 m c) (arg2 m c) (tok t r) k := by
  have h0 := (iblk0 m c t ⟨r.val / 64, by omega⟩ ⟨r.val % 64, by omega⟩ k).trans (V_v5 m c _ _ _)
  have e : (grid0.coords t 0).val * 512 + r.val = ((grid0.coords t 0).val * 8 + r.val / 64) * 64 + r.val % 64 := by omega
  rw [rowsK_apply]
  unfold row posn
  refine congrArg₂ (fun a b : EReal => a + b) ?_ ?_
  · exact h0.trans (congrArg (fun q => arg0 m c (ix3 0 q k)) (Fin.ext e.symm))
  · by_cases h : k.val < 512
    · rw [dif_pos h, dif_pos h]
      refine (iblk1 m c t _ _ _).trans ((V_v6 m c _ _ _).trans ?_)
      refine congrArg (fun q => arg1 m c (ix2 q ⟨k.val, h⟩)) (Fin.ext ?_)
      show (grid0.coords t 0).val * 8 + r.val / 64 = ((grid0.coords t 0).val * 512 + r.val) / 64
      omega
    · rw [dif_neg h, dif_neg h]
      refine (iblk2 m c t _ _ _).trans ((V_v7 m c _ _ _).trans ?_)
      refine congrArg (fun q => arg2 m c (ix2 q ⟨k.val - 512, by omega⟩)) (Fin.ext ?_)
      show r.val % 64 = ((grid0.coords t 0).val * 512 + r.val) % 64
      omega

/-- What point `t` computes. -/
theorem point (c : Dev nD) (t : Fin cfg0.N) (r : Fin 512) (j : Fin 1536) :
    k0_pay3 (iblk m c 0 t) (iblk m c 1 t) (iblk m c 2 t) (iblk m c 3 t) (iblk m c 4 t) (iblk m c 5 t) (ix2 r j) = out m c (tok t r) j := by
  rw [pay_eq]
  refine (core_apply _ (iblk m c 3 t) (iblk m c 4 t) (iblk m c 5 t) r j _ (rows_tok m c t r)).trans ?_
  unfold out proj
  refine Finset.sum_congr rfl fun k _ => ?_
  have h3 : (iblk m c 3 t (ix2 (0 : Fin 1) k) : EReal) = arg3 m c (ix2 0 k) * (1 + arg5 m c (ix2 0 k)) := (iblk3 m c t 0 k).trans (V_v4 m c k)
  have h4 : (iblk m c 4 t (ix2 (0 : Fin 1) k) : EReal) = arg4 m c (ix2 0 k) := (iblk4 m c t 0 k).trans (congrFun (V_main_arg4 m c) _)
  have h5 : (iblk m c 5 t (ix2 k j) : EReal) = arg6 m c (ix3 0 k j) := (iblk5 m c t k j).trans (V_v9 m c k j)
  rw [h3, h4, h5, ← mul_assoc]

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S8x64x1024 .f32) : View.ld x r0_0 = x := by
  unfold r0_0
  exact View.ld_unit_zero (S := S8x64x1024) hz3 _ x

theorem ld1 (x : Vec Ideal S8x1x512 .f32) : View.ld x r0_1 = x := by
  unfold r0_1
  exact View.ld_unit_zero (S := S8x1x512) hz3 _ x

theorem ld2 (x : Vec Ideal S1x64x512 .f32) : View.ld x r0_2 = x := by
  unfold r0_2
  exact View.ld_unit_zero (S := S1x64x512) hz3 _ x

theorem ld3 (x : Vec Ideal S1x1024 .f32) : View.ld x r0_3 = x := by
  unfold r0_3
  exact View.ld_unit_zero (S := S1x1024) hz2 _ x

theorem ld4 (x : Vec Ideal S1024x1536 .bf16) : View.ld x r0_4 = x := by
  unfold r0_4
  exact View.ld_unit_zero (S := S1024x1536) hz2 _ x

/-! The blocks in the results. -/

def co (t : Fin 32) : grid0.Coords := fun a => match a with
  | ⟨0, _⟩ => t

/-- Column `y` of part 0 of the projection. -/
def part6 (c : Dev nD) (x : Fin 16384) (y : Fin 512) : EReal := out m c x ⟨y.val, by omega⟩

theorem nblk6_0 : (cfg0.win 6).nblk (0 : Fin 2) = 32 := by
  show (16384 + 512 - 1) / 512 = 32
  rfl

theorem nblk6_1 : (cfg0.win 6).nblk (1 : Fin 2) = 1 := by
  show (512 + 512 - 1) / 512 = 1
  rfl

theorem covers6 : (cfg0.win 6).Covers := by
  refine (cfg0.win 6).covers_of_indexMap_surj rfl (fun a => ?_) fun β => ⟨co ⟨(β (0 : Fin 2)).val, lt_of_lt_of_eq (β (0 : Fin 2)).isLt nblk6_0⟩, fun a => ?_⟩
  · match a with
    | ⟨0, _⟩ => exact Nat.zero_lt_succ _
    | ⟨1, _⟩ => exact Nat.zero_lt_succ _
  · match a with
    | ⟨0, _⟩ => exact congrFun (at6 (co ⟨(β (0 : Fin 2)).val, lt_of_lt_of_eq (β (0 : Fin 2)).isLt nblk6_0⟩)) 0
    | ⟨1, _⟩ =>
      have h : (β (1 : Fin 2)).val < 1 := lt_of_lt_of_eq (β (1 : Fin 2)).isLt nblk6_1
      exact (congrFun (at6 (co ⟨(β (0 : Fin 2)).val, lt_of_lt_of_eq (β (0 : Fin 2)).isLt nblk6_0⟩)) 1).trans (show 0 = (β (1 : Fin 2)).val by omega)

theorem block6 (c : Dev nD) (t : Fin cfg0.N) (r y : Fin 512) :
    out0_6 (iblk m c 0 t) (iblk m c 1 t) (iblk m c 2 t) (iblk m c 3 t) (iblk m c 4 t) (iblk m c 5 t) (ix2 r y) = part6 m c (tok t r) y := by
  unfold_out out0_6
  refine (Cert.Kernel2Ideal.Value.canon6_eq _ _ _ _ _ _ (ix2 r y)).trans ?_
  simp only [ld0, ld1, ld2, ld3, ld4]
  refine Eq.trans ?_ (point m c t r ⟨y.val, by omega⟩)
  show k0_pay3 (iblk m c 0 t) (iblk m c 1 t) (iblk m c 2 t) (iblk m c 3 t) (iblk m c 4 t) (iblk m c 5 t) (Cert.Kernel2Ideal.Value.ix6_0 (ix2 r y)) = _
  refine congrArg (k0_pay3 (iblk m c 0 t) (iblk m c 1 t) (iblk m c 2 t) (iblk m c 3 t) (iblk m c 4 t) (iblk m c 5 t)) (funext fun a => Fin.ext ?_)
  match a with
  | ⟨0, _⟩ => rfl
  | ⟨1, _⟩ =>
    rfl

theorem final6 (c : Dev nD) :
    (dats m 0 c).arrAt 6 cfg0.N = fun y : S16384x512.Idx => part6 m c (y 0) (y 1) := by
  refine (dats m 0 c).arrAt_eq_of_covers 6 _ covers6 fun t hf y => ?_
  blk_simp
  rw [after0_6]
  have e0 : (((cfg0.win 6).blk t).view.emb y (0 : Fin 2) : Fin 16384) = tok t (y (0 : Fin 2)) := by
    apply Fin.ext
    blk_simp [tok]
    show cc0_transform_6 (grid0.coords t) 0 * _ + _ = _
    rw [at6]
    rfl
  have e1 : (((cfg0.win 6).blk t).view.emb y (1 : Fin 2) : Fin 512) = y (1 : Fin 2) := by
    apply Fin.ext
    blk_simp
    show cc0_transform_6 (grid0.coords t) 1 * _ + _ = _
    rw [at6]
    exact (congrArg (· + _) (Nat.zero_mul _)).trans (Nat.zero_add _)
  refine (congrArg (out0_6 (iblk m c 0 t) (iblk m c 1 t) (iblk m c 2 t) (iblk m c 3 t) (iblk m c 4 t) (iblk m c 5 t)) (eq_ix2 (n0 := 512) (n1 := 512) y)).trans ((block6 m c t _ _).trans ?_)
  exact congrArg₂ (part6 m c) e0.symm e1.symm

/-- Column `y` of part 1 of the projection. -/
def part7 (c : Dev nD) (x : Fin 16384) (y : Fin 512) : EReal := out m c x ⟨512 + y.val, by omega⟩

theorem nblk7_0 : (cfg0.win 7).nblk (0 : Fin 2) = 32 := by
  show (16384 + 512 - 1) / 512 = 32
  rfl

theorem nblk7_1 : (cfg0.win 7).nblk (1 : Fin 2) = 1 := by
  show (512 + 512 - 1) / 512 = 1
  rfl

theorem covers7 : (cfg0.win 7).Covers := by
  refine (cfg0.win 7).covers_of_indexMap_surj rfl (fun a => ?_) fun β => ⟨co ⟨(β (0 : Fin 2)).val, lt_of_lt_of_eq (β (0 : Fin 2)).isLt nblk7_0⟩, fun a => ?_⟩
  · match a with
    | ⟨0, _⟩ => exact Nat.zero_lt_succ _
    | ⟨1, _⟩ => exact Nat.zero_lt_succ _
  · match a with
    | ⟨0, _⟩ => exact congrFun (at7 (co ⟨(β (0 : Fin 2)).val, lt_of_lt_of_eq (β (0 : Fin 2)).isLt nblk7_0⟩)) 0
    | ⟨1, _⟩ =>
      have h : (β (1 : Fin 2)).val < 1 := lt_of_lt_of_eq (β (1 : Fin 2)).isLt nblk7_1
      exact (congrFun (at7 (co ⟨(β (0 : Fin 2)).val, lt_of_lt_of_eq (β (0 : Fin 2)).isLt nblk7_0⟩)) 1).trans (show 0 = (β (1 : Fin 2)).val by omega)

theorem block7 (c : Dev nD) (t : Fin cfg0.N) (r y : Fin 512) :
    out0_7 (iblk m c 0 t) (iblk m c 1 t) (iblk m c 2 t) (iblk m c 3 t) (iblk m c 4 t) (iblk m c 5 t) (ix2 r y) = part7 m c (tok t r) y := by
  unfold_out out0_7
  refine (Cert.Kernel2Ideal.Value.canon7_eq _ _ _ _ _ _ (ix2 r y)).trans ?_
  simp only [ld0, ld1, ld2, ld3, ld4]
  refine Eq.trans ?_ (point m c t r ⟨512 + y.val, by omega⟩)
  show k0_pay3 (iblk m c 0 t) (iblk m c 1 t) (iblk m c 2 t) (iblk m c 3 t) (iblk m c 4 t) (iblk m c 5 t) (Cert.Kernel2Ideal.Value.ix7_0 (ix2 r y)) = _
  refine congrArg (k0_pay3 (iblk m c 0 t) (iblk m c 1 t) (iblk m c 2 t) (iblk m c 3 t) (iblk m c 4 t) (iblk m c 5 t)) (funext fun a => Fin.ext ?_)
  match a with
  | ⟨0, _⟩ => rfl
  | ⟨1, _⟩ =>
    show y.val + 512 = 512 + y.val
    omega

theorem final7 (c : Dev nD) :
    (dats m 0 c).arrAt 7 cfg0.N = fun y : S16384x512.Idx => part7 m c (y 0) (y 1) := by
  refine (dats m 0 c).arrAt_eq_of_covers 7 _ covers7 fun t hf y => ?_
  blk_simp
  rw [after0_7]
  have e0 : (((cfg0.win 7).blk t).view.emb y (0 : Fin 2) : Fin 16384) = tok t (y (0 : Fin 2)) := by
    apply Fin.ext
    blk_simp [tok]
    show cc0_transform_7 (grid0.coords t) 0 * _ + _ = _
    rw [at7]
    rfl
  have e1 : (((cfg0.win 7).blk t).view.emb y (1 : Fin 2) : Fin 512) = y (1 : Fin 2) := by
    apply Fin.ext
    blk_simp
    show cc0_transform_7 (grid0.coords t) 1 * _ + _ = _
    rw [at7]
    exact (congrArg (· + _) (Nat.zero_mul _)).trans (Nat.zero_add _)
  refine (congrArg (out0_7 (iblk m c 0 t) (iblk m c 1 t) (iblk m c 2 t) (iblk m c 3 t) (iblk m c 4 t) (iblk m c 5 t)) (eq_ix2 (n0 := 512) (n1 := 512) y)).trans ((block7 m c t _ _).trans ?_)
  exact congrArg₂ (part7 m c) e0.symm e1.symm

/-- Column `y` of part 2 of the projection. -/
def part8 (c : Dev nD) (x : Fin 16384) (y : Fin 512) : EReal := out m c x ⟨1024 + y.val, by omega⟩

theorem nblk8_0 : (cfg0.win 8).nblk (0 : Fin 2) = 32 := by
  show (16384 + 512 - 1) / 512 = 32
  rfl

theorem nblk8_1 : (cfg0.win 8).nblk (1 : Fin 2) = 1 := by
  show (512 + 512 - 1) / 512 = 1
  rfl

theorem covers8 : (cfg0.win 8).Covers := by
  refine (cfg0.win 8).covers_of_indexMap_surj rfl (fun a => ?_) fun β => ⟨co ⟨(β (0 : Fin 2)).val, lt_of_lt_of_eq (β (0 : Fin 2)).isLt nblk8_0⟩, fun a => ?_⟩
  · match a with
    | ⟨0, _⟩ => exact Nat.zero_lt_succ _
    | ⟨1, _⟩ => exact Nat.zero_lt_succ _
  · match a with
    | ⟨0, _⟩ => exact congrFun (at8 (co ⟨(β (0 : Fin 2)).val, lt_of_lt_of_eq (β (0 : Fin 2)).isLt nblk8_0⟩)) 0
    | ⟨1, _⟩ =>
      have h : (β (1 : Fin 2)).val < 1 := lt_of_lt_of_eq (β (1 : Fin 2)).isLt nblk8_1
      exact (congrFun (at8 (co ⟨(β (0 : Fin 2)).val, lt_of_lt_of_eq (β (0 : Fin 2)).isLt nblk8_0⟩)) 1).trans (show 0 = (β (1 : Fin 2)).val by omega)

theorem block8 (c : Dev nD) (t : Fin cfg0.N) (r y : Fin 512) :
    out0_8 (iblk m c 0 t) (iblk m c 1 t) (iblk m c 2 t) (iblk m c 3 t) (iblk m c 4 t) (iblk m c 5 t) (ix2 r y) = part8 m c (tok t r) y := by
  unfold_out out0_8
  refine (Cert.Kernel2Ideal.Value.canon8_eq _ _ _ _ _ _ (ix2 r y)).trans ?_
  simp only [ld0, ld1, ld2, ld3, ld4]
  refine Eq.trans ?_ (point m c t r ⟨1024 + y.val, by omega⟩)
  show k0_pay3 (iblk m c 0 t) (iblk m c 1 t) (iblk m c 2 t) (iblk m c 3 t) (iblk m c 4 t) (iblk m c 5 t) (Cert.Kernel2Ideal.Value.ix8_0 (ix2 r y)) = _
  refine congrArg (k0_pay3 (iblk m c 0 t) (iblk m c 1 t) (iblk m c 2 t) (iblk m c 3 t) (iblk m c 4 t) (iblk m c 5 t)) (funext fun a => Fin.ext ?_)
  match a with
  | ⟨0, _⟩ => rfl
  | ⟨1, _⟩ =>
    show y.val + 1024 = 1024 + y.val
    omega

theorem final8 (c : Dev nD) :
    (dats m 0 c).arrAt 8 cfg0.N = fun y : S16384x512.Idx => part8 m c (y 0) (y 1) := by
  refine (dats m 0 c).arrAt_eq_of_covers 8 _ covers8 fun t hf y => ?_
  blk_simp
  rw [after0_8]
  have e0 : (((cfg0.win 8).blk t).view.emb y (0 : Fin 2) : Fin 16384) = tok t (y (0 : Fin 2)) := by
    apply Fin.ext
    blk_simp [tok]
    show cc0_transform_8 (grid0.coords t) 0 * _ + _ = _
    rw [at8]
    rfl
  have e1 : (((cfg0.win 8).blk t).view.emb y (1 : Fin 2) : Fin 512) = y (1 : Fin 2) := by
    apply Fin.ext
    blk_simp
    show cc0_transform_8 (grid0.coords t) 1 * _ + _ = _
    rw [at8]
    exact (congrArg (· + _) (Nat.zero_mul _)).trans (Nat.zero_add _)
  refine (congrArg (out0_8 (iblk m c 0 t) (iblk m c 1 t) (iblk m c 2 t) (iblk m c 3 t) (iblk m c 4 t) (iblk m c 5 t)) (eq_ix2 (n0 := 512) (n1 := 512) y)).trans ((block8 m c t _ _).trans ?_)
  exact congrArg₂ (part8 m c) e0.symm e1.symm

end Cert.Kernel2Ideal.Inproj

end
-- ==== Proof.Inproj.Reference.lean ====
module

public import proofs.«01_k».proof.Proof.Gen.Reference2Ideal.Run
public import proofs.«01_k».proof.Proof.Inproj.Spec
public import Idealize.ShloMosaic.Lib.Pointwise
public import Idealize.ShloMosaic.Lib.Tactic

@[expose] public section

set_option maxRecDepth 16384

noncomputable section

namespace Cert.Reference2Ideal.Plain

open Cert.Reference2Ideal Cert.Reference2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

/-- The rows with the positions added. -/
def rows (a0 : FVec Ideal S1x16384x1024 .f32) (a1 : FVec Ideal S256x512 .f32) (a2 : FVec Ideal S64x512 .f32) : FVec Ideal S1x16384x1024 .f32 :=
  (addf a0 (broadcastInDim S1x16384x1024 ![1, 2] bcast_S16384x1024_S1x16384x1024_1_2 (shapeCast _ (concatenate S256x64x1024 2 [⟨S256x64x512, (broadcastInDim S256x64x512 ![0, 1, 2] bcast_S256x1x512_S256x64x512_0_1_2 (broadcastInDim S256x1x512 ![0, 2] bcast_S256x512_S256x1x512_0_2 a1))⟩, ⟨S256x64x512, (broadcastInDim S256x64x512 ![0, 1, 2] bcast_S1x64x512_S256x64x512_0_1_2 (broadcastInDim S1x64x512 ![1, 2] bcast_S64x512_S1x64x512_1_2 a2))⟩] concatenates_S256x64x512_S256x64x512_S256x64x1024_d2) shapeCasts_S256x64x1024_S16384x1024)))

theorem rows_apply (a0 : FVec Ideal S1x16384x1024 .f32) (a1 : FVec Ideal S256x512 .f32) (a2 : FVec Ideal S64x512 .f32) (t : Fin 16384) (k : Fin 1024) :
    rows a0 a1 a2 (ix3 0 t k) = Cert.Kernel2Ideal.Inproj.row a0 a1 a2 t k := by
  unfold rows Cert.Kernel2Ideal.Inproj.row Cert.Kernel2Ideal.Inproj.posn
  pointwise
  try rfl

/-- The projection of the rows. -/
def dots (X : FVec Ideal S1x16384x1024 .f32) (a3 a4 a5 : FVec Ideal S1x1024 .f32) (a6 : FVec Ideal S1x1024x1536 .f32) : FVec Ideal S16384x1536 .f32 :=
  (Host.dotGeneral dot_S16384x1024_S1024x1536_S16384x1536_1_0_0_1_n_n none (shapeCast _ (addf (mulf (mulf (mulf X (broadcastInDim S1x16384x1024 ![0, 1, 2] bcast_S1x16384x1_S1x16384x1024_0_1_2 (Host.rsqrt (addf (Host.divf (broadcastInDim S1x16384x1 ![0, 1] bcast_S1x16384_S1x16384x1_0_1 (Host.reduceAdd (mulf X X) (constant S_ .f32 0x00000000#32) reducesTo_S1x16384x1024_S1x16384_d2 h_S_)) (broadcastInDim S1x16384x1 ![] bcast_S_S1x16384x1 (constant S_ .f32 0x44800000#32))) (broadcastInDim S1x16384x1 ![] bcast_S_S1x16384x1 (constant S_ .f32 0x358637BD#32)))))) (broadcastInDim S1x16384x1024 ![0, 1, 2] bcast_S1x1x1024_S1x16384x1024_0_1_2 (broadcastInDim S1x1x1024 ![2] bcast_S1024_S1x1x1024_2 (shapeCast _ a3 shapeCasts_S1x1024_S1024)))) (broadcastInDim S1x16384x1024 ![0, 1, 2] bcast_S1x1x1024_S1x16384x1024_0_1_2 (broadcastInDim S1x1x1024 ![1, 2] bcast_S1x1024_S1x1x1024_1_2 (addf (broadcastInDim S1x1024 ![] bcast_S_S1x1024 (constant S_ .f32 0x3F800000#32)) a5)))) (broadcastInDim S1x16384x1024 ![0, 1, 2] bcast_S1x1x1024_S1x16384x1024_0_1_2 (broadcastInDim S1x1x1024 ![1, 2] bcast_S1x1024_S1x1x1024_1_2 a4))) shapeCasts_S1x16384x1024_S16384x1024) (shapeCast _ a6 shapeCasts_S1x1024x1536_S1024x1536))

theorem dots_apply (X : FVec Ideal S1x16384x1024 .f32) (a3 a4 a5 : FVec Ideal S1x1024 .f32) (a6 : FVec Ideal S1x1024x1536 .f32) (t : Fin 16384) (j : Fin 1536) :
    dots X a3 a4 a5 a6 (ix2 t j) = Cert.Kernel2Ideal.Inproj.proj (fun k => X (ix3 0 t k)) a3 a4 a5 a6 j := by
  unfold dots Cert.Kernel2Ideal.Inproj.proj Cert.Kernel2Ideal.Inproj.rms
  pointwise
  try rfl

/-- Column `j` of the projection of token `t`. -/
def out (m : (ℓ : Loc nD τ sig) → Buf (Elt Ideal) ℓ) (c : Dev nD) (t : Fin 16384) (j : Fin 1536) : EReal :=
  Cert.Kernel2Ideal.Inproj.proj (Cert.Kernel2Ideal.Inproj.row (m ((c.tc : Thread nD τ).loc main_arg0)) (m ((c.tc : Thread nD τ).loc main_arg1)) (m ((c.tc : Thread nD τ).loc main_arg2)) t)
    (m ((c.tc : Thread nD τ).loc main_arg3)) (m ((c.tc : Thread nD τ).loc main_arg4)) (m ((c.tc : Thread nD τ).loc main_arg5)) (m ((c.tc : Thread nD τ).loc main_arg6)) j

theorem dots_rows (a0 : FVec Ideal S1x16384x1024 .f32) (a1 : FVec Ideal S256x512 .f32) (a2 : FVec Ideal S64x512 .f32)  (a3 a4 a5 : FVec Ideal S1x1024 .f32) (a6 : FVec Ideal S1x1024x1536 .f32) (t : Fin 16384) (j : Fin 1536) :
    dots (rows a0 a1 a2) a3 a4 a5 a6 (ix2 t j) = Cert.Kernel2Ideal.Inproj.proj (Cert.Kernel2Ideal.Inproj.row a0 a1 a2 t) a3 a4 a5 a6 j := by
  rw [dots_apply]
  simp only [rows_apply]

variable (m : (ℓ : Loc nD τ sig) → Buf (Elt Ideal) ℓ) (ρ : Dev nD → PrngReg)

theorem part0 (y : FVec Ideal S16384x1536 .f32) (x : Fin 16384) (j : Fin 512) :
    (truncf .bf16 (extractStridedSlice S16384x512 ![0, 0] y slices_S16384x1536_S16384x512_0_0) bitsLt_bf16_f32 : FVec Ideal S16384x512 .bf16) (ix2 x j) = y (ix2 x ⟨j.val, by omega⟩) := by
  pointwise
theorem part1 (y : FVec Ideal S16384x1536 .f32) (x : Fin 16384) (j : Fin 512) :
    (truncf .bf16 (extractStridedSlice S16384x512 ![0, 512] y slices_S16384x1536_S16384x512_0_512) bitsLt_bf16_f32 : FVec Ideal S16384x512 .bf16) (ix2 x j) = y (ix2 x ⟨512 + j.val, by omega⟩) := by
  pointwise
theorem part2 (y : FVec Ideal S16384x1536 .f32) (x : Fin 16384) (j : Fin 512) :
    (truncf .bf16 (extractStridedSlice S16384x512 ![0, 1024] y slices_S16384x1536_S16384x512_0_1024) bitsLt_bf16_f32 : FVec Ideal S16384x512 .bf16) (ix2 x j) = y (ix2 x ⟨1024 + j.val, by omega⟩) := by
  pointwise

/-- The reference leaves the three parts of the projection. -/
theorem run : θ_run defs (onTc (τ := τ) (main (F := Ideal))) ⟨m, fun _ => 0, ρ⟩ fun r => ∀ c : Dev nD,
    (∀ (x : Fin 16384) (j : Fin 512), r.2.mem ((c.tc : Thread nD τ).loc main_v34) (ix2 x j) = out m c x ⟨j.val, by omega⟩)
    ∧ (∀ (x : Fin 16384) (j : Fin 512), r.2.mem ((c.tc : Thread nD τ).loc main_v36) (ix2 x j) = out m c x ⟨512 + j.val, by omega⟩)
    ∧ (∀ (x : Fin 16384) (j : Fin 512), r.2.mem ((c.tc : Thread nD τ).loc main_v38) (ix2 x j) = out m c x ⟨1024 + j.val, by omega⟩) :=
  (θ_run defs _ _).mono (fun r h c => ⟨fun x j => (congrFun (h c).1 (ix2 x j)).trans ((part0 (dots (rows _ _ _) _ _ _ _) x j).trans (dots_rows ..)),
    fun x j => (congrFun (h c).2.1 (ix2 x j)).trans ((part1 (dots (rows _ _ _) _ _ _ _) x j).trans (dots_rows ..)),
    fun x j => (congrFun (h c).2.2.1 (ix2 x j)).trans ((part2 (dots (rows _ _ _) _ _ _ _) x j).trans (dots_rows ..))⟩) (Cert.Reference2Ideal.Value.run m ρ)
end Cert.Reference2Ideal.Plain

end
-- ==== Proof.Inproj.Agree.lean ====
module

public import proofs.«01_k».proof.Defs
public import proofs.«01_k».proof.Proof.Gen.Kernel2
public import proofs.«01_k».proof.Proof.Inproj.Value
public import proofs.«01_k».proof.Proof.Inproj.Reference
public import Idealize.ShloMosaic.Lib.Claim

@[expose] public section

noncomputable section

namespace Cert.Proof

open Idealize.ShloMosaic Idealize.SL.Sem Idealize.ShloMosaic.Pointwise

theorem inproj_out (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (x : Fin 16384) (j : Fin 1536) : Cert.Reference2Ideal.Plain.out m' c x j = Cert.Kernel2Ideal.Inproj.out m c x j := by
  unfold Cert.Reference2Ideal.Plain.out Cert.Kernel2Ideal.Inproj.out
  rw [h0, h1, h2, h3, h4, h5, h6]

/-- The input projection: every block of the kernel holds its tokens' rows of the projection, and the blocks make up the
    three parts. -/
theorem algebraic_inproj : letI := Cert.Kernel2Ideal.Gen.facts; letI := Cert.Reference2Ideal.Gen.facts
    Cert.algebraic_Kernel2Ideal_Reference2Ideal := by
  intro m g m' g' hp ha
  refine ⟨fun c y => Cert.Kernel2Ideal.Inproj.part6 m c (y (0 : Fin 2)) (y (1 : Fin 2)),
    fun c y => Cert.Kernel2Ideal.Inproj.part7 m c (y (0 : Fin 2)) (y (1 : Fin 2)),
    fun c y => Cert.Kernel2Ideal.Inproj.part8 m c (y (0 : Fin 2)) (y (1 : Fin 2)), ?_, ?_⟩
  · exact (θ_run Cert.Kernel2Ideal.defs _ _).mono (fun r h c => ⟨(h c).1.trans (Cert.Kernel2Ideal.Inproj.final6 m c),
      (h c).2.1.trans (Cert.Kernel2Ideal.Inproj.final7 m c), (h c).2.2.1.trans (Cert.Kernel2Ideal.Inproj.final8 m c), (h c).2.2.2⟩)
      (Cert.Kernel2Ideal.Value.run_blocks m g)
  · refine (θ_run Cert.Reference2Ideal.defs _ _).mono (fun r h c => ⟨?_, ?_, ?_, (h.1 c).2.2.2⟩)
      (θ_run_and (Cert.Reference2Ideal.Value.run m' g') (Cert.Reference2Ideal.Plain.run m' g'))
    · obtain ⟨h0, h1, h2, h3, h4, h5, h6⟩ := ha c
      funext y
      exact (congrArg (r.2.mem _) (eq_ix2 (n0 := 16384) (n1 := 512) y)).trans (((h.2 c).1 _ _).trans (inproj_out m m' c h0 h1 h2 h3 h4 h5 h6 _ _))
    · obtain ⟨h0, h1, h2, h3, h4, h5, h6⟩ := ha c
      funext y
      exact (congrArg (r.2.mem _) (eq_ix2 (n0 := 16384) (n1 := 512) y)).trans (((h.2 c).2.1 _ _).trans (inproj_out m m' c h0 h1 h2 h3 h4 h5 h6 _ _))
    · obtain ⟨h0, h1, h2, h3, h4, h5, h6⟩ := ha c
      funext y
      exact (congrArg (r.2.mem _) (eq_ix2 (n0 := 16384) (n1 := 512) y)).trans (((h.2 c).2.2 _ _).trans (inproj_out m m' c h0 h1 h2 h3 h4 h5 h6 _ _))

end Cert.Proof

end
-- ==== Proof.Merge.Spec.lean ====
module

public import proofs.«01_k».proof.Proof.Gen.Kernel3Ideal.Frame
public import proofs.«01_k».proof.Proof.Inproj.Spec
public import Idealize.ShloMosaic.Lib.Pointwise
public import Idealize.ShloMosaic.Lib.Pipeline.ValueKit
public import Idealize.ShloMosaic.Lib.Pipeline.Covers

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise
open Cert.Kernel2Ideal.Inproj (posn row rms)

/-! The mathematics of the readout, the output projection and the router's logits, one token at a time. -/

/-- The mean of a head's 128 entries. -/
def mean (u : Fin 128 → EReal) : EReal := Ideal.div (∑ k, u k) (Ideal.ofBits .f32 0x43000000#32)

/-- A head's layer norm, without weights. -/
def normed (u : Fin 128 → EReal) (j : Fin 128) : EReal :=
  (u j - mean u) * Ideal.rsqrt (Ideal.div (∑ k, (u k - mean u) * (u k - mean u)) (Ideal.ofBits .f32 0x43000000#32) + Ideal.ofBits .f32 0x358637BD#32)

/-- The layer norm of each of the four heads of a row. -/
def heads (h : Fin 512 → EReal) (k : Fin 512) : EReal :=
  normed (fun j => h ⟨k.val / 128 * 128 + j.val, by omega⟩) ⟨k.val % 128, by omega⟩

/-- z times the logistic function of z. -/
def silu (z : EReal) : EReal := z * Ideal.div 1 (1 + Ideal.exp (-z))

/-- The gated row: the heads' norm with its weight, plus the skip, times silu z. -/
def gated (h act z nw sk : Fin 512 → EReal) (k : Fin 512) : EReal := (heads h k * nw k + sk k * act k) * silu (z k)

/-- Two half rows side by side. -/
def beside (a b : Fin 512 → EReal) (k : Fin 1024) : EReal := if h : k.val < 512 then a ⟨k.val, h⟩ else b ⟨k.val - 512, by omega⟩

/-- A row times a matrix. -/
def times {n : Nat} (u : Fin 1024 → EReal) (w : Fin 1024 → Fin n → EReal) (j : Fin n) : EReal := ∑ k, u k * w k j

/-- The mixed features of token `x`. -/
def mixed (a0 a1 a2 a3 a4 : S16384x512.Idx → EReal) (a8 a9 : S1x512.Idx → EReal) (x : Fin 16384) : Fin 1024 → EReal :=
  beside (gated (fun k => a0 (ix2 x k) + a1 (ix2 x k)) (fun k => a2 (ix2 x k)) (fun k => a3 (ix2 x k)) (fun k => a8 (ix2 0 k)) (fun k => a9 (ix2 0 k)))
    (fun k => a4 (ix2 x k))

/-- The output projection. -/
def projected (u : Fin 1024 → EReal) (a10 : S1x1024x1024.Idx → EReal) : Fin 1024 → EReal := times u (fun k j => a10 (ix3 0 k j))

/-- The residual: the row plus the gated, normalized projection. -/
def resid (r y : Fin 1024 → EReal) (a11 a12 : S1x1024.Idx → EReal) (k : Fin 1024) : EReal :=
  r k + a12 (ix2 0 k) * ((y k * rms y) * a11 (ix2 0 k))

/-- The row before the experts: normalized, scaled, shifted. -/
def before (r : Fin 1024 → EReal) (a13 a14 a15 : S1x1024.Idx → EReal) (k : Fin 1024) : EReal :=
  ((r k * rms r) * a13 (ix2 0 k)) * (1 + a15 (ix2 0 k)) + a14 (ix2 0 k)

/-- The router's logits: four for the groups, sixteen for the experts, and twelve zeros. -/
def logit (u : Fin 1024 → EReal) (a16 : S1x1024x4.Idx → EReal) (a17 : S1x4.Idx → EReal) (a18 : S1x1024x16.Idx → EReal) (a19 : S1x16.Idx → EReal)
    (j : Fin 32) : EReal :=
  if h : j.val < 4 then times u (fun k j => a16 (ix3 0 k j)) ⟨j.val, h⟩ + a17 (ix2 0 ⟨j.val, h⟩)
  else if h : j.val - 4 < 16 then times u (fun k j => a18 (ix3 0 k j)) ⟨j.val - 4, h⟩ + a19 (ix2 0 ⟨j.val - 4, h⟩) else 0

/-- The router's weights in one matrix, with zero columns after them. -/
def wide (a16 : S1x1024x4.Idx → EReal) (a18 : S1x1024x16.Idx → EReal) (k : Fin 1024) (j : Fin 128) : EReal :=
  if h : j.val < 4 then a16 (ix3 0 k ⟨j.val, h⟩) else if h : j.val - 4 < 16 then a18 (ix3 0 k ⟨j.val - 4, h⟩) else 0

/-- The router's biases in one row, with zeros after them. -/
def wideb (a17 : S1x4.Idx → EReal) (a19 : S1x16.Idx → EReal) (j : Fin 128) : EReal :=
  if h : j.val < 4 then a17 (ix2 0 ⟨j.val, h⟩) else if h : j.val - 4 < 16 then a19 (ix2 0 ⟨j.val - 4, h⟩) else 0

/-- The logits in three products: with `u` and `w` finite the last two are zero. -/
def split3 (u : Fin 1024 → EReal) (w : Fin 1024 → Fin 128 → EReal) (b : Fin 128 → EReal) (j : Fin 32) : EReal :=
  ((∑ k, u k * w k ⟨j.val, by omega⟩) + ((∑ k, u k * (w k ⟨j.val, by omega⟩ - w k ⟨j.val, by omega⟩)) + (∑ k, (u k - u k) * w k ⟨j.val, by omega⟩))) + b ⟨j.val, by omega⟩

/-! One block of the kernel. -/

/-- The norm of one head's block. -/
def lnK (v5 : FVec Ideal S512x128 .f32) : FVec Ideal S512x128 .f32 :=
  have v6 : FVec Ideal S512 .f32 := multiReduction .add [1] S512 v5 0x00000000#32 reduces_S512x128_S512 (.inl rfl) rfl
  have v7 : FVec Ideal S512x1 .f32 := shapeCast S512x1 v6 shapeCasts_S512_S512x1
  have cst_3 : Ideal .f32 := Scalar.ofBits .f32 0x43000000#32
  have v8 : FVec Ideal S512x1 .f32 := broadcast S512x1 cst_3
  have v9 : FVec Ideal S512x1 .f32 := divf v7 v8
  have v10 : FVec Ideal S512x128 .f32 := broadcastTo S512x128 v9 broadcasts_S512x1_S512x128
  have v11 : FVec Ideal S512x128 .f32 := subf v5 v10
  have v12 : FVec Ideal S512x128 .f32 := mulf v11 v11
  have v13 : FVec Ideal S512 .f32 := multiReduction .add [1] S512 v12 0x00000000#32 reduces_S512x128_S512 (.inl rfl) rfl
  have v14 : FVec Ideal S512x1 .f32 := shapeCast S512x1 v13 shapeCasts_S512_S512x1
  have cst_5 : Ideal .f32 := Scalar.ofBits .f32 0x43000000#32
  have v15 : FVec Ideal S512x1 .f32 := broadcast S512x1 cst_5
  have v16 : FVec Ideal S512x1 .f32 := divf v14 v15
  have cst_6 : Ideal .f32 := Scalar.ofBits .f32 0x358637BD#32
  have v17 : FVec Ideal S512x1 .f32 := broadcast S512x1 cst_6
  have v18 : FVec Ideal S512x1 .f32 := addf v16 v17
  have v19 : FVec Ideal S512x1 .f32 := rsqrt v18
  have v20 : FVec Ideal S512x128 .f32 := broadcastTo S512x128 v19 broadcasts_S512x1_S512x128
  have v21 : FVec Ideal S512x128 .f32 := mulf v11 v20
  v21

theorem lnK_apply (X : FVec Ideal S512x128 .f32) (r : Fin 512) (j : Fin 128) : lnK X (ix2 r j) = normed (fun k => X (ix2 r k)) j := by
  unfold lnK normed mean
  pointwise
  try rfl

theorem slice_0 (Y : FVec Ideal S512x512 .f32) (r : Fin 512) (j : Fin 128) : (extractStridedSlice S512x128 ![0, 0] Y slices_S512x512_o0_0_S512x128) (ix2 r j) = Y (ix2 r ⟨j.val, by omega⟩) := by
  pointwise
theorem slice_1 (Y : FVec Ideal S512x512 .f32) (r : Fin 512) (j : Fin 128) : (extractStridedSlice S512x128 ![0, 128] Y slices_S512x512_o0_128_S512x128) (ix2 r j) = Y (ix2 r ⟨128 + j.val, by omega⟩) := by
  pointwise
theorem slice_2 (Y : FVec Ideal S512x512 .f32) (r : Fin 512) (j : Fin 128) : (extractStridedSlice S512x128 ![0, 256] Y slices_S512x512_o0_256_S512x128) (ix2 r j) = Y (ix2 r ⟨256 + j.val, by omega⟩) := by
  pointwise
theorem slice_3 (Y : FVec Ideal S512x512 .f32) (r : Fin 512) (j : Fin 128) : (extractStridedSlice S512x128 ![0, 384] Y slices_S512x512_o0_384_S512x128) (ix2 r j) = Y (ix2 r ⟨384 + j.val, by omega⟩) := by
  pointwise

/-- Four heads side by side. -/
def fourK (v21 v38 v55 v72 : FVec Ideal S512x128 .f32) : FVec Ideal S512x512 .f32 :=
  concatenate S512x512 1 [⟨S512x128, v21⟩, ⟨S512x128, v38⟩, ⟨S512x128, v55⟩, ⟨S512x128, v72⟩] concatenates_S512x128_S512x128_S512x128_S512x128_S512x512_d1

theorem fourK_apply (A B C D : FVec Ideal S512x128 .f32) (r : Fin 512) (k : Fin 512) :
    fourK A B C D (ix2 r k) = (if h : k.val < 128 then A (ix2 r ⟨k.val, h⟩) else if h : k.val - 128 < 128 then B (ix2 r ⟨k.val - 128, h⟩)
      else if h : k.val - 128 - 128 < 128 then C (ix2 r ⟨k.val - 128 - 128, h⟩) else D (ix2 r ⟨k.val - 128 - 128 - 128, by omega⟩) : EReal) := by
  unfold fourK
  pointwise
  try rfl

/-- The heads' norms of a block. -/
def headsK (Y : FVec Ideal S512x512 .f32) : FVec Ideal S512x512 .f32 :=
  fourK (lnK (extractStridedSlice S512x128 ![0, 0] Y slices_S512x512_o0_0_S512x128)) (lnK (extractStridedSlice S512x128 ![0, 128] Y slices_S512x512_o0_128_S512x128))
    (lnK (extractStridedSlice S512x128 ![0, 256] Y slices_S512x512_o0_256_S512x128)) (lnK (extractStridedSlice S512x128 ![0, 384] Y slices_S512x512_o0_384_S512x128))

theorem headsK_apply (Y : FVec Ideal S512x512 .f32) (r k : Fin 512) : headsK Y (ix2 r k) = heads (fun k => Y (ix2 r k)) k := by
  unfold headsK heads
  rw [fourK_apply]
  have hk := k.isLt
  split_ifs with h0 h1 h2
  · rw [lnK_apply]
    simp only [slice_0]
    have e : k.val / 128 = 0 := by omega
    refine congrArg₂ normed (funext fun j => congrArg (fun q => Y (ix2 r q)) (Fin.ext ?_)) (Fin.ext ?_)
    · show j.val = k.val / 128 * 128 + j.val
      omega
    · show k.val = k.val % 128
      omega
  · rw [lnK_apply]
    simp only [slice_1]
    have e : k.val / 128 = 1 := by omega
    refine congrArg₂ normed (funext fun j => congrArg (fun q => Y (ix2 r q)) (Fin.ext ?_)) (Fin.ext ?_)
    · show 128 + j.val = k.val / 128 * 128 + j.val
      omega
    · show k.val - 128 = k.val % 128
      omega
  · rw [lnK_apply]
    simp only [slice_2]
    have e : k.val / 128 = 2 := by omega
    refine congrArg₂ normed (funext fun j => congrArg (fun q => Y (ix2 r q)) (Fin.ext ?_)) (Fin.ext ?_)
    · show 256 + j.val = k.val / 128 * 128 + j.val
      omega
    · show k.val - 128 - 128 = k.val % 128
      omega
  · rw [lnK_apply]
    simp only [slice_3]
    have e : k.val / 128 = 3 := by omega
    refine congrArg₂ normed (funext fun j => congrArg (fun q => Y (ix2 r q)) (Fin.ext ?_)) (Fin.ext ?_)
    · show 384 + j.val = k.val / 128 * 128 + j.val
      omega
    · show k.val - 128 - 128 - 128 = k.val % 128
      omega

/-- The norm's weight, and the skip. -/
def mixK (v73 : FVec Ideal S512x512 .f32) (v76 v80 : Vec Ideal S1x512 .f32) (v82 : Vec Ideal S512x512 .bf16) : FVec Ideal S512x512 .f32 :=
  have v77 : FVec Ideal S1x512 .f32 := shapeCast S1x512 v76 shapeCasts_S1x512_S1x512
  have v78 : FVec Ideal S512x512 .f32 := broadcastTo S512x512 v77 broadcasts_S1x512_S512x512
  have v79 : FVec Ideal S512x512 .f32 := mulf v73 v78
  have v81 : FVec Ideal S1x512 .f32 := shapeCast S1x512 v80 shapeCasts_S1x512_S1x512
  have v83 : FVec Ideal S512x512 .f32 := extf .f32 v82 bitsLt_bf16_f32
  have v84 : FVec Ideal S512x512 .f32 := broadcastTo S512x512 v81 broadcasts_S1x512_S512x512
  have v85 : FVec Ideal S512x512 .f32 := mulf v84 v83
  have v86 : FVec Ideal S512x512 .f32 := addf v79 v85
  v86

theorem mixK_apply (H : FVec Ideal S512x512 .f32) (nw sk : Vec Ideal S1x512 .f32) (act : Vec Ideal S512x512 .bf16) (r k : Fin 512) :
    mixK H nw sk act (ix2 r k) = (H (ix2 r k) * nw (ix2 0 k) + sk (ix2 0 k) * act (ix2 r k) : EReal) := by
  unfold mixK
  pointwise

/-- The two halves of the mixed features. -/
def besideK (v86 v75 : FVec Ideal S512x512 .f32) (v97 : Vec Ideal S512x512 .bf16) : FVec Ideal S512x1024 .bf16 :=
  have cst_30 : Ideal .f32 := Scalar.ofBits .f32 0x00000000#32
  have v87 : FVec Ideal S512x512 .f32 := broadcast S512x512 cst_30
  have v88 : FVec Ideal S512x512 .f32 := subf v87 v75
  have v89 : FVec Ideal S512x512 .f32 := exp v88
  have cst_31 : Ideal .f32 := Scalar.ofBits .f32 0x3F800000#32
  have v90 : FVec Ideal S512x512 .f32 := broadcast S512x512 cst_31
  have v91 : FVec Ideal S512x512 .f32 := addf v90 v89
  have cst_32 : Ideal .f32 := Scalar.ofBits .f32 0x3F800000#32
  have v92 : FVec Ideal S512x512 .f32 := broadcast S512x512 cst_32
  have v93 : FVec Ideal S512x512 .f32 := divf v92 v91
  have v94 : FVec Ideal S512x512 .f32 := mulf v75 v93
  have v95 : FVec Ideal S512x512 .f32 := mulf v86 v94
  have v96 : FVec Ideal S512x512 .bf16 := truncf .bf16 v95 bitsLt_bf16_f32
  have v98 : FVec Ideal S512x1024 .bf16 := concatenate S512x1024 1 [⟨S512x512, v96⟩, ⟨S512x512, v97⟩] concatenates_S512x512_S512x512_S512x1024_d1
  v98

theorem besideK_apply (M Z : FVec Ideal S512x512 .f32) (yf : Vec Ideal S512x512 .bf16) (r : Fin 512) (k : Fin 1024) :
    besideK M Z yf (ix2 r k) = beside (fun k => M (ix2 r k) * silu (Z (ix2 r k))) (fun k => yf (ix2 r k)) k := by
  unfold besideK beside silu
  pointwise
  simp only [zero_sub]

/-- A block times the output matrix. -/
def outK (v98 : FVec Ideal S512x1024 .bf16) (v99 : Vec Ideal S1024x1024 .bf16) : FVec Ideal S512x1024 .f32 :=
  have v100 : FVec Ideal S1024x1024 .bf16 := shapeCast S1024x1024 v99 shapeCasts_S1024x1024_S1024x1024
  have cst_37 : FVec Ideal S512x1024 .f32 := constant S512x1024 .f32 0x00000000#32
  have v101 : FVec Ideal S512x1024 .f32 := matmul dot_S512x1024_S1024x1024_S512x1024_1_0_0_1_n_n none v98 v100 cst_37
  v101

theorem outK_apply (X : FVec Ideal S512x1024 .bf16) (w : Vec Ideal S1024x1024 .bf16) (r : Fin 512) (j : Fin 1024) :
    outK X w (ix2 r j) = times (fun k => X (ix2 r k)) (fun k j => w (ix2 k j)) j := by
  unfold outK times
  pointwise
  try rfl

/-- A block with each row normalized by the root of its mean square. -/
def rmsK (v101 : FVec Ideal S512x1024 .f32) : FVec Ideal S512x1024 .f32 :=
  have v115 : FVec Ideal S512x1024 .f32 := mulf v101 v101
  have v116 : FVec Ideal S512 .f32 := multiReduction .add [1] S512 v115 0x00000000#32 reduces_S512x1024_S512 (.inl rfl) rfl
  have v117 : FVec Ideal S512x1 .f32 := shapeCast S512x1 v116 shapeCasts_S512_S512x1
  have cst_48 : Ideal .f32 := Scalar.ofBits .f32 0x44800000#32
  have v118 : FVec Ideal S512x1 .f32 := broadcast S512x1 cst_48
  have v119 : FVec Ideal S512x1 .f32 := divf v117 v118
  have cst_49 : Ideal .f32 := Scalar.ofBits .f32 0x358637BD#32
  have v120 : FVec Ideal S512x1 .f32 := broadcast S512x1 cst_49
  have v121 : FVec Ideal S512x1 .f32 := addf v119 v120
  have v122 : FVec Ideal S512x1 .f32 := rsqrt v121
  have v123 : FVec Ideal S512x1024 .f32 := broadcastTo S512x1024 v122 broadcasts_S512x1_S512x1024
  have v124 : FVec Ideal S512x1024 .f32 := mulf v101 v123
  v124

theorem rmsK_apply (X : FVec Ideal S512x1024 .f32) (r : Fin 512) (j : Fin 1024) : rmsK X (ix2 r j) = (X (ix2 r j) * rms (fun k => X (ix2 r k)) : EReal) := by
  unfold rmsK rms
  pointwise
  try rfl

theorem pay10_apply (v0 : Vec Ideal S8x64x1024 .f32) (v2 : Vec Ideal S8x1x512 .f32) (v6 : Vec Ideal S1x64x512 .f32) (r : Fin 512) (k : Fin 1024) :
    k0_pay10 v0 v2 v6 (ix2 r k) = (v0 (ix3 ⟨r.val / 64, by omega⟩ ⟨r.val % 64, by omega⟩ k) + (if h : k.val < 512 then v2 (ix3 ⟨r.val / 64, by omega⟩ 0 ⟨k.val, h⟩) else v6 (ix3 0 ⟨r.val % 64, by omega⟩ ⟨k.val - 512, by omega⟩) : EReal) : EReal) := by
  unfold k0_pay10
  pointwise
  try rfl

theorem pay2_apply (a b : Vec Ideal S512x512 .bf16) (r k : Fin 512) : k0_pay2 a b (ix2 r k) = (a (ix2 r k) + b (ix2 r k) : EReal) := by
  unfold k0_pay2
  pointwise

theorem pay8_apply (a : Vec Ideal S512x512 .bf16) (r k : Fin 512) : k0_pay8 a (ix2 r k) = (a (ix2 r k) : EReal) := by
  unfold k0_pay8
  pointwise

theorem pay12_apply (X Y : FVec Ideal S512x1024 .f32) (g : Vec Ideal S1x1024 .f32) (r : Fin 512) (k : Fin 1024) :
    k0_pay12 X Y g (ix2 r k) = (X (ix2 r k) + Y (ix2 r k) * g (ix2 0 k) : EReal) := by
  unfold k0_pay12
  pointwise

/-- The block before the experts: normalized, scaled, shifted. -/
def shiftK (v140 : FVec Ideal S512x1024 .f32) (v141 : Vec Ideal S1x1024 .f32) (v145 : Vec Ideal S1x1024 .f32) : FVec Ideal S512x1024 .f32 :=
  have v142 : FVec Ideal S1x1024 .f32 := shapeCast S1x1024 v141 shapeCasts_S1x1024_S1x1024
  have v143 : FVec Ideal S512x1024 .f32 := broadcastTo S512x1024 v142 broadcasts_S1x1024_S512x1024
  have v144 : FVec Ideal S512x1024 .f32 := mulf v140 v143
  have v146 : FVec Ideal S512x1024 .f32 := broadcastTo S512x1024 v145 broadcasts_S1x1024_S512x1024
  have v147 : FVec Ideal S512x1024 .f32 := addf v144 v146
  v147

theorem shiftK_apply (X : FVec Ideal S512x1024 .f32) (g sh : Vec Ideal S1x1024 .f32) (r : Fin 512) (k : Fin 1024) :
    shiftK X g sh (ix2 r k) = (X (ix2 r k) * g (ix2 0 k) + sh (ix2 0 k) : EReal) := by
  unfold shiftK
  pointwise

theorem pay14_apply (X Y : FVec Ideal S512x1024 .f32) (g g2 sh : Vec Ideal S1x1024 .f32) (r : Fin 512) (k : Fin 1024) :
    k0_pay14 X Y g g2 sh (ix2 r k) = (k0_pay13 X Y g g2 sh (ix2 r k) : EReal) := by
  unfold k0_pay14
  pointwise

/-- The logits: each operand cut into its half-precision part and the rest, and three of the four products. -/
def dotK (v147 : FVec Ideal S512x1024 .f32) (v150 : Vec Ideal S1024x128 .f32) : FVec Ideal S512x128 .f32 :=
  have v151 : FVec Ideal S1024x128 .f32 := shapeCast S1024x128 v150 shapeCasts_S1024x128_S1024x128
  have v152 : FVec Ideal S512x1024 .bf16 := truncf .bf16 v147 bitsLt_bf16_f32
  have v153 : FVec Ideal S512x1024 .f32 := extf .f32 v152 bitsLt_bf16_f32
  have v154 : FVec Ideal S512x1024 .f32 := subf v147 v153
  have v155 : FVec Ideal S512x1024 .bf16 := truncf .bf16 v154 bitsLt_bf16_f32
  have v156 : FVec Ideal S1024x128 .bf16 := truncf .bf16 v151 bitsLt_bf16_f32
  have v157 : FVec Ideal S1024x128 .f32 := extf .f32 v156 bitsLt_bf16_f32
  have v158 : FVec Ideal S1024x128 .f32 := subf v151 v157
  have v159 : FVec Ideal S1024x128 .bf16 := truncf .bf16 v158 bitsLt_bf16_f32
  have cst_65 : FVec Ideal S512x128 .f32 := constant S512x128 .f32 0x00000000#32
  have v160 : FVec Ideal S512x128 .f32 := matmul dot_S512x1024_S1024x128_S512x128_1_0_0_1_n_n none v152 v156 cst_65
  have cst_66 : FVec Ideal S512x128 .f32 := constant S512x128 .f32 0x00000000#32
  have v161 : FVec Ideal S512x128 .f32 := matmul dot_S512x1024_S1024x128_S512x128_1_0_0_1_n_n none v152 v159 cst_66
  have cst_67 : FVec Ideal S512x128 .f32 := constant S512x128 .f32 0x00000000#32
  have v162 : FVec Ideal S512x128 .f32 := matmul dot_S512x1024_S1024x128_S512x128_1_0_0_1_n_n none v155 v156 cst_67
  have v163 : FVec Ideal S512x128 .f32 := addf v161 v162
  have v164 : FVec Ideal S512x128 .f32 := addf v160 v163
  v164

theorem dotK_apply (X : FVec Ideal S512x1024 .f32) (w : Vec Ideal S1024x128 .f32) (r : Fin 512) (j : Fin 128) :
    dotK X w (ix2 r j) = ((∑ k, X (ix2 r k) * w (ix2 k j)) + ((∑ k, X (ix2 r k) * (w (ix2 k j) - w (ix2 k j))) + (∑ k, (X (ix2 r k) - X (ix2 r k)) * w (ix2 k j))) : EReal) := by
  unfold dotK
  pointwise
  try rfl

theorem pay1_apply (X : FVec Ideal S512x128 .f32) (b : Vec Ideal S1x128 .f32) (j : Fin 32) (r : Fin 512) :
    k0_pay1 X b (ix2 j r) = (X (ix2 r ⟨j.val, by omega⟩) + b (ix2 0 ⟨j.val, by omega⟩) : EReal) := by
  unfold k0_pay1
  pointwise

/-! The payloads of the block's stages. -/

theorem pay9_eq (v0 v2 : Vec Ideal S512x512 .bf16) (v76 v80 : Vec Ideal S1x512 .f32) (v82 : Vec Ideal S512x512 .bf16) :
    k0_pay9 (k0_pay2 v0 v2) (k0_pay3 v0 v2) (k0_pay4 v0 v2) (k0_pay5 v0 v2) (k0_pay6 v0 v2) (k0_pay7 (F := Ideal)) v76 v80 v82 = mixK (headsK (k0_pay2 v0 v2)) v76 v80 v82 := rfl

theorem pay11_eq (v75 v86 : FVec Ideal S512x512 .f32) (v97 : Vec Ideal S512x512 .bf16) (v99 : Vec Ideal S1024x1024 .bf16) :
    k0_pay11 v75 v86 v97 v99 = rmsK (outK (besideK v86 v75 v97) v99) := rfl

theorem pay13_eq (X Y : FVec Ideal S512x1024 .f32) (g g2 sh : Vec Ideal S1x1024 .f32) :
    k0_pay13 X Y g g2 sh = shiftK (rmsK (k0_pay12 X Y g)) g2 sh := rfl

theorem pay15_eq (X Y : FVec Ideal S512x1024 .f32) (g g2 sh : Vec Ideal S1x1024 .f32) (w : Vec Ideal S1024x128 .f32) :
    k0_pay15 X Y g g2 sh w = dotK (k0_pay13 X Y g g2 sh) w := rfl

end Cert.Kernel3Ideal.Merge

end
-- ==== Proof.Merge.Arrays.lean ====
module

public import proofs.«01_k».proof.Proof.Merge.Spec

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise

variable (m : (ℓ : Loc nD τ sig) → Buf (Elt Ideal) ℓ)

/-! The arguments, and the arrays the region finds. -/

abbrev arg0 (c : Dev nD) : S16384x512.Idx → EReal := m ((c.tc : Thread nD τ).loc main_arg0)
abbrev arg1 (c : Dev nD) : S16384x512.Idx → EReal := m ((c.tc : Thread nD τ).loc main_arg1)
abbrev arg2 (c : Dev nD) : S16384x512.Idx → EReal := m ((c.tc : Thread nD τ).loc main_arg2)
abbrev arg3 (c : Dev nD) : S16384x512.Idx → EReal := m ((c.tc : Thread nD τ).loc main_arg3)
abbrev arg4 (c : Dev nD) : S16384x512.Idx → EReal := m ((c.tc : Thread nD τ).loc main_arg4)
abbrev arg5 (c : Dev nD) : S1x16384x1024.Idx → EReal := m ((c.tc : Thread nD τ).loc main_arg5)
abbrev arg6 (c : Dev nD) : S256x512.Idx → EReal := m ((c.tc : Thread nD τ).loc main_arg6)
abbrev arg7 (c : Dev nD) : S64x512.Idx → EReal := m ((c.tc : Thread nD τ).loc main_arg7)
abbrev arg8 (c : Dev nD) : S1x512.Idx → EReal := m ((c.tc : Thread nD τ).loc main_arg8)
abbrev arg9 (c : Dev nD) : S1x512.Idx → EReal := m ((c.tc : Thread nD τ).loc main_arg9)
abbrev arg10 (c : Dev nD) : S1x1024x1024.Idx → EReal := m ((c.tc : Thread nD τ).loc main_arg10)
abbrev arg11 (c : Dev nD) : S1x1024.Idx → EReal := m ((c.tc : Thread nD τ).loc main_arg11)
abbrev arg12 (c : Dev nD) : S1x1024.Idx → EReal := m ((c.tc : Thread nD τ).loc main_arg12)
abbrev arg13 (c : Dev nD) : S1x1024.Idx → EReal := m ((c.tc : Thread nD τ).loc main_arg13)
abbrev arg14 (c : Dev nD) : S1x1024.Idx → EReal := m ((c.tc : Thread nD τ).loc main_arg14)
abbrev arg15 (c : Dev nD) : S1x1024.Idx → EReal := m ((c.tc : Thread nD τ).loc main_arg15)
abbrev arg16 (c : Dev nD) : S1x1024x4.Idx → EReal := m ((c.tc : Thread nD τ).loc main_arg16)
abbrev arg17 (c : Dev nD) : S1x4.Idx → EReal := m ((c.tc : Thread nD τ).loc main_arg17)
abbrev arg18 (c : Dev nD) : S1x1024x16.Idx → EReal := m ((c.tc : Thread nD τ).loc main_arg18)
abbrev arg19 (c : Dev nD) : S1x16.Idx → EReal := m ((c.tc : Thread nD τ).loc main_arg19)

theorem V_v17 (c : Dev nD) (a : Fin 256) (b : Fin 64) (k : Fin 1024) : (V m c main_v17 : S256x64x1024.Idx → EReal) (ix3 a b k) = (arg5 m c (ix3 0 ⟨a.val * 64 + b.val, by omega⟩ k) : EReal) := by
  unfold_abbrev_sides
  after_results
  pointwise
  try rfl

theorem V_v18 (c : Dev nD) (a : Fin 256) (b : Fin 1) (k : Fin 512) : (V m c main_v18 : S256x1x512.Idx → EReal) (ix3 a b k) = (arg6 m c (ix2 a k) : EReal) := by
  unfold_abbrev_sides
  after_results
  pointwise
  try rfl

theorem V_v19 (c : Dev nD) (a : Fin 1) (b : Fin 64) (k : Fin 512) : (V m c main_v19 : S1x64x512.Idx → EReal) (ix3 a b k) = (arg7 m c (ix2 b k) : EReal) := by
  unfold_abbrev_sides
  after_results
  pointwise
  try rfl

theorem V_v21 (c : Dev nD) (k : Fin 512) : (V m c main_v21 : S1x512.Idx → EReal) (ix2 0 k) = (arg8 m c (ix2 0 k) : EReal) := by
  unfold_abbrev_sides
  after_results
  pointwise
  try rfl

theorem V_v23 (c : Dev nD) (k : Fin 512) : (V m c main_v23 : S1x512.Idx → EReal) (ix2 0 k) = (arg9 m c (ix2 0 k) : EReal) := by
  unfold_abbrev_sides
  after_results
  pointwise
  try rfl

theorem V_v25 (c : Dev nD) (a : Fin 1024) (k : Fin 1024) : (V m c main_v25 : S1024x1024.Idx → EReal) (ix2 a k) = (arg10 m c (ix3 0 a k) : EReal) := by
  unfold_abbrev_sides
  after_results
  pointwise
  try rfl

theorem V_v2 (c : Dev nD) (k : Fin 1024) : (V m c main_v2 : S1x1024.Idx → EReal) (ix2 0 k) = (arg11 m c (ix2 0 k) * arg12 m c (ix2 0 k) : EReal) := by
  unfold_abbrev_sides
  after_results
  pointwise
  try rfl

theorem V_v7 (c : Dev nD) (k : Fin 1024) : (V m c main_v7 : S1x1024.Idx → EReal) (ix2 0 k) = (arg13 m c (ix2 0 k) * (1 + arg15 m c (ix2 0 k)) : EReal) := by
  unfold_abbrev_sides
  after_results
  pointwise
  try rfl

theorem V_v11 (c : Dev nD) (a : Fin 1024) (k : Fin 128) : (V m c main_v11 : S1024x128.Idx → EReal) (ix2 a k) = (wide (arg16 m c) (arg18 m c) a k : EReal) := by
  unfold wide
  unfold_abbrev_sides
  after_results
  pointwise
  by_cases h : k.val < 4
  · rw [dif_pos h, dif_pos h]
    refine Eq.trans (congrFun (g := shapeCast S1024x4 (arg16 m c : FVec Ideal S1x1024x4 .f32) shapeCasts_S1x1024x4_S1024x4) (by after_results_steps; try rfl) _) ?_
    pointwise
    try rfl
  · rw [dif_neg h, dif_neg h]
    by_cases h' : k.val - 4 < 16
    · rw [dif_pos h', dif_pos h']
      refine Eq.trans (congrFun (g := shapeCast S1024x16 (arg18 m c : FVec Ideal S1x1024x16 .f32) shapeCasts_S1x1024x16_S1024x16) (by after_results_steps; try rfl) _) ?_
      pointwise
      try rfl
    · rw [dif_neg h', dif_neg h']
      refine Eq.trans (congrFun (g := broadcastInDim S1024x108 ![] bcast_S_S1024x108 (constant (F := Ideal) S_ .f32 0x00000000#32)) (by after_results_steps; try rfl) _) ?_
      pointwise
      try rfl

theorem V_v16 (c : Dev nD) (k : Fin 128) : (V m c main_v16 : S1x128.Idx → EReal) (ix2 0 k) = (wideb (arg17 m c) (arg19 m c) k : EReal) := by
  unfold wideb
  unfold_abbrev_sides
  after_results
  pointwise
  by_cases h : k.val < 4
  · rw [dif_pos h, dif_pos h]
    refine Eq.trans (congrFun (g := shapeCast S4 (arg17 m c : FVec Ideal S1x4 .f32) shapeCasts_S1x4_S4) (by after_results_steps; try rfl) _) ?_
    pointwise
    try rfl
  · rw [dif_neg h, dif_neg h]
    by_cases h' : k.val - 4 < 16
    · rw [dif_pos h', dif_pos h']
      refine Eq.trans (congrFun (g := shapeCast S16 (arg19 m c : FVec Ideal S1x16 .f32) shapeCasts_S1x16_S16) (by after_results_steps; try rfl) _) ?_
      pointwise
      try rfl
    · rw [dif_neg h', dif_neg h']
      refine Eq.trans (congrFun (g := broadcastInDim S108 ![] bcast_S_S108 (constant (F := Ideal) S_ .f32 0x00000000#32)) (by after_results_steps; try rfl) _) ?_
      pointwise
      try rfl

/-! Which block each point stages. -/

theorem at0 (i : grid0.Coords) : cc0_transform_0 i = ![(i 0).val, 0] := by
  have h : (i 0).val < 32 := (i 0).isLt
  unfold cc0_transform_0
  funext a
  match a with
  | ⟨0, _⟩ => exact Nat.mod_eq_of_lt (by omega)
  | ⟨1, _⟩ => rfl

theorem at1 (i : grid0.Coords) : cc0_transform_1 i = ![(i 0).val, 0] := by
  have h : (i 0).val < 32 := (i 0).isLt
  unfold cc0_transform_1
  funext a
  match a with
  | ⟨0, _⟩ => exact Nat.mod_eq_of_lt (by omega)
  | ⟨1, _⟩ => rfl

theorem at2 (i : grid0.Coords) : cc0_transform_2 i = ![(i 0).val, 0] := by
  have h : (i 0).val < 32 := (i 0).isLt
  unfold cc0_transform_2
  funext a
  match a with
  | ⟨0, _⟩ => exact Nat.mod_eq_of_lt (by omega)
  | ⟨1, _⟩ => rfl

theorem at3 (i : grid0.Coords) : cc0_transform_3 i = ![(i 0).val, 0] := by
  have h : (i 0).val < 32 := (i 0).isLt
  unfold cc0_transform_3
  funext a
  match a with
  | ⟨0, _⟩ => exact Nat.mod_eq_of_lt (by omega)
  | ⟨1, _⟩ => rfl

theorem at4 (i : grid0.Coords) : cc0_transform_4 i = ![(i 0).val, 0] := by
  have h : (i 0).val < 32 := (i 0).isLt
  unfold cc0_transform_4
  funext a
  match a with
  | ⟨0, _⟩ => exact Nat.mod_eq_of_lt (by omega)
  | ⟨1, _⟩ => rfl

theorem at5 (i : grid0.Coords) : cc0_transform_5 i = ![(i 0).val, 0, 0] := by
  have h : (i 0).val < 32 := (i 0).isLt
  unfold cc0_transform_5
  funext a
  match a with
  | ⟨0, _⟩ => exact Nat.mod_eq_of_lt (by omega)
  | ⟨1, _⟩ => rfl
  | ⟨2, _⟩ => rfl

theorem at6 (i : grid0.Coords) : cc0_transform_6 i = ![(i 0).val, 0, 0] := by
  have h : (i 0).val < 32 := (i 0).isLt
  unfold cc0_transform_6
  funext a
  match a with
  | ⟨0, _⟩ => exact Nat.mod_eq_of_lt (by omega)
  | ⟨1, _⟩ => rfl
  | ⟨2, _⟩ => rfl

theorem at7 (i : grid0.Coords) : cc0_transform_7 i = ![0, 0, 0] := by
  have h : (i 0).val < 32 := (i 0).isLt
  unfold cc0_transform_7
  funext a
  match a with
  | ⟨0, _⟩ => rfl
  | ⟨1, _⟩ => rfl
  | ⟨2, _⟩ => rfl

theorem at8 (i : grid0.Coords) : cc0_transform_8 i = ![0, 0] := by
  have h : (i 0).val < 32 := (i 0).isLt
  unfold cc0_transform_8
  funext a
  match a with
  | ⟨0, _⟩ => rfl
  | ⟨1, _⟩ => rfl

theorem at9 (i : grid0.Coords) : cc0_transform_9 i = ![0, 0] := by
  have h : (i 0).val < 32 := (i 0).isLt
  unfold cc0_transform_9
  funext a
  match a with
  | ⟨0, _⟩ => rfl
  | ⟨1, _⟩ => rfl

theorem at10 (i : grid0.Coords) : cc0_transform_10 i = ![0, 0] := by
  have h : (i 0).val < 32 := (i 0).isLt
  unfold cc0_transform_10
  funext a
  match a with
  | ⟨0, _⟩ => rfl
  | ⟨1, _⟩ => rfl

theorem at11 (i : grid0.Coords) : cc0_transform_11 i = ![0, 0] := by
  have h : (i 0).val < 32 := (i 0).isLt
  unfold cc0_transform_11
  funext a
  match a with
  | ⟨0, _⟩ => rfl
  | ⟨1, _⟩ => rfl

theorem at12 (i : grid0.Coords) : cc0_transform_12 i = ![0, 0] := by
  have h : (i 0).val < 32 := (i 0).isLt
  unfold cc0_transform_12
  funext a
  match a with
  | ⟨0, _⟩ => rfl
  | ⟨1, _⟩ => rfl

theorem at13 (i : grid0.Coords) : cc0_transform_13 i = ![0, 0] := by
  have h : (i 0).val < 32 := (i 0).isLt
  unfold cc0_transform_13
  funext a
  match a with
  | ⟨0, _⟩ => rfl
  | ⟨1, _⟩ => rfl

theorem at14 (i : grid0.Coords) : cc0_transform_14 i = ![0, 0] := by
  have h : (i 0).val < 32 := (i 0).isLt
  unfold cc0_transform_14
  funext a
  match a with
  | ⟨0, _⟩ => rfl
  | ⟨1, _⟩ => rfl

theorem at15 (i : grid0.Coords) : cc0_transform_15 i = ![0, 0] := by
  have h : (i 0).val < 32 := (i 0).isLt
  unfold cc0_transform_15
  funext a
  match a with
  | ⟨0, _⟩ => rfl
  | ⟨1, _⟩ => rfl

theorem at16 (i : grid0.Coords) : cc0_transform_16 i = ![(i 0).val, 0] := by
  have h : (i 0).val < 32 := (i 0).isLt
  unfold cc0_transform_16
  funext a
  match a with
  | ⟨0, _⟩ => exact Nat.mod_eq_of_lt (by omega)
  | ⟨1, _⟩ => rfl

theorem at17 (i : grid0.Coords) : cc0_transform_17 i = ![(i 0).val, 0] := by
  have h : (i 0).val < 32 := (i 0).isLt
  unfold cc0_transform_17
  funext a
  match a with
  | ⟨0, _⟩ => exact Nat.mod_eq_of_lt (by omega)
  | ⟨1, _⟩ => rfl

theorem at18 (i : grid0.Coords) : cc0_transform_18 i = ![0, (i 0).val] := by
  have h : (i 0).val < 32 := (i 0).isLt
  unfold cc0_transform_18
  funext a
  match a with
  | ⟨0, _⟩ => rfl
  | ⟨1, _⟩ => exact Nat.mod_eq_of_lt (by omega)

theorem lt32 (t : Fin cfg0.N) : (grid0.coords t 0).val < 32 := (grid0.coords t 0).isLt

/-- The token row `r` of point `t`'s block holds. -/
def tok (t : Fin cfg0.N) (r : Fin 512) : Fin 16384 := ⟨(grid0.coords t 0).val * 512 + r.val, by have := lt32 t; omega⟩

theorem iblk0 (c : Dev nD) (t : Fin cfg0.N) (a : Fin 512) (k : Fin 512) :
    iblk m c 0 t (ix2 a k) = V m c main_arg0 (ix2 ⟨(grid0.coords t 0).val * 512 + a.val, by have := lt32 t; omega⟩ k) := by
  blk_ext [iblk]
  · show cc0_transform_0 (grid0.coords t) 0 * 512 + _ = _
    rw [at0]
    show (grid0.coords t 0).val * 512 + _ = _
    omega
  · show cc0_transform_0 (grid0.coords t) 1 * 512 + _ = _
    rw [at0]
    show 0 * 512 + _ = _
    omega

theorem iblk1 (c : Dev nD) (t : Fin cfg0.N) (a : Fin 512) (k : Fin 512) :
    iblk m c 1 t (ix2 a k) = V m c main_arg1 (ix2 ⟨(grid0.coords t 0).val * 512 + a.val, by have := lt32 t; omega⟩ k) := by
  blk_ext [iblk]
  · show cc0_transform_1 (grid0.coords t) 0 * 512 + _ = _
    rw [at1]
    show (grid0.coords t 0).val * 512 + _ = _
    omega
  · show cc0_transform_1 (grid0.coords t) 1 * 512 + _ = _
    rw [at1]
    show 0 * 512 + _ = _
    omega

theorem iblk2 (c : Dev nD) (t : Fin cfg0.N) (a : Fin 512) (k : Fin 512) :
    iblk m c 2 t (ix2 a k) = V m c main_arg2 (ix2 ⟨(grid0.coords t 0).val * 512 + a.val, by have := lt32 t; omega⟩ k) := by
  blk_ext [iblk]
  · show cc0_transform_2 (grid0.coords t) 0 * 512 + _ = _
    rw [at2]
    show (grid0.coords t 0).val * 512 + _ = _
    omega
  · show cc0_transform_2 (grid0.coords t) 1 * 512 + _ = _
    rw [at2]
    show 0 * 512 + _ = _
    omega

theorem iblk3 (c : Dev nD) (t : Fin cfg0.N) (a : Fin 512) (k : Fin 512) :
    iblk m c 3 t (ix2 a k) = V m c main_arg3 (ix2 ⟨(grid0.coords t 0).val * 512 + a.val, by have := lt32 t; omega⟩ k) := by
  blk_ext [iblk]
  · show cc0_transform_3 (grid0.coords t) 0 * 512 + _ = _
    rw [at3]
    show (grid0.coords t 0).val * 512 + _ = _
    omega
  · show cc0_transform_3 (grid0.coords t) 1 * 512 + _ = _
    rw [at3]
    show 0 * 512 + _ = _
    omega

theorem iblk4 (c : Dev nD) (t : Fin cfg0.N) (a : Fin 512) (k : Fin 512) :
    iblk m c 4 t (ix2 a k) = V m c main_arg4 (ix2 ⟨(grid0.coords t 0).val * 512 + a.val, by have := lt32 t; omega⟩ k) := by
  blk_ext [iblk]
  · show cc0_transform_4 (grid0.coords t) 0 * 512 + _ = _
    rw [at4]
    show (grid0.coords t 0).val * 512 + _ = _
    omega
  · show cc0_transform_4 (grid0.coords t) 1 * 512 + _ = _
    rw [at4]
    show 0 * 512 + _ = _
    omega

theorem iblk5 (c : Dev nD) (t : Fin cfg0.N) (a : Fin 8) (b : Fin 64) (k : Fin 1024) :
    iblk m c 5 t (ix3 a b k) = V m c main_v17 (ix3 ⟨(grid0.coords t 0).val * 8 + a.val, by have := lt32 t; omega⟩ b k) := by
  blk_ext [iblk]
  · show cc0_transform_5 (grid0.coords t) 0 * 8 + _ = _
    rw [at5]
    show (grid0.coords t 0).val * 8 + _ = _
    omega
  · show cc0_transform_5 (grid0.coords t) 1 * 64 + _ = _
    rw [at5]
    show 0 * 64 + _ = _
    omega
  · show cc0_transform_5 (grid0.coords t) 2 * 1024 + _ = _
    rw [at5]
    show 0 * 1024 + _ = _
    omega

theorem iblk6 (c : Dev nD) (t : Fin cfg0.N) (a : Fin 8) (b : Fin 1) (k : Fin 512) :
    iblk m c 6 t (ix3 a b k) = V m c main_v18 (ix3 ⟨(grid0.coords t 0).val * 8 + a.val, by have := lt32 t; omega⟩ b k) := by
  blk_ext [iblk]
  · show cc0_transform_6 (grid0.coords t) 0 * 8 + _ = _
    rw [at6]
    show (grid0.coords t 0).val * 8 + _ = _
    omega
  · exact congrFun (at6 (grid0.coords t)) 1
  · show cc0_transform_6 (grid0.coords t) 2 * 512 + _ = _
    rw [at6]
    show 0 * 512 + _ = _
    omega

theorem iblk7 (c : Dev nD) (t : Fin cfg0.N) (a : Fin 1) (b : Fin 64) (k : Fin 512) :
    iblk m c 7 t (ix3 a b k) = V m c main_v19 (ix3 a b k) := by
  blk_ext [iblk]
  · exact congrFun (at7 (grid0.coords t)) 0
  · show cc0_transform_7 (grid0.coords t) 1 * 64 + _ = _
    rw [at7]
    show 0 * 64 + _ = _
    omega
  · show cc0_transform_7 (grid0.coords t) 2 * 512 + _ = _
    rw [at7]
    show 0 * 512 + _ = _
    omega

theorem iblk8 (c : Dev nD) (t : Fin cfg0.N) (a : Fin 1) (k : Fin 512) :
    iblk m c 8 t (ix2 a k) = V m c main_v21 (ix2 a k) := by
  blk_ext [iblk]
  · exact congrFun (at8 (grid0.coords t)) 0
  · show cc0_transform_8 (grid0.coords t) 1 * 512 + _ = _
    rw [at8]
    show 0 * 512 + _ = _
    omega

theorem iblk9 (c : Dev nD) (t : Fin cfg0.N) (a : Fin 1) (k : Fin 512) :
    iblk m c 9 t (ix2 a k) = V m c main_v23 (ix2 a k) := by
  blk_ext [iblk]
  · exact congrFun (at9 (grid0.coords t)) 0
  · show cc0_transform_9 (grid0.coords t) 1 * 512 + _ = _
    rw [at9]
    show 0 * 512 + _ = _
    omega

theorem iblk10 (c : Dev nD) (t : Fin cfg0.N) (a : Fin 1024) (k : Fin 1024) :
    iblk m c 10 t (ix2 a k) = V m c main_v25 (ix2 a k) := by
  blk_ext [iblk]
  · show cc0_transform_10 (grid0.coords t) 0 * 1024 + _ = _
    rw [at10]
    show 0 * 1024 + _ = _
    omega
  · show cc0_transform_10 (grid0.coords t) 1 * 1024 + _ = _
    rw [at10]
    show 0 * 1024 + _ = _
    omega

theorem iblk11 (c : Dev nD) (t : Fin cfg0.N) (a : Fin 1) (k : Fin 1024) :
    iblk m c 11 t (ix2 a k) = V m c main_v2 (ix2 a k) := by
  blk_ext [iblk]
  · exact congrFun (at11 (grid0.coords t)) 0
  · show cc0_transform_11 (grid0.coords t) 1 * 1024 + _ = _
    rw [at11]
    show 0 * 1024 + _ = _
    omega

theorem iblk12 (c : Dev nD) (t : Fin cfg0.N) (a : Fin 1) (k : Fin 1024) :
    iblk m c 12 t (ix2 a k) = V m c main_v7 (ix2 a k) := by
  blk_ext [iblk]
  · exact congrFun (at12 (grid0.coords t)) 0
  · show cc0_transform_12 (grid0.coords t) 1 * 1024 + _ = _
    rw [at12]
    show 0 * 1024 + _ = _
    omega

theorem iblk13 (c : Dev nD) (t : Fin cfg0.N) (a : Fin 1) (k : Fin 1024) :
    iblk m c 13 t (ix2 a k) = V m c main_arg14 (ix2 a k) := by
  blk_ext [iblk]
  · exact congrFun (at13 (grid0.coords t)) 0
  · show cc0_transform_13 (grid0.coords t) 1 * 1024 + _ = _
    rw [at13]
    show 0 * 1024 + _ = _
    omega

theorem iblk14 (c : Dev nD) (t : Fin cfg0.N) (a : Fin 1024) (k : Fin 128) :
    iblk m c 14 t (ix2 a k) = V m c main_v11 (ix2 a k) := by
  blk_ext [iblk]
  · show cc0_transform_14 (grid0.coords t) 0 * 1024 + _ = _
    rw [at14]
    show 0 * 1024 + _ = _
    omega
  · show cc0_transform_14 (grid0.coords t) 1 * 128 + _ = _
    rw [at14]
    show 0 * 128 + _ = _
    omega

theorem iblk15 (c : Dev nD) (t : Fin cfg0.N) (a : Fin 1) (k : Fin 128) :
    iblk m c 15 t (ix2 a k) = V m c main_v16 (ix2 a k) := by
  blk_ext [iblk]
  · exact congrFun (at15 (grid0.coords t)) 0
  · show cc0_transform_15 (grid0.coords t) 1 * 128 + _ = _
    rw [at15]
    show 0 * 128 + _ = _
    omega

end Cert.Kernel3Ideal.Merge

end
-- ==== Proof.Merge.Value.lean ====
module

public import proofs.«01_k».proof.Proof.Merge.Arrays

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise
open Cert.Kernel2Ideal.Inproj (posn row rms)

variable (m : (ℓ : Loc nD τ sig) → Buf (Elt Ideal) ℓ)

/-! What the kernel leaves of each token. -/

/-- The projection of token `x`'s mixed features. -/
def proj (c : Dev nD) (x : Fin 16384) : Fin 1024 → EReal := projected (mixed (arg0 m c) (arg1 m c) (arg2 m c) (arg3 m c) (arg4 m c) (arg8 m c) (arg9 m c) x) (arg10 m c)

/-- The residual of token `x`. -/
def out16 (c : Dev nD) (x : Fin 16384) : Fin 1024 → EReal := resid (row (arg5 m c) (arg6 m c) (arg7 m c) x) (proj m c x) (arg11 m c) (arg12 m c)

/-- Token `x` before the experts. -/
def out17 (c : Dev nD) (x : Fin 16384) : Fin 1024 → EReal := before (out16 m c x) (arg13 m c) (arg14 m c) (arg15 m c)

/-- Token `x`'s logits, in three products. -/
def out18 (c : Dev nD) (x : Fin 16384) : Fin 32 → EReal := split3 (out17 m c x) (wide (arg16 m c) (arg18 m c)) (wideb (arg17 m c) (arg19 m c))

theorem rows_tok (c : Dev nD) (t : Fin cfg0.N) (r : Fin 512) (k : Fin 1024) :
    (k0_pay10 (iblk m c 5 t) (iblk m c 6 t) (iblk m c 7 t)) (ix2 r k) = row (arg5 m c) (arg6 m c) (arg7 m c) (tok t r) k := by
  have h0 := (iblk5 m c t ⟨r.val / 64, by omega⟩ ⟨r.val % 64, by omega⟩ k).trans (V_v17 m c _ _ _)
  have e : (grid0.coords t 0).val * 512 + r.val = ((grid0.coords t 0).val * 8 + r.val / 64) * 64 + r.val % 64 := by omega
  refine (pay10_apply (iblk m c 5 t) (iblk m c 6 t) (iblk m c 7 t) r k).trans ?_
  unfold row posn
  refine congrArg₂ (fun a b : EReal => a + b) ?_ ?_
  · exact h0.trans (congrArg (fun q => arg5 m c (ix3 0 q k)) (Fin.ext e.symm))
  · by_cases h : k.val < 512
    · rw [dif_pos h, dif_pos h]
      refine (iblk6 m c t _ _ _).trans ((V_v18 m c _ _ _).trans ?_)
      refine congrArg (fun q => arg6 m c (ix2 q ⟨k.val, h⟩)) (Fin.ext ?_)
      show (grid0.coords t 0).val * 8 + r.val / 64 = ((grid0.coords t 0).val * 512 + r.val) / 64
      omega
    · rw [dif_neg h, dif_neg h]
      refine (iblk7 m c t _ _ _).trans ((V_v19 m c _ _ _).trans ?_)
      refine congrArg (fun q => arg7 m c (ix2 q ⟨k.val - 512, by omega⟩)) (Fin.ext ?_)
      show r.val % 64 = ((grid0.coords t 0).val * 512 + r.val) % 64
      omega

theorem sum_tok (c : Dev nD) (t : Fin cfg0.N) (r k : Fin 512) :
    k0_pay2 (iblk m c 0 t) (iblk m c 1 t) (ix2 r k) = (arg0 m c (ix2 (tok t r) k) + arg1 m c (ix2 (tok t r) k) : EReal) :=
  (pay2_apply (iblk m c 0 t) (iblk m c 1 t) r k).trans (congrArg₂ (fun a b : EReal => a + b) ((iblk0 m c t r k).trans (congrFun (V_main_arg0 m c) _)) ((iblk1 m c t r k).trans (congrFun (V_main_arg1 m c) _)))

theorem mix_tok (c : Dev nD) (t : Fin cfg0.N) (r k : Fin 512) :
    (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (ix2 r k) = (heads (fun k => arg0 m c (ix2 (tok t r) k) + arg1 m c (ix2 (tok t r) k)) k * arg8 m c (ix2 0 k) + arg9 m c (ix2 0 k) * arg2 m c (ix2 (tok t r) k) : EReal) := by
  rw [pay9_eq]
  refine (mixK_apply _ (iblk m c 8 t) (iblk m c 9 t) (iblk m c 2 t) r k).trans ?_
  rw [headsK_apply]
  have e0 : (fun k => k0_pay2 (iblk m c 0 t) (iblk m c 1 t) (ix2 r k) : Fin 512 → EReal) = fun k => arg0 m c (ix2 (tok t r) k) + arg1 m c (ix2 (tok t r) k) := funext (sum_tok m c t r)
  have e8 : (iblk m c 8 t (ix2 (0 : Fin 1) k) : EReal) = arg8 m c (ix2 0 k) := (iblk8 m c t 0 k).trans (V_v21 m c k)
  have e9 : (iblk m c 9 t (ix2 (0 : Fin 1) k) : EReal) = arg9 m c (ix2 0 k) := (iblk9 m c t 0 k).trans (V_v23 m c k)
  have e2 : (iblk m c 2 t (ix2 r k) : EReal) = arg2 m c (ix2 (tok t r) k) := (iblk2 m c t r k).trans (congrFun (V_main_arg2 m c) _)
  exact congrArg₂ (fun a b : EReal => a + b) (congrArg₂ (fun a b : EReal => a * b) (congrArg (fun f => heads f k) e0) e8) (congrArg₂ (fun a b : EReal => a * b) e9 e2)

theorem mixed_tok (c : Dev nD) (t : Fin cfg0.N) (r : Fin 512) (k : Fin 1024) :
    besideK (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (k0_pay8 (iblk m c 3 t)) (iblk m c 4 t) (ix2 r k) = mixed (arg0 m c) (arg1 m c) (arg2 m c) (arg3 m c) (arg4 m c) (arg8 m c) (arg9 m c) (tok t r) k := by
  refine (besideK_apply (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (k0_pay8 (iblk m c 3 t)) (iblk m c 4 t) r k).trans ?_
  unfold mixed gated
  refine congrArg₂ (fun a b => beside a b k) (funext fun k => ?_) (funext fun k => (iblk4 m c t r k).trans (congrFun (V_main_arg4 m c) _))
  refine congrArg₂ (fun a b : EReal => a * b) (mix_tok m c t r k) (congrArg silu ?_)
  exact (pay8_apply (iblk m c 3 t) r k).trans ((iblk3 m c t r k).trans (congrFun (V_main_arg3 m c) _))

theorem proj_tok (c : Dev nD) (t : Fin cfg0.N) (r : Fin 512) (k : Fin 1024) :
    outK (besideK (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (k0_pay8 (iblk m c 3 t)) (iblk m c 4 t)) (iblk m c 10 t) (ix2 r k) = proj m c (tok t r) k := by
  refine (outK_apply _ (iblk m c 10 t) r k).trans ?_
  unfold proj projected
  refine congrArg₂ (fun a b => times a b k) (funext fun k => mixed_tok m c t r k) (funext fun k => funext fun j => ?_)
  exact (iblk10 m c t k j).trans (V_v25 m c k j)

theorem norm_tok (c : Dev nD) (t : Fin cfg0.N) (r : Fin 512) (k : Fin 1024) :
    (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (ix2 r k) = (proj m c (tok t r) k * rms (proj m c (tok t r)) : EReal) := by
  rw [pay11_eq]
  refine (rmsK_apply _ r k).trans ?_
  exact congrArg₂ (fun a b : EReal => a * b) (proj_tok m c t r k) (congrArg rms (funext fun k => proj_tok m c t r k))

/-- What point `t` computes of the residual. -/
theorem point16 (c : Dev nD) (t : Fin cfg0.N) (r : Fin 512) (k : Fin 1024) :
    k0_pay12 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) (ix2 r k) = out16 m c (tok t r) k := by
  refine (pay12_apply (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) r k).trans ?_
  have e : (iblk m c 11 t (ix2 (0 : Fin 1) k) : EReal) = arg11 m c (ix2 0 k) * arg12 m c (ix2 0 k) := (iblk11 m c t 0 k).trans (V_v2 m c k)
  have h := norm_tok m c t r k
  unfold out16 resid
  refine congrArg₂ (fun a b : EReal => a + b) (rows_tok m c t r k) ((congrArg₂ (fun a b : EReal => a * b) h e).trans ?_)
  rw [← mul_assoc, mul_comm]

/-- What point `t` computes of the rows before the experts. -/
theorem point17 (c : Dev nD) (t : Fin cfg0.N) (r : Fin 512) (k : Fin 1024) :
    k0_pay13 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) (iblk m c 12 t) (iblk m c 13 t) (ix2 r k) = out17 m c (tok t r) k := by
  rw [pay13_eq]
  refine (shiftK_apply _ (iblk m c 12 t) (iblk m c 13 t) r k).trans ?_
  have e : (iblk m c 12 t (ix2 (0 : Fin 1) k) : EReal) = arg13 m c (ix2 0 k) * (1 + arg15 m c (ix2 0 k)) := (iblk12 m c t 0 k).trans (V_v7 m c k)
  have e' : (iblk m c 13 t (ix2 (0 : Fin 1) k) : EReal) = arg14 m c (ix2 0 k) := (iblk13 m c t 0 k).trans (congrFun (V_main_arg14 m c) _)
  have h : rmsK (k0_pay12 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t)) (ix2 r k) = (out16 m c (tok t r) k * rms (out16 m c (tok t r)) : EReal) :=
    (rmsK_apply _ r k).trans (congrArg₂ (fun a b : EReal => a * b) (point16 m c t r k) (congrArg rms (funext fun k => point16 m c t r k)))
  unfold out17 before
  refine congrArg₂ (fun a b : EReal => a + b) ((congrArg₂ (fun a b : EReal => a * b) h e).trans ?_) e'
  exact (mul_assoc _ _ _).symm

/-- What point `t` computes of the logits. -/
theorem point18 (c : Dev nD) (t : Fin cfg0.N) (j : Fin 32) (r : Fin 512) :
    k0_pay1 (k0_pay15 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) (iblk m c 12 t) (iblk m c 13 t) (iblk m c 14 t)) (iblk m c 15 t) (ix2 j r) = out18 m c (tok t r) j := by
  refine (pay1_apply _ (iblk m c 15 t) j r).trans ?_
  rw [pay15_eq]
  have hw : ∀ k : Fin 1024, (iblk m c 14 t (ix2 k (⟨j.val, by omega⟩ : Fin 128)) : EReal) = wide (arg16 m c) (arg18 m c) k ⟨j.val, by omega⟩ := fun k => (iblk14 m c t k _).trans (V_v11 m c k _)
  have hb : (iblk m c 15 t (ix2 (0 : Fin 1) (⟨j.val, by omega⟩ : Fin 128)) : EReal) = wideb (arg17 m c) (arg19 m c) ⟨j.val, by omega⟩ := (iblk15 m c t 0 _).trans (V_v16 m c _)
  unfold out18 split3
  refine congrArg₂ (fun a b : EReal => a + b) ((dotK_apply _ (iblk m c 14 t) r ⟨j.val, by omega⟩).trans ?_) hb
  refine congrArg₂ (fun a b : EReal => a + b) (Finset.sum_congr rfl fun k _ => ?_) (congrArg₂ (fun a b : EReal => a + b) (Finset.sum_congr rfl fun k _ => ?_) (Finset.sum_congr rfl fun k _ => ?_))
  · exact congrArg₂ (fun a b : EReal => a * b) (point17 m c t r k) (hw k)
  · exact congrArg₂ (fun a b : EReal => a * b) (point17 m c t r k) (congrArg (fun a : EReal => a - a) (hw k))
  · exact congrArg₂ (fun a b : EReal => a * b) (congrArg (fun a : EReal => a - a) (point17 m c t r k)) (hw k)

theorem hz2 : (![0, 0] : Fin 2 → Nat) = fun _ => 0 := funext fun a => by fin_cases a <;> rfl
theorem hz3 : (![0, 0, 0] : Fin 3 → Nat) = fun _ => 0 := funext fun a => by fin_cases a <;> rfl

theorem ld0 (x : Vec Ideal S512x512 .bf16) : View.ld x r0_0 = x := by
  unfold r0_0
  exact View.ld_unit_zero (S := S512x512) hz2 _ x

theorem ld1 (x : Vec Ideal S1x512 .f32) : View.ld x r0_1 = x := by
  unfold r0_1
  exact View.ld_unit_zero (S := S1x512) hz2 _ x

theorem ld2 (x : Vec Ideal S1024x1024 .bf16) : View.ld x r0_2 = x := by
  unfold r0_2
  exact View.ld_unit_zero (S := S1024x1024) hz2 _ x

theorem ld3 (x : Vec Ideal S8x64x1024 .f32) : View.ld x r0_3 = x := by
  unfold r0_3
  exact View.ld_unit_zero (S := S8x64x1024) hz3 _ x

theorem ld4 (x : Vec Ideal S8x1x512 .f32) : View.ld x r0_4 = x := by
  unfold r0_4
  exact View.ld_unit_zero (S := S8x1x512) hz3 _ x

theorem ld5 (x : Vec Ideal S1x64x512 .f32) : View.ld x r0_5 = x := by
  unfold r0_5
  exact View.ld_unit_zero (S := S1x64x512) hz3 _ x

theorem ld6 (x : Vec Ideal S1x1024 .f32) : View.ld x r0_6 = x := by
  unfold r0_6
  exact View.ld_unit_zero (S := S1x1024) hz2 _ x

theorem ld8 (x : Vec Ideal S1024x128 .f32) : View.ld x r0_8 = x := by
  unfold r0_8
  exact View.ld_unit_zero (S := S1024x128) hz2 _ x

theorem ld9 (x : Vec Ideal S1x128 .f32) : View.ld x r0_9 = x := by
  unfold r0_9
  exact View.ld_unit_zero (S := S1x128) hz2 _ x

/-! The blocks in the results. -/

def co (t : Fin 32) : grid0.Coords := fun a => match a with
  | ⟨0, _⟩ => t

theorem nblk16_0 : (cfg0.win 16).nblk (0 : Fin 2) = 32 := by
  show (16384 + 512 - 1) / 512 = 32
  rfl

theorem nblk16_1 : (cfg0.win 16).nblk (1 : Fin 2) = 1 := by
  show (1024 + 1024 - 1) / 1024 = 1
  rfl

theorem covers16 : (cfg0.win 16).Covers := by
  refine (cfg0.win 16).covers_of_indexMap_surj rfl (fun a => ?_) fun β => ⟨(co ⟨(β (0 : Fin 2)).val, lt_of_lt_of_eq (β (0 : Fin 2)).isLt nblk16_0⟩), fun a => ?_⟩
  · match a with
    | ⟨0, _⟩ => exact Nat.zero_lt_succ _
    | ⟨1, _⟩ => exact Nat.zero_lt_succ _
  · match a with
    | ⟨0, _⟩ => exact congrFun (at16 (co ⟨(β (0 : Fin 2)).val, lt_of_lt_of_eq (β (0 : Fin 2)).isLt nblk16_0⟩)) 0
    | ⟨1, _⟩ =>
      have h : (β (1 : Fin 2)).val < 1 := lt_of_lt_of_eq (β (1 : Fin 2)).isLt nblk16_1
      exact (congrFun (at16 (co ⟨(β (0 : Fin 2)).val, lt_of_lt_of_eq (β (0 : Fin 2)).isLt nblk16_0⟩)) 1).trans (show 0 = (β (1 : Fin 2)).val by omega)

theorem block16 (c : Dev nD) (t : Fin cfg0.N) (r : Fin 512) (y : Fin 1024) :
    out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r y) = out16 m c (tok t r) y := by
  unfold_out out0_16
  simp only [ld0, ld1, ld2, ld3, ld4, ld5, ld6, ld8, ld9]
  refine (congrFun (View.canon_cons_unit_zero (Val := Elt Ideal) (S := S512x1024) (e := .f32) hz2 _ (k0_pay12 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t)) []) (ix2 r y)).trans ?_
  exact point16 m c t r y

theorem final16 (c : Dev nD) :
    (dats m 0 c).arrAt 16 cfg0.N = fun y : S16384x1024.Idx => out16 m c (y 0) (y 1) := by
  refine (dats m 0 c).arrAt_eq_of_covers 16 _ covers16 fun t hf y => ?_
  blk_simp
  rw [after0_16]
  have e0 : (((cfg0.win 16).blk t).view.emb y (0 : Fin 2) : Fin 16384) = tok t (y (0 : Fin 2)) := by
    apply Fin.ext
    blk_simp [tok]
    show cc0_transform_16 (grid0.coords t) 0 * _ + _ = _
    rw [at16]
    rfl
  have e1 : (((cfg0.win 16).blk t).view.emb y (1 : Fin 2) : Fin 1024) = y (1 : Fin 2) := by
    apply Fin.ext
    blk_simp
    show cc0_transform_16 (grid0.coords t) 1 * _ + _ = _
    rw [at16]
    exact (congrArg (· + _) (Nat.zero_mul _)).trans (Nat.zero_add _)
  refine (congrArg (out0_16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (eq_ix2 (n0 := 512) (n1 := 1024) y)).trans ((block16 m c t _ _).trans ?_)
  exact congrArg₂ (out16 m c) e0.symm e1.symm

theorem nblk17_0 : (cfg0.win 17).nblk (0 : Fin 2) = 32 := by
  show (16384 + 512 - 1) / 512 = 32
  rfl

theorem nblk17_1 : (cfg0.win 17).nblk (1 : Fin 2) = 1 := by
  show (1024 + 1024 - 1) / 1024 = 1
  rfl

theorem covers17 : (cfg0.win 17).Covers := by
  refine (cfg0.win 17).covers_of_indexMap_surj rfl (fun a => ?_) fun β => ⟨(co ⟨(β (0 : Fin 2)).val, lt_of_lt_of_eq (β (0 : Fin 2)).isLt nblk17_0⟩), fun a => ?_⟩
  · match a with
    | ⟨0, _⟩ => exact Nat.zero_lt_succ _
    | ⟨1, _⟩ => exact Nat.zero_lt_succ _
  · match a with
    | ⟨0, _⟩ => exact congrFun (at17 (co ⟨(β (0 : Fin 2)).val, lt_of_lt_of_eq (β (0 : Fin 2)).isLt nblk17_0⟩)) 0
    | ⟨1, _⟩ =>
      have h : (β (1 : Fin 2)).val < 1 := lt_of_lt_of_eq (β (1 : Fin 2)).isLt nblk17_1
      exact (congrFun (at17 (co ⟨(β (0 : Fin 2)).val, lt_of_lt_of_eq (β (0 : Fin 2)).isLt nblk17_0⟩)) 1).trans (show 0 = (β (1 : Fin 2)).val by omega)

theorem block17 (c : Dev nD) (t : Fin cfg0.N) (r : Fin 512) (y : Fin 1024) :
    out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r y) = out17 m c (tok t r) y := by
  unfold_out out0_17
  simp only [ld0, ld1, ld2, ld3, ld4, ld5, ld6, ld8, ld9]
  refine (congrFun (View.canon_cons_unit_zero (Val := Elt Ideal) (S := S512x1024) (e := .bf16) hz2 _ (k0_pay14 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) (iblk m c 12 t) (iblk m c 13 t)) []) (ix2 r y)).trans ?_
  exact (pay14_apply (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) (iblk m c 12 t) (iblk m c 13 t) r y).trans (point17 m c t r y)

theorem final17 (c : Dev nD) :
    (dats m 0 c).arrAt 17 cfg0.N = fun y : S16384x1024.Idx => out17 m c (y 0) (y 1) := by
  refine (dats m 0 c).arrAt_eq_of_covers 17 _ covers17 fun t hf y => ?_
  blk_simp
  rw [after0_17]
  have e0 : (((cfg0.win 17).blk t).view.emb y (0 : Fin 2) : Fin 16384) = tok t (y (0 : Fin 2)) := by
    apply Fin.ext
    blk_simp [tok]
    show cc0_transform_17 (grid0.coords t) 0 * _ + _ = _
    rw [at17]
    rfl
  have e1 : (((cfg0.win 17).blk t).view.emb y (1 : Fin 2) : Fin 1024) = y (1 : Fin 2) := by
    apply Fin.ext
    blk_simp
    show cc0_transform_17 (grid0.coords t) 1 * _ + _ = _
    rw [at17]
    exact (congrArg (· + _) (Nat.zero_mul _)).trans (Nat.zero_add _)
  refine (congrArg (out0_17 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (eq_ix2 (n0 := 512) (n1 := 1024) y)).trans ((block17 m c t _ _).trans ?_)
  exact congrArg₂ (out17 m c) e0.symm e1.symm

theorem nblk18_0 : (cfg0.win 18).nblk (0 : Fin 2) = 1 := by
  show (32 + 32 - 1) / 32 = 1
  rfl

theorem nblk18_1 : (cfg0.win 18).nblk (1 : Fin 2) = 32 := by
  show (16384 + 512 - 1) / 512 = 32
  rfl

theorem covers18 : (cfg0.win 18).Covers := by
  refine (cfg0.win 18).covers_of_indexMap_surj rfl (fun a => ?_) fun β => ⟨(co ⟨(β (1 : Fin 2)).val, lt_of_lt_of_eq (β (1 : Fin 2)).isLt nblk18_1⟩), fun a => ?_⟩
  · match a with
    | ⟨0, _⟩ => exact Nat.zero_lt_succ _
    | ⟨1, _⟩ => exact Nat.zero_lt_succ _
  · match a with
    | ⟨0, _⟩ =>
      have h : (β (0 : Fin 2)).val < 1 := lt_of_lt_of_eq (β (0 : Fin 2)).isLt nblk18_0
      exact (congrFun (at18 (co ⟨(β (1 : Fin 2)).val, lt_of_lt_of_eq (β (1 : Fin 2)).isLt nblk18_1⟩)) 0).trans (show 0 = (β (0 : Fin 2)).val by omega)
    | ⟨1, _⟩ => exact congrFun (at18 (co ⟨(β (1 : Fin 2)).val, lt_of_lt_of_eq (β (1 : Fin 2)).isLt nblk18_1⟩)) 1

theorem block18 (c : Dev nD) (t : Fin cfg0.N) (r : Fin 32) (y : Fin 512) :
    out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r y) = out18 m c (tok t y) r := by
  unfold_out out0_18
  simp only [ld0, ld1, ld2, ld3, ld4, ld5, ld6, ld8, ld9]
  refine (congrFun (View.canon_cons_unit_zero (Val := Elt Ideal) (S := S32x512) (e := .f32) hz2 _ (k0_pay1 (k0_pay15 (k0_pay10 (iblk m c 5 t) (iblk m c 6 t) (iblk m c 7 t)) (k0_pay11 (k0_pay8 (iblk m c 3 t)) (k0_pay9 (k0_pay2 (iblk m c 0 t) (iblk m c 1 t)) (k0_pay3 (iblk m c 0 t) (iblk m c 1 t)) (k0_pay4 (iblk m c 0 t) (iblk m c 1 t)) (k0_pay5 (iblk m c 0 t) (iblk m c 1 t)) (k0_pay6 (iblk m c 0 t) (iblk m c 1 t)) (k0_pay7 (F := Ideal)) (iblk m c 8 t) (iblk m c 9 t) (iblk m c 2 t)) (iblk m c 4 t) (iblk m c 10 t)) (iblk m c 11 t) (iblk m c 12 t) (iblk m c 13 t) (iblk m c 14 t)) (iblk m c 15 t)) []) (ix2 r y)).trans ?_
  exact point18 m c t r y

theorem final18 (c : Dev nD) :
    (dats m 0 c).arrAt 18 cfg0.N = fun y : S32x16384.Idx => out18 m c (y 1) (y 0) := by
  refine (dats m 0 c).arrAt_eq_of_covers 18 _ covers18 fun t hf y => ?_
  blk_simp
  rw [after0_18]
  have e0 : (((cfg0.win 18).blk t).view.emb y (0 : Fin 2) : Fin 32) = y (0 : Fin 2) := by
    apply Fin.ext
    blk_simp
    show cc0_transform_18 (grid0.coords t) 0 * _ + _ = _
    rw [at18]
    exact (congrArg (· + _) (Nat.zero_mul _)).trans (Nat.zero_add _)
  have e1 : (((cfg0.win 18).blk t).view.emb y (1 : Fin 2) : Fin 16384) = tok t (y (1 : Fin 2)) := by
    apply Fin.ext
    blk_simp [tok]
    show cc0_transform_18 (grid0.coords t) 1 * _ + _ = _
    rw [at18]
    rfl
  refine (congrArg (out0_18 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)) (eq_ix2 (n0 := 32) (n1 := 512) y)).trans ((block18 m c t _ _).trans ?_)
  exact congrArg₂ (out18 m c) e1.symm e0.symm

end Cert.Kernel3Ideal.Merge

end
-- ==== Proof.Merge.Finite.lean ====
module

public import proofs.«01_k».proof.Proof.Merge.Spec
public import proofs.«01_k».proof.Pre_finite
public import Idealize.ShloMosaic.Lib.ReduceAll

@[expose] public section

set_option maxRecDepth 16384

noncomputable section

namespace Cert.Kernel3Ideal.Merge

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise
open Cert.Kernel2Ideal.Inproj (posn row rms)

/-! A row normalized by the root of its mean square is finite whatever the row: an infinite entry makes the mean infinite,
    and one over its root zero. So the rows before the experts are finite once their scales and shifts are. -/

/-- A finite number. -/
def Real (x : EReal) : Prop := ∃ r : ℝ, x = (r : EReal)

theorem real_add {x y : EReal} (hx : Real x) (hy : Real y) : Real (x + y) := by
  obtain ⟨a, rfl⟩ := hx
  obtain ⟨b, rfl⟩ := hy
  exact ⟨a + b, (EReal.coe_add a b).symm⟩

theorem real_mul {x y : EReal} (hx : Real x) (hy : Real y) : Real (x * y) := by
  obtain ⟨a, rfl⟩ := hx
  obtain ⟨b, rfl⟩ := hy
  exact ⟨a * b, (EReal.coe_mul a b).symm⟩

theorem real_of {x : EReal} (h : ⊥ < x) (h' : x < ⊤) : Real x := ⟨x.toReal, (EReal.coe_toReal h'.ne h.ne').symm⟩

theorem real_sub {x : EReal} (hx : Real x) : x - x = 0 := by
  obtain ⟨a, rfl⟩ := hx
  rw [← EReal.coe_sub, sub_self, EReal.coe_zero]

theorem square_nonneg (x : EReal) : 0 ≤ x * x := by
  induction x with
  | bot => simp
  | top => simp
  | coe r =>
    rw [← EReal.coe_mul]
    exact EReal.coe_nonneg.mpr (mul_self_nonneg r)

theorem count_eq : Ideal.ofBits .f32 0x44800000#32 = ((1024 : ℝ) : EReal) := by
  simp [Ideal.ofBits, Ideal.ieee]
  rw [← EReal.coe_mul]
  norm_num

theorem coe_sum (f : Fin 1024 → ℝ) (s : Finset (Fin 1024)) : ((∑ k ∈ s, f k : ℝ) : EReal) = ∑ k ∈ s, (f k : EReal) := by
  induction s using Finset.induction_on with
  | empty => simp
  | insert a s ha ih => rw [Finset.sum_insert ha, Finset.sum_insert ha, EReal.coe_add, ih]

theorem eps_pos : ∃ e : ℝ, 0 < e ∧ Ideal.ofBits .f32 0x358637BD#32 = (e : EReal) := by
  refine ⟨1 * ((2 ^ 23 + 407485 : Nat) : ℝ) * (2 : ℝ) ^ ((107 : Int) - 127 - 23), by positivity, ?_⟩
  simp [Ideal.ofBits, Ideal.ieee]

theorem real_normed (u : Fin 1024 → EReal) (k : Fin 1024) : Real (u k * rms u) := by
  obtain ⟨e, he, hw⟩ := eps_pos
  unfold rms
  rw [count_eq, hw, Ideal.div_coe (by norm_num)]
  by_cases h : ∀ k, Real (u k)
  · choose v hv using h
    have hs : (∑ k, u k * u k) = ((∑ k, v k * v k : ℝ) : EReal) := by
      rw [coe_sum]
      exact Finset.sum_congr rfl fun k _ => by rw [hv k, EReal.coe_mul]
    have h0 : 0 ≤ ∑ k, v k * v k := Finset.sum_nonneg fun k _ => mul_self_nonneg _
    have hp : 0 < (∑ k, v k * v k) * (1 / 1024) + e := by positivity
    rw [hs, ← EReal.coe_mul, ← EReal.coe_add, Ideal.rsqrt_coe, if_neg (not_lt.mpr hp.le), if_neg hp.ne']
    exact real_mul ⟨v k, hv k⟩ ⟨_, rfl⟩
  · obtain ⟨i, hi⟩ := not_forall.mp h
    have ht : u i * u i = ⊤ := by
      by_cases hb : u i = ⊥
      · rw [hb]; rfl
      · by_cases ht : u i = ⊤
        · rw [ht]; rfl
        · exact absurd (real_of (bot_lt_iff_ne_bot.mpr hb) (lt_top_iff_ne_top.mpr ht)) hi
    have hs : (∑ k, u k * u k) = ⊤ :=
      top_le_iff.mp (ht.symm.le.trans (Finset.single_le_sum (f := fun k => u k * u k) (fun k _ => square_nonneg (u k)) (Finset.mem_univ i)))
    rw [hs, EReal.top_mul_coe_of_pos (by norm_num), EReal.top_add_coe, Ideal.rsqrt_top, mul_zero]
    exact ⟨0, EReal.coe_zero.symm⟩

theorem real_before (r : Fin 1024 → EReal) (a13 a14 a15 : S1x1024.Idx → EReal) (h13 : ∀ k : Fin 1024, Real (a13 (ix2 0 k)))
    (h14 : ∀ k : Fin 1024, Real (a14 (ix2 0 k))) (h15 : ∀ k : Fin 1024, Real (a15 (ix2 0 k))) (k : Fin 1024) : Real (before r a13 a14 a15 k) := by
  unfold before
  exact real_add (real_mul (real_mul (real_normed r k) (h13 k)) (real_add ⟨1, EReal.coe_one.symm⟩ (h15 k))) (h14 k)

theorem real_wide (a16 : S1x1024x4.Idx → EReal) (a18 : S1x1024x16.Idx → EReal) (h16 : ∀ (k : Fin 1024) (j : Fin 4), Real (a16 (ix3 0 k j)))
    (h18 : ∀ (k : Fin 1024) (j : Fin 16), Real (a18 (ix3 0 k j))) (k : Fin 1024) (j : Fin 128) : Real (wide a16 a18 k j) := by
  unfold wide
  split_ifs
  · exact h16 _ _
  · exact h18 _ _
  · exact ⟨0, EReal.coe_zero.symm⟩

/-- With finite rows and finite weights the three products are the logits. -/
theorem split3_eq (u : Fin 1024 → EReal) (a16 : S1x1024x4.Idx → EReal) (a17 : S1x4.Idx → EReal) (a18 : S1x1024x16.Idx → EReal) (a19 : S1x16.Idx → EReal)
    (hu : ∀ k, Real (u k)) (h16 : ∀ (k : Fin 1024) (j : Fin 4), Real (a16 (ix3 0 k j))) (h18 : ∀ (k : Fin 1024) (j : Fin 16), Real (a18 (ix3 0 k j)))
    (j : Fin 32) : split3 u (wide a16 a18) (wideb a17 a19) j = logit u a16 a17 a18 a19 j := by
  unfold split3
  have hw := real_wide a16 a18 h16 h18
  simp only [fun k => real_sub (hu k), fun k j => real_sub (hw k j), mul_zero, zero_mul, Finset.sum_const_zero, add_zero]
  unfold logit wide wideb times
  by_cases h : j.val < 4
  · simp only [dif_pos h]
  · by_cases h' : j.val - 4 < 16
    · simp only [dif_neg h, dif_pos h']
    · simp only [dif_neg h, dif_neg h', mul_zero, Finset.sum_const_zero, add_zero]

/-! The precondition read entry by entry. -/

theorem andi_eq_one {a b : BitVec 1} : IntOp.andi a b = 1#1 ↔ a = 1#1 ∧ b = 1#1 := by
  revert a b; decide

theorem top_eq : Ideal.ofBits .f32 0x7F800000#32 = ⊤ := by simp [Ideal.ofBits, Ideal.ieee]
theorem bot_eq : Ideal.ofBits .f32 0xFF800000#32 = ⊥ := by simp [Ideal.ofBits, Ideal.ieee]

variable [Cert.Pre_finite.Facts]

theorem decode (a0 a1 a2 a3 a4 : FVec Ideal S16384x512 .bf16) (a5 : FVec Ideal S1x16384x1024 .f32) (a6 : FVec Ideal S256x512 .f32) (a7 : FVec Ideal S64x512 .f32)
    (a8 a9 : FVec Ideal S1x512 .f32) (a10 : FVec Ideal S1x1024x1024 .f32) (a11 a12 a13 a14 a15 : FVec Ideal S1x1024 .f32) (a16 : FVec Ideal S1x1024x4 .f32)
    (a17 : FVec Ideal S1x4 .f32) (a18 : FVec Ideal S1x1024x16 .f32) (a19 : FVec Ideal S1x16 .f32)
    (h : Cert.Pre_finite.fn (F := Ideal) a0 a1 a2 a3 a4 a5 a6 a7 a8 a9 a10 a11 a12 a13 a14 a15 a16 a17 a18 a19 = fun _ => 1#1) :
    (∀ k : Fin 1024, Real (a13 (ix2 0 k))) ∧ (∀ k : Fin 1024, Real (a14 (ix2 0 k))) ∧ (∀ k : Fin 1024, Real (a15 (ix2 0 k)))
    ∧ (∀ (k : Fin 1024) (j : Fin 4), Real (a16 (ix3 0 k j))) ∧ (∀ (k : Fin 1024) (j : Fin 16), Real (a18 (ix3 0 k j))) := by
  have e := congrFun h (Shape.Idx.first Cert.Pre_finite.Facts.h_S_)
  dsimp only [Cert.Pre_finite.fn, Cert.Pre_finite.fn_part1, Cert.Pre_finite.fn_part2] at e
  simp only [andi] at e
  obtain ⟨e, e5⟩ := andi_eq_one.mp e
  obtain ⟨e, e4⟩ := andi_eq_one.mp e
  obtain ⟨e, e3⟩ := andi_eq_one.mp e
  obtain ⟨e1, e2⟩ := andi_eq_one.mp e
  have f1 := fun x : Fin 1024 => Host.reduce_andi_all _ _ _ _ _ e1 (ix2 0 x)
  have f2 := fun x : Fin 1024 => Host.reduce_andi_all _ _ _ _ _ e2 (ix2 0 x)
  have f3 := fun x : Fin 1024 => Host.reduce_andi_all _ _ _ _ _ e3 (ix2 0 x)
  have f4 := fun (x : Fin 1024) (y : Fin 4) => Host.reduce_andi_all _ _ _ _ _ e4 (ix3 0 x y)
  have f5 := fun (x : Fin 1024) (y : Fin 16) => Host.reduce_andi_all _ _ _ _ _ e5 (ix3 0 x y)
  clear e1 e2 e3 e4 e5 h e
  pointwise at f1 f2 f3 f4 f5
  have bit : ∀ {p : Prop} [Decidable p], BitVec.ofBool (decide p) = 1#1 → p := by
    intro p _ h
    by_contra hn
    rw [decide_eq_false hn] at h
    exact absurd h (by decide)
  have key : ∀ x : EReal, IntOp.andi (Ideal.cmp .ogt x (Ideal.ofBits .f32 0xFF800000#32)) (Ideal.cmp .olt x (Ideal.ofBits .f32 0x7F800000#32)) = 1#1 → Real x := by
    intro x h
    rw [top_eq, bot_eq] at h
    obtain ⟨a, b⟩ := andi_eq_one.mp h
    exact real_of (bit a) (bit b)
  have g4 : ∀ (k : Fin 1024) (j : Fin 4), Real (a16 (ix3 0 k j)) := by
    intro k j
    obtain ⟨q0, q1, q2, q3⟩ := f4 k
    match j with
    | ⟨0, _⟩ => exact key _ q0
    | ⟨1, _⟩ => exact key _ q1
    | ⟨2, _⟩ => exact key _ q2
    | ⟨3, _⟩ => exact key _ q3
  exact ⟨fun k => key _ (f1 k), fun k => key _ (f2 k), fun k => key _ (f3 k), g4, fun k j => key _ (f5 k j)⟩

end Cert.Kernel3Ideal.Merge

end
-- ==== Proof.Merge.Reference.lean ====
module

public import proofs.«01_k».proof.Proof.Gen.Reference3Ideal.Run
public import proofs.«01_k».proof.Proof.Merge.Spec
public import Idealize.ShloMosaic.Lib.Pointwise
public import Idealize.ShloMosaic.Lib.Tactic

@[expose] public section

set_option maxRecDepth 16384

noncomputable section

namespace Cert.Reference3Ideal.Plain

open Cert.Reference3Ideal Cert.Reference3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.Pointwise
open Cert.Kernel2Ideal.Inproj (posn row rms)
open Cert.Kernel3Ideal.Merge (mean normed heads silu gated beside times mixed projected resid before logit)

/-- The two directions added, by heads. -/
def sums (a0 : FVec Ideal S16384x512 .bf16) (a1 : FVec Ideal S16384x512 .bf16) : FVec Ideal S16384x4x128 .f32 :=
  (shapeCast _ (addf (extf .f32 a0 bitsLt_bf16_f32) (extf .f32 a1 bitsLt_bf16_f32)) shapeCasts_S16384x512_S16384x4x128)

theorem sums_apply (a0 : FVec Ideal S16384x512 .bf16) (a1 : FVec Ideal S16384x512 .bf16) (x : Fin 16384) (h : Fin 4) (j : Fin 128) :
    sums a0 a1 (ix3 x h j) = (a0 (ix2 x ⟨h.val * 128 + j.val, by omega⟩) + a1 (ix2 x ⟨h.val * 128 + j.val, by omega⟩) : EReal) := by
  unfold sums
  pointwise
  try rfl

/-- The layer norm of every head. -/
def norms (HH : FVec Ideal S16384x4x128 .f32) : FVec Ideal S16384x4x128 .f32 :=
  (mulf (subf HH (broadcastInDim S16384x4x128 ![0, 1, 2] bcast_S16384x4x1_S16384x4x128_0_1_2 (Host.divf (broadcastInDim S16384x4x1 ![0, 1] bcast_S16384x4_S16384x4x1_0_1 (Host.reduceAdd HH (constant S_ .f32 0x00000000#32) reducesTo_S16384x4x128_S16384x4_d2 h_S_)) (broadcastInDim S16384x4x1 ![] bcast_S_S16384x4x1 (constant S_ .f32 0x43000000#32))))) (broadcastInDim S16384x4x128 ![0, 1, 2] bcast_S16384x4x1_S16384x4x128_0_1_2 (Host.rsqrt (addf (Host.divf (broadcastInDim S16384x4x1 ![0, 1] bcast_S16384x4_S16384x4x1_0_1 (Host.reduceAdd (mulf (subf HH (broadcastInDim S16384x4x128 ![0, 1, 2] bcast_S16384x4x1_S16384x4x128_0_1_2 (Host.divf (broadcastInDim S16384x4x1 ![0, 1] bcast_S16384x4_S16384x4x1_0_1 (Host.reduceAdd HH (constant S_ .f32 0x00000000#32) reducesTo_S16384x4x128_S16384x4_d2 h_S_)) (broadcastInDim S16384x4x1 ![] bcast_S_S16384x4x1 (constant S_ .f32 0x43000000#32))))) (subf HH (broadcastInDim S16384x4x128 ![0, 1, 2] bcast_S16384x4x1_S16384x4x128_0_1_2 (Host.divf (broadcastInDim S16384x4x1 ![0, 1] bcast_S16384x4_S16384x4x1_0_1 (Host.reduceAdd HH (constant S_ .f32 0x00000000#32) reducesTo_S16384x4x128_S16384x4_d2 h_S_)) (broadcastInDim S16384x4x1 ![] bcast_S_S16384x4x1 (constant S_ .f32 0x43000000#32)))))) (constant S_ .f32 0x00000000#32) reducesTo_S16384x4x128_S16384x4_d2 h_S_)) (broadcastInDim S16384x4x1 ![] bcast_S_S16384x4x1 (constant S_ .f32 0x43000000#32))) (broadcastInDim S16384x4x1 ![] bcast_S_S16384x4x1 (constant S_ .f32 0x358637BD#32))))))

theorem norms_apply (HH : FVec Ideal S16384x4x128 .f32) (x : Fin 16384) (h : Fin 4) (j : Fin 128) :
    norms HH (ix3 x h j) = normed (fun j => HH (ix3 x h j)) j := by
  unfold norms normed mean
  pointwise
  try rfl

/-- The gated features. -/
def gate (LN : FVec Ideal S16384x4x128 .f32) (a8 : FVec Ideal S1x512 .f32) (a9 : FVec Ideal S1x512 .f32) (a2 : FVec Ideal S16384x512 .bf16) (a3 : FVec Ideal S16384x512 .bf16) : FVec Ideal S16384x512 .f32 :=
  (mulf (addf (mulf (shapeCast _ LN shapeCasts_S16384x4x128_S16384x512) (broadcastInDim S16384x512 ![0, 1] bcast_S1x512_S16384x512_0_1 (broadcastInDim S1x512 ![1] bcast_S512_S1x512_1 (shapeCast _ a8 shapeCasts_S1x512_S512)))) (mulf (broadcastInDim S16384x512 ![0, 1] bcast_S1x512_S16384x512_0_1 (broadcastInDim S1x512 ![1] bcast_S512_S1x512_1 (shapeCast _ a9 shapeCasts_S1x512_S512))) (extf .f32 a2 bitsLt_bf16_f32))) (mulf (extf .f32 a3 bitsLt_bf16_f32) (Host.divf (broadcastInDim S16384x512 ![] bcast_S_S16384x512 (constant S_ .f32 0x3F800000#32)) (addf (broadcastInDim S16384x512 ![] bcast_S_S16384x512 (constant S_ .f32 0x3F800000#32)) (Host.exp (Host.negf (extf .f32 a3 bitsLt_bf16_f32)))))))

theorem gate_apply (LN : FVec Ideal S16384x4x128 .f32) (a8 : FVec Ideal S1x512 .f32) (a9 : FVec Ideal S1x512 .f32) (a2 : FVec Ideal S16384x512 .bf16) (a3 : FVec Ideal S16384x512 .bf16) (x : Fin 16384) (k : Fin 512) :
    gate LN a8 a9 a2 a3 (ix2 x k) = ((LN (ix3 x ⟨k.val / 128, by omega⟩ ⟨k.val % 128, by omega⟩) * a8 (ix2 0 k) + a9 (ix2 0 k) * a2 (ix2 x k)) * silu (a3 (ix2 x k)) : EReal) := by
  unfold gate silu
  pointwise
  try rfl

/-- The two halves of the features. -/
def halves (MX : FVec Ideal S16384x512 .f32) (a4 : FVec Ideal S16384x512 .bf16) : FVec Ideal S16384x1024 .f32 :=
  (concatenate S16384x1024 1 [⟨S16384x512, MX⟩, ⟨S16384x512, (extf .f32 a4 bitsLt_bf16_f32)⟩] concatenates_S16384x512_S16384x512_S16384x1024_d1)

theorem halves_apply (MX : FVec Ideal S16384x512 .f32) (a4 : FVec Ideal S16384x512 .bf16) (x : Fin 16384) (k : Fin 1024) :
    halves MX a4 (ix2 x k) = beside (fun k => MX (ix2 x k)) (fun k => a4 (ix2 x k)) k := by
  unfold halves beside
  pointwise
  try rfl

/-- The output projection. -/
def outp (BS : FVec Ideal S16384x1024 .f32) (a10 : FVec Ideal S1x1024x1024 .f32) : FVec Ideal S16384x1024 .f32 :=
  (Host.dotGeneral dot_S16384x1024_S1024x1024_S16384x1024_1_0_0_1_n_n none BS (shapeCast _ a10 shapeCasts_S1x1024x1024_S1024x1024))

theorem outp_apply (BS : FVec Ideal S16384x1024 .f32) (a10 : FVec Ideal S1x1024x1024 .f32) (x : Fin 16384) (k : Fin 1024) :
    outp BS a10 (ix2 x k) = projected (fun k => BS (ix2 x k)) a10 k := by
  unfold outp projected times
  pointwise
  try rfl

/-- Every row normalized by the root of its mean square. -/
def rmsn (YY : FVec Ideal S16384x1024 .f32) : FVec Ideal S16384x1024 .f32 :=
  (mulf YY (broadcastInDim S16384x1024 ![0, 1] bcast_S16384x1_S16384x1024_0_1 (Host.rsqrt (addf (Host.divf (broadcastInDim S16384x1 ![0] bcast_S16384_S16384x1_0 (Host.reduceAdd (mulf YY YY) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32))))))

theorem rmsn_apply (YY : FVec Ideal S16384x1024 .f32) (x : Fin 16384) (k : Fin 1024) : rmsn YY (ix2 x k) = (YY (ix2 x k) * rms (fun k => YY (ix2 x k)) : EReal) := by
  unfold rmsn rms
  pointwise
  try rfl

/-- The rows with the positions added. -/
def rows (a5 : FVec Ideal S1x16384x1024 .f32) (a6 : FVec Ideal S256x512 .f32) (a7 : FVec Ideal S64x512 .f32) : FVec Ideal S1x16384x1024 .f32 :=
  (addf a5 (broadcastInDim S1x16384x1024 ![1, 2] bcast_S16384x1024_S1x16384x1024_1_2 (shapeCast _ (concatenate S256x64x1024 2 [⟨S256x64x512, (broadcastInDim S256x64x512 ![0, 1, 2] bcast_S256x1x512_S256x64x512_0_1_2 (broadcastInDim S256x1x512 ![0, 2] bcast_S256x512_S256x1x512_0_2 a6))⟩, ⟨S256x64x512, (broadcastInDim S256x64x512 ![0, 1, 2] bcast_S1x64x512_S256x64x512_0_1_2 (broadcastInDim S1x64x512 ![1, 2] bcast_S64x512_S1x64x512_1_2 a7))⟩] concatenates_S256x64x512_S256x64x512_S256x64x1024_d2) shapeCasts_S256x64x1024_S16384x1024)))

theorem rows_apply (a5 : FVec Ideal S1x16384x1024 .f32) (a6 : FVec Ideal S256x512 .f32) (a7 : FVec Ideal S64x512 .f32) (x : Fin 16384) (k : Fin 1024) : rows a5 a6 a7 (ix3 0 x k) = row a5 a6 a7 x k := by
  unfold rows row posn
  pointwise
  try rfl

/-- The residual. -/
def resd (RW : FVec Ideal S1x16384x1024 .f32) (RY : FVec Ideal S16384x1024 .f32) (a11 : FVec Ideal S1x1024 .f32) (a12 : FVec Ideal S1x1024 .f32) : FVec Ideal S16384x1024 .f32 :=
  (addf (shapeCast _ RW shapeCasts_S1x16384x1024_S16384x1024) (mulf (broadcastInDim S16384x1024 ![0, 1] bcast_S1x1024_S16384x1024_0_1 a12) (mulf RY (broadcastInDim S16384x1024 ![0, 1] bcast_S1x1024_S16384x1024_0_1 (broadcastInDim S1x1024 ![1] bcast_S1024_S1x1024_1 (shapeCast _ a11 shapeCasts_S1x1024_S1024))))))

theorem resd_apply (RW : FVec Ideal S1x16384x1024 .f32) (RY : FVec Ideal S16384x1024 .f32) (a11 : FVec Ideal S1x1024 .f32) (a12 : FVec Ideal S1x1024 .f32) (x : Fin 16384) (k : Fin 1024) :
    resd RW RY a11 a12 (ix2 x k) = (RW (ix3 0 x k) + a12 (ix2 0 k) * (RY (ix2 x k) * a11 (ix2 0 k)) : EReal) := by
  unfold resd
  pointwise
  try rfl

/-- The rows before the experts. -/
def shft (RX : FVec Ideal S16384x1024 .f32) (a13 : FVec Ideal S1x1024 .f32) (a14 : FVec Ideal S1x1024 .f32) (a15 : FVec Ideal S1x1024 .f32) : FVec Ideal S16384x1024 .f32 :=
  (addf (mulf (mulf RX (broadcastInDim S16384x1024 ![0, 1] bcast_S1x1024_S16384x1024_0_1 (broadcastInDim S1x1024 ![1] bcast_S1024_S1x1024_1 (shapeCast _ a13 shapeCasts_S1x1024_S1024)))) (broadcastInDim S16384x1024 ![0, 1] bcast_S1x1024_S16384x1024_0_1 (addf (broadcastInDim S1x1024 ![] bcast_S_S1x1024 (constant S_ .f32 0x3F800000#32)) a15))) (broadcastInDim S16384x1024 ![0, 1] bcast_S1x1024_S16384x1024_0_1 a14))

theorem shft_apply (RX : FVec Ideal S16384x1024 .f32) (a13 : FVec Ideal S1x1024 .f32) (a14 : FVec Ideal S1x1024 .f32) (a15 : FVec Ideal S1x1024 .f32) (x : Fin 16384) (k : Fin 1024) :
    shft RX a13 a14 a15 (ix2 x k) = ((RX (ix2 x k) * a13 (ix2 0 k)) * (1 + a15 (ix2 0 k)) + a14 (ix2 0 k) : EReal) := by
  unfold shft
  pointwise
  try rfl

/-- The logits. -/
def logs (HX : FVec Ideal S16384x1024 .f32) (a16 : FVec Ideal S1x1024x4 .f32) (a17 : FVec Ideal S1x4 .f32) (a18 : FVec Ideal S1x1024x16 .f32) (a19 : FVec Ideal S1x16 .f32) : FVec Ideal S32x16384 .f32 :=
  transpose S32x16384 [1, 0] ((concatenate S16384x32 1 [⟨S16384x4, ((addf (Host.dotGeneral dot_S16384x1024_S1024x4_S16384x4_1_0_0_1_n_n none HX (shapeCast _ a16 shapeCasts_S1x1024x4_S1024x4)) (broadcastInDim S16384x4 ![0, 1] bcast_S1x4_S16384x4_0_1 (broadcastInDim S1x4 ![1] bcast_S4_S1x4_1 (shapeCast _ a17 shapeCasts_S1x4_S4)))) : FVec Ideal S16384x4 .f32)⟩, ⟨S16384x16, ((addf (Host.dotGeneral dot_S16384x1024_S1024x16_S16384x16_1_0_0_1_n_n none HX (shapeCast _ a18 shapeCasts_S1x1024x16_S1024x16)) (broadcastInDim S16384x16 ![0, 1] bcast_S1x16_S16384x16_0_1 (broadcastInDim S1x16 ![1] bcast_S16_S1x16_1 (shapeCast _ a19 shapeCasts_S1x16_S16)))) : FVec Ideal S16384x16 .f32)⟩, ⟨S16384x12, ((broadcastInDim S16384x12 ![] bcast_S_S16384x12 (constant S_ .f32 0x00000000#32)) : FVec Ideal S16384x12 .f32)⟩] concatenates_S16384x4_S16384x16_S16384x12_S16384x32_d1 : FVec Ideal S16384x32 .f32)) transposes_S16384x32_S32x16384_1_0

theorem logs_apply (HX : FVec Ideal S16384x1024 .f32) (a16 : FVec Ideal S1x1024x4 .f32) (a17 : FVec Ideal S1x4 .f32) (a18 : FVec Ideal S1x1024x16 .f32) (a19 : FVec Ideal S1x16 .f32) (x : Fin 16384) (j : Fin 32) :
    logs HX a16 a17 a18 a19 (ix2 j x) = logit (fun k => HX (ix2 x k)) a16 a17 a18 a19 j := by
  unfold logs logit times
  pointwise
  try rfl

/-! The stages together. -/

theorem gate_heads (a0 : FVec Ideal S16384x512 .bf16) (a1 : FVec Ideal S16384x512 .bf16) (a2 : FVec Ideal S16384x512 .bf16) (a3 : FVec Ideal S16384x512 .bf16) (a8 : FVec Ideal S1x512 .f32) (a9 : FVec Ideal S1x512 .f32) (x : Fin 16384) (k : Fin 512) :
    gate (norms (sums a0 a1)) a8 a9 a2 a3 (ix2 x k) = gated (fun k => a0 (ix2 x k) + a1 (ix2 x k)) (fun k => a2 (ix2 x k)) (fun k => a3 (ix2 x k)) (fun k => a8 (ix2 0 k)) (fun k => a9 (ix2 0 k)) k := by
  rw [gate_apply, norms_apply]
  simp only [sums_apply]
  rfl

theorem proj_eq (a0 : FVec Ideal S16384x512 .bf16) (a1 : FVec Ideal S16384x512 .bf16) (a2 : FVec Ideal S16384x512 .bf16) (a3 : FVec Ideal S16384x512 .bf16) (a4 : FVec Ideal S16384x512 .bf16) (a8 : FVec Ideal S1x512 .f32) (a9 : FVec Ideal S1x512 .f32) (a10 : FVec Ideal S1x1024x1024 .f32) (x : Fin 16384) (k : Fin 1024) :
    (outp (halves (gate (norms (sums a0 a1)) a8 a9 a2 a3) a4) a10) (ix2 x k) = projected (mixed a0 a1 a2 a3 a4 a8 a9 x) a10 k := by
  rw [outp_apply]
  refine congrArg (fun u => projected u a10 k) (funext fun k => ?_)
  rw [halves_apply]
  unfold mixed
  exact congrArg (fun u => beside u _ k) (funext fun k => gate_heads a0 a1 a2 a3 a8 a9 x k)

theorem resid_eq (a0 : FVec Ideal S16384x512 .bf16) (a1 : FVec Ideal S16384x512 .bf16) (a2 : FVec Ideal S16384x512 .bf16) (a3 : FVec Ideal S16384x512 .bf16) (a4 : FVec Ideal S16384x512 .bf16) (a5 : FVec Ideal S1x16384x1024 .f32) (a6 : FVec Ideal S256x512 .f32) (a7 : FVec Ideal S64x512 .f32) (a8 : FVec Ideal S1x512 .f32) (a9 : FVec Ideal S1x512 .f32) (a10 : FVec Ideal S1x1024x1024 .f32) (a11 : FVec Ideal S1x1024 .f32) (a12 : FVec Ideal S1x1024 .f32) (x : Fin 16384) (k : Fin 1024) :
    (resd (rows a5 a6 a7) (rmsn (outp (halves (gate (norms (sums a0 a1)) a8 a9 a2 a3) a4) a10)) a11 a12) (ix2 x k) = resid (row a5 a6 a7 x) (projected (mixed a0 a1 a2 a3 a4 a8 a9 x) a10) a11 a12 k := by
  rw [resd_apply, rmsn_apply, rows_apply]
  simp only [proj_eq]
  rfl

theorem before_eq (a0 : FVec Ideal S16384x512 .bf16) (a1 : FVec Ideal S16384x512 .bf16) (a2 : FVec Ideal S16384x512 .bf16) (a3 : FVec Ideal S16384x512 .bf16) (a4 : FVec Ideal S16384x512 .bf16) (a5 : FVec Ideal S1x16384x1024 .f32) (a6 : FVec Ideal S256x512 .f32) (a7 : FVec Ideal S64x512 .f32) (a8 : FVec Ideal S1x512 .f32) (a9 : FVec Ideal S1x512 .f32) (a10 : FVec Ideal S1x1024x1024 .f32) (a11 : FVec Ideal S1x1024 .f32) (a12 : FVec Ideal S1x1024 .f32) (a13 : FVec Ideal S1x1024 .f32) (a14 : FVec Ideal S1x1024 .f32) (a15 : FVec Ideal S1x1024 .f32) (x : Fin 16384) (k : Fin 1024) :
    (shft (rmsn (resd (rows a5 a6 a7) (rmsn (outp (halves (gate (norms (sums a0 a1)) a8 a9 a2 a3) a4) a10)) a11 a12)) a13 a14 a15) (ix2 x k) = before (resid (row a5 a6 a7 x) (projected (mixed a0 a1 a2 a3 a4 a8 a9 x) a10) a11 a12) a13 a14 a15 k := by
  rw [shft_apply, rmsn_apply]
  simp only [resid_eq]
  rfl

theorem logit_eq (a0 : FVec Ideal S16384x512 .bf16) (a1 : FVec Ideal S16384x512 .bf16) (a2 : FVec Ideal S16384x512 .bf16) (a3 : FVec Ideal S16384x512 .bf16) (a4 : FVec Ideal S16384x512 .bf16) (a5 : FVec Ideal S1x16384x1024 .f32) (a6 : FVec Ideal S256x512 .f32) (a7 : FVec Ideal S64x512 .f32) (a8 : FVec Ideal S1x512 .f32) (a9 : FVec Ideal S1x512 .f32) (a10 : FVec Ideal S1x1024x1024 .f32) (a11 : FVec Ideal S1x1024 .f32) (a12 : FVec Ideal S1x1024 .f32) (a13 : FVec Ideal S1x1024 .f32) (a14 : FVec Ideal S1x1024 .f32) (a15 : FVec Ideal S1x1024 .f32) (a16 : FVec Ideal S1x1024x4 .f32) (a17 : FVec Ideal S1x4 .f32) (a18 : FVec Ideal S1x1024x16 .f32) (a19 : FVec Ideal S1x16 .f32) (x : Fin 16384) (j : Fin 32) :
    logs (shft (rmsn (resd (rows a5 a6 a7) (rmsn (outp (halves (gate (norms (sums a0 a1)) a8 a9 a2 a3) a4) a10)) a11 a12)) a13 a14 a15) a16 a17 a18 a19 (ix2 j x) = logit (before (resid (row a5 a6 a7 x) (projected (mixed a0 a1 a2 a3 a4 a8 a9 x) a10) a11 a12) a13 a14 a15) a16 a17 a18 a19 j := by
  rw [logs_apply]
  simp only [before_eq]

theorem half_apply (HX : FVec Ideal S16384x1024 .f32) (x : Fin 16384) (k : Fin 1024) : (truncf .bf16 HX bitsLt_bf16_f32 : FVec Ideal S16384x1024 .bf16) (ix2 x k) = (HX (ix2 x k) : EReal) := by
  pointwise

variable (m : (ℓ : Loc nD τ sig) → Buf (Elt Ideal) ℓ) (ρ : Dev nD → PrngReg)

/-- The residual of token `x`. -/
def out0 (c : Dev nD) (x : Fin 16384) : Fin 1024 → EReal :=
  resid (row (m ((c.tc : Thread nD τ).loc main_arg5)) (m ((c.tc : Thread nD τ).loc main_arg6)) (m ((c.tc : Thread nD τ).loc main_arg7)) x) (projected (mixed (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg8)) (m ((c.tc : Thread nD τ).loc main_arg9)) x) (m ((c.tc : Thread nD τ).loc main_arg10))) (m ((c.tc : Thread nD τ).loc main_arg11)) (m ((c.tc : Thread nD τ).loc main_arg12))

/-- Token `x` before the experts. -/
def out1 (c : Dev nD) (x : Fin 16384) : Fin 1024 → EReal := before (out0 m c x) (m ((c.tc : Thread nD τ).loc main_arg13)) (m ((c.tc : Thread nD τ).loc main_arg14)) (m ((c.tc : Thread nD τ).loc main_arg15))

/-- Token `x`'s logits. -/
def out2 (c : Dev nD) (x : Fin 16384) : Fin 32 → EReal := logit (out1 m c x) (m ((c.tc : Thread nD τ).loc main_arg16)) (m ((c.tc : Thread nD τ).loc main_arg17)) (m ((c.tc : Thread nD τ).loc main_arg18)) (m ((c.tc : Thread nD τ).loc main_arg19))

/-- The reference leaves the residual, the rows before the experts, and the logits. -/
theorem run : θ_run defs (onTc (τ := τ) (main (F := Ideal))) ⟨m, fun _ => 0, ρ⟩ fun r => ∀ c : Dev nD,
    (∀ (x : Fin 16384) (k : Fin 1024), r.2.mem ((c.tc : Thread nD τ).loc main_v69) (ix2 x k) = out0 m c x k)
    ∧ (∀ (x : Fin 16384) (k : Fin 1024), r.2.mem ((c.tc : Thread nD τ).loc main_v104) (ix2 x k) = out1 m c x k)
    ∧ (∀ (j : Fin 32) (x : Fin 16384), r.2.mem ((c.tc : Thread nD τ).loc main_v105) (ix2 j x) = out2 m c x j) :=
  (θ_run defs _ _).mono (fun r h c => ⟨fun x k => (congrFun (h c).1 (ix2 x k)).trans (resid_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) x k),
    fun x k => (congrFun (h c).2.1 (ix2 x k)).trans ((half_apply _ x k).trans (before_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) x k)),
    fun j x => (congrFun (h c).2.2.1 (ix2 j x)).trans (logit_eq (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) x j)⟩) (Cert.Reference3Ideal.Value.run m ρ)

end Cert.Reference3Ideal.Plain

end
-- ==== Proof.Merge.Agree.lean ====
module

public import proofs.«01_k».proof.Defs
public import proofs.«01_k».proof.Proof.Gen.Pre_finite
public import proofs.«01_k».proof.Proof.Merge.Value
public import proofs.«01_k».proof.Proof.Merge.Finite
public import proofs.«01_k».proof.Proof.Merge.Reference
public import Idealize.ShloMosaic.Lib.Claim

@[expose] public section

set_option maxRecDepth 16384

noncomputable section

namespace Cert.Proof

open Idealize.ShloMosaic Idealize.SL.Sem Idealize.ShloMosaic.Pointwise

/-- The merge: each block of the kernel holds its tokens' new residual rows, their normalized rows and their logits. The kernel
    takes the logits as three products of the rows and weights split in two; the precondition makes the weights, and so the
    normalized rows, finite, and the two small parts are then zero. -/
theorem algebraic_merge : letI := Cert.Kernel3Ideal.Gen.facts; letI := Cert.Reference3Ideal.Gen.facts; letI := Cert.Pre_finite.Gen.facts
    Cert.algebraic_Kernel3Ideal_Reference3Ideal_pre_finite := by
  intro m g m' g' hp ha
  have e0 : ∀ (c : Dev Cert.Kernel3Ideal.nD) (x : Fin 16384), Cert.Reference3Ideal.Plain.out0 m' c x = Cert.Kernel3Ideal.Merge.out16 m c x := fun c x => by
    obtain ⟨h0, h1, h2, h3, h4, h5, h6, h7, h8, h9, h10, h11, h12, h13, h14, h15, h16, h17, h18, h19⟩ := ha c
    unfold Cert.Reference3Ideal.Plain.out0 Cert.Kernel3Ideal.Merge.out16 Cert.Kernel3Ideal.Merge.proj
    rw [h0, h1, h2, h3, h4, h5, h6, h7, h8, h9, h10, h11, h12]
  have e1 : ∀ (c : Dev Cert.Kernel3Ideal.nD) (x : Fin 16384), Cert.Reference3Ideal.Plain.out1 m' c x = Cert.Kernel3Ideal.Merge.out17 m c x := fun c x => by
    obtain ⟨h0, h1, h2, h3, h4, h5, h6, h7, h8, h9, h10, h11, h12, h13, h14, h15, h16, h17, h18, h19⟩ := ha c
    unfold Cert.Reference3Ideal.Plain.out1 Cert.Kernel3Ideal.Merge.out17
    rw [e0, h13, h14, h15]
  have e2 : ∀ (c : Dev Cert.Kernel3Ideal.nD) (x : Fin 16384) (j : Fin 32), Cert.Reference3Ideal.Plain.out2 m' c x j = Cert.Kernel3Ideal.Merge.out18 m c x j := fun c x j => by
    obtain ⟨h0, h1, h2, h3, h4, h5, h6, h7, h8, h9, h10, h11, h12, h13, h14, h15, h16, h17, h18, h19⟩ := ha c
    obtain ⟨f13, f14, f15, f16, f18⟩ := Cert.Kernel3Ideal.Merge.decode (Cert.Kernel3Ideal.Merge.arg0 m c) (Cert.Kernel3Ideal.Merge.arg1 m c) (Cert.Kernel3Ideal.Merge.arg2 m c) (Cert.Kernel3Ideal.Merge.arg3 m c) (Cert.Kernel3Ideal.Merge.arg4 m c) (Cert.Kernel3Ideal.Merge.arg5 m c) (Cert.Kernel3Ideal.Merge.arg6 m c) (Cert.Kernel3Ideal.Merge.arg7 m c) (Cert.Kernel3Ideal.Merge.arg8 m c) (Cert.Kernel3Ideal.Merge.arg9 m c) (Cert.Kernel3Ideal.Merge.arg10 m c) (Cert.Kernel3Ideal.Merge.arg11 m c) (Cert.Kernel3Ideal.Merge.arg12 m c) (Cert.Kernel3Ideal.Merge.arg13 m c) (Cert.Kernel3Ideal.Merge.arg14 m c) (Cert.Kernel3Ideal.Merge.arg15 m c) (Cert.Kernel3Ideal.Merge.arg16 m c) (Cert.Kernel3Ideal.Merge.arg17 m c) (Cert.Kernel3Ideal.Merge.arg18 m c) (Cert.Kernel3Ideal.Merge.arg19 m c) (hp c)
    refine Eq.trans ?_ (Cert.Kernel3Ideal.Merge.split3_eq (Cert.Kernel3Ideal.Merge.out17 m c x) (Cert.Kernel3Ideal.Merge.arg16 m c) (Cert.Kernel3Ideal.Merge.arg17 m c) (Cert.Kernel3Ideal.Merge.arg18 m c) (Cert.Kernel3Ideal.Merge.arg19 m c) (fun k => Cert.Kernel3Ideal.Merge.real_before _ _ _ _ f13 f14 f15 k) f16 f18 j).symm
    unfold Cert.Reference3Ideal.Plain.out2
    rw [e1, h16, h17, h18, h19]
  refine ⟨fun c y => Cert.Kernel3Ideal.Merge.out16 m c (y (0 : Fin 2)) (y (1 : Fin 2)),
    fun c y => Cert.Kernel3Ideal.Merge.out17 m c (y (0 : Fin 2)) (y (1 : Fin 2)),
    fun c y => Cert.Kernel3Ideal.Merge.out18 m c (y (1 : Fin 2)) (y (0 : Fin 2)), ?_, ?_⟩
  · exact (θ_run Cert.Kernel3Ideal.defs _ _).mono (fun r h c => ⟨((h.2 c).1 16).trans (Cert.Kernel3Ideal.Merge.final16 m c),
      ((h.2 c).1 17).trans (Cert.Kernel3Ideal.Merge.final17 m c), ((h.2 c).1 18).trans (Cert.Kernel3Ideal.Merge.final18 m c), h.1 c⟩)
      (θ_run_and (Cert.Kernel3Ideal.Gen.unchanged m g) (Cert.Kernel3Ideal.Gen.run_main m g))
  · refine (θ_run Cert.Reference3Ideal.defs _ _).mono (fun r h c => ⟨?_, ?_, ?_, (h.1 c).2.2.2⟩)
      (θ_run_and (Cert.Reference3Ideal.Value.run m' g') (Cert.Reference3Ideal.Plain.run m' g'))
    · funext y
      exact (congrArg (r.2.mem _) (eq_ix2 (n0 := 16384) (n1 := 1024) y)).trans (((h.2 c).1 _ _).trans (congrFun (e0 c _) _))
    · funext y
      exact (congrArg (r.2.mem _) (eq_ix2 (n0 := 16384) (n1 := 1024) y)).trans (((h.2 c).2.1 _ _).trans (congrFun (e1 c _) _))
    · funext y
      exact (congrArg (r.2.mem _) (eq_ix2 (n0 := 32) (n1 := 16384) y)).trans (((h.2 c).2.2 _ _).trans (e2 c _ _))

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Pre_routed
public import proofs.«01_k».proof.Proof.Gen.Pre_finite
public import proofs.«01_k».proof.Proof.Moe.Frame
public import proofs.«01_k».proof.Proof.Moe.Routing
public import proofs.«01_k».proof.Proof.Moe.Reference
public import proofs.«01_k».proof.Proof.Bits.Frame
public import proofs.«01_k».proof.Proof.Inproj.Agree
public import proofs.«01_k».proof.Proof.Merge.Agree
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The pipeline asks nothing of the table of counts: no block's place depends on it. -/
theorem ok {F : FTy → Type} [FloatOps F] (m : (ℓ : Loc Cert.KernelIdeal.nD Cert.KernelIdeal.τ Cert.KernelIdeal.sig) → Buf (Elt F) ℓ) :
    Cert.KernelIdeal.Moe.Ok m := trivial

theorem frame_kernelIdeal : Cert.quiescent_KernelIdeal := fun m ρ _ => Cert.KernelIdeal.Moe.frame m ρ (ok m)

theorem frame_kernel : Cert.quiescent_Kernel := fun m ρ _ => Cert.Kernel.Moe.frame m ρ trivial

/-- The reference is host code alone: its run leaves the arguments, and no semaphore counter moves. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

open Idealize.ShloMosaic.Pointwise in
/-- The kernel and the reference leave the same layer: under the precondition the tables route every token of nonzero weight
    to a row the kernel's tiles visit, so each grid point adds one expert's weighed layer; the last point of a block
    normalizes the sum. -/
theorem algebraic : letI := Cert.KernelIdeal.Gen.facts; letI := Cert.ReferenceIdeal.Gen.facts; letI := Cert.Pre_routed.Gen.facts
    Cert.algebraic_KernelIdeal_ReferenceIdeal_pre_routed := by
  intro m g m' g' hp ha
  have hR : ∀ c, Cert.KernelIdeal.Moe.Routed m (ok m) c := fun c =>
    Cert.KernelIdeal.Moe.routed m (ok m) c (Cert.Pre_routed.parts _ _ _ _ _ _ _ _ _ (hp c))
  refine ⟨fun c y => Cert.KernelIdeal.Moe.result m c (y (0 : Fin 2)) (y (1 : Fin 2)), ?_, ?_⟩
  · refine (θ_run Cert.KernelIdeal.defs _ _).mono (fun r h c => ⟨?_, h.1 c⟩)
      (θ_run_and (Cert.KernelIdeal.Moe.unchanged m g (ok m)) (Cert.KernelIdeal.Moe.run_main m g (ok m)))
    exact ((h.2 c).1 8).trans (Cert.KernelIdeal.Moe.final m (ok m) c (hR c))
  · refine (θ_run Cert.ReferenceIdeal.defs _ _).mono (fun r h c => ⟨(h c).1.trans ?_, (h c).2⟩) (Cert.ReferenceIdeal.Value.run m' g')
    obtain ⟨-, h1, -, h3, h4, h5, h6, h7, h8⟩ := ha c
    have key : ∀ (x : Fin 16384) (d : Fin 1024), Cert.ReferenceIdeal.Value.res_main_v30 m' c (ix2 x d) = Cert.KernelIdeal.Moe.result m c x d := fun x d => by
      refine (Cert.KernelIdeal.Moe.ref_apply m' c x d).trans (Eq.trans ?_ (Cert.KernelIdeal.Moe.result_eq m c x d).symm)
      rw [h1, h3, h4, h5, h6, h7, h8]
    funext y
    exact (congrArg (Cert.ReferenceIdeal.Value.res_main_v30 m' c) (eq_ix2 (n0 := 16384) (n1 := 1024) y)).trans (key _ _)

/-- The second call, the input projection. -/
theorem frame_kernel2 : Cert.quiescent_Kernel2 := fun m ρ _ => Cert.Kernel2.Gen.frame m ρ

theorem frame_kernel2Ideal : Cert.quiescent_Kernel2Ideal := fun m ρ _ => Cert.Kernel2Ideal.Gen.frame m ρ

theorem frame_reference2 : Cert.quiescent_Reference2Ideal := fun m ρ _ =>
  (θ_run Cert.Reference2Ideal.defs _ _).mono (fun r h => ⟨fun c => (h c).2.2.2, sem_eq_zero_of_no_sems (by decide) r.2⟩)
    (Cert.Reference2Ideal.Value.run m ρ)

/-- The third call, the merge. -/
theorem frame_kernel3 : Cert.quiescent_Kernel3 := fun m ρ _ => Cert.Kernel3.Gen.frame m ρ

theorem frame_kernel3Ideal : Cert.quiescent_Kernel3Ideal := fun m ρ _ => Cert.Kernel3Ideal.Gen.frame m ρ

theorem frame_reference3 : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Pre_routed.Gen.facts, Cert.Pre_finite.Gen.facts,
  frame_kernel, frame_kernelIdeal, fun m ρ h => frame_kernelIdeal m ρ trivial, frame_reference, fun m ρ h => frame_reference m ρ trivial,
  frame_kernel2, frame_kernel2Ideal, frame_reference2,
  frame_kernel3, frame_kernel3Ideal, fun m ρ h => frame_kernel3Ideal m ρ trivial, frame_reference3, fun m ρ h => frame_reference3 m ρ trivial,
  trivial, algebraic, trivial, algebraic_inproj, trivial, algebraic_merge⟩

end Cert.Proof

end
